-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_logits [hPre_finite_logits : Cert.Pre_finite_logits.Facts] (m : (ℓ : Loc Cert.MixIdeal.nD Cert.MixIdeal.τ Cert.MixIdeal.sig) → Buf (Elt Ideal) ℓ) : Prop :=
  ∀ c : Dev Cert.MixIdeal.nD,
    (Cert.Pre_finite_logits.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).1 = (fun _ => 1#1)
    ∧ (Cert.Pre_finite_logits.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.1 = (fun _ => 1#1)
    ∧ (Cert.Pre_finite_logits.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_logits [hPre_finite_logits : Cert.Pre_finite_logits.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_logits.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).1 = (fun _ => 1#1)
    ∧ (Cert.Pre_finite_logits.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.1 = (fun _ => 1#1)
    ∧ (Cert.Pre_finite_logits.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixIdeal_pre_finite_logits [hMixIdeal : Cert.MixIdeal.Facts] [hPre_finite_logits : Cert.Pre_finite_logits.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_logits m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_MixRefIdeal_pre_finite_logits [hMixRefIdeal : Cert.MixRefIdeal.Facts] [hPre_finite_logits : Cert.Pre_finite_logits.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_logits m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def preserves_Mix_MixIdeal : Prop :=
  IdealRules.named_const.Statement Cert.MixIdeal.κ "log2e" .f32 0x3FB8AA3B#32 (((Real.log 2)⁻¹ : ℝ) : EReal)
  ∧ IdealRules.named_const.Statement Cert.MixIdeal.κ "scale" .f32 0x3E38AA3B#32 (((Real.log 256)⁻¹ : ℝ) : EReal)

def algebraic_MixIdeal_MixRefIdeal_pre_finite_logits [hMixIdeal : Cert.MixIdeal.Facts] [hMixRefIdeal : Cert.MixRefIdeal.Facts] [hPre_finite_logits : Cert.Pre_finite_logits.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_logits m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v17_0)) (v1 : (c : Dev Cert.MixIdeal.nD) → Buf (Elt Ideal) ((c.tc : Thread Cert.MixIdeal.nD Cert.MixIdeal.τ).loc Cert.MixIdeal.main_v17_1)) (v2 : (c : Dev Cert.MixIdeal.nD) → Buf (Elt Ideal) ((c.tc : Thread Cert.MixIdeal.nD Cert.MixIdeal.τ).loc Cert.MixIdeal.main_v17_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v17_0) = v0 c
          ∧ r.2.mem ((c.tc : Thread Cert.MixIdeal.nD Cert.MixIdeal.τ).loc Cert.MixIdeal.main_v17_1) = v1 c
          ∧ r.2.mem ((c.tc : Thread Cert.MixIdeal.nD Cert.MixIdeal.τ).loc Cert.MixIdeal.main_v17_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v203) = v0 c
          ∧ r.2.mem ((c.tc : Thread Cert.MixRefIdeal.nD Cert.MixRefIdeal.τ).loc Cert.MixRefIdeal.main_v205) = v1 c
          ∧ r.2.mem ((c.tc : Thread Cert.MixRefIdeal.nD Cert.MixRefIdeal.τ).loc Cert.MixRefIdeal.main_v207) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v5_0)) (v1 : (c : Dev Cert.InIdeal.nD) → Buf (Elt Ideal) ((c.tc : Thread Cert.InIdeal.nD Cert.InIdeal.τ).loc Cert.InIdeal.main_v5_1)) (v2 : (c : Dev Cert.InIdeal.nD) → Buf (Elt Ideal) ((c.tc : Thread Cert.InIdeal.nD Cert.InIdeal.τ).loc Cert.InIdeal.main_v5_2)) (v3 : (c : Dev Cert.InIdeal.nD) → Buf (Elt Ideal) ((c.tc : Thread Cert.InIdeal.nD Cert.InIdeal.τ).loc Cert.InIdeal.main_v5_3)) (v4 : (c : Dev Cert.InIdeal.nD) → Buf (Elt Ideal) ((c.tc : Thread Cert.InIdeal.nD Cert.InIdeal.τ).loc Cert.InIdeal.main_v5_4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v5_0) = v0 c
          ∧ r.2.mem ((c.tc : Thread Cert.InIdeal.nD Cert.InIdeal.τ).loc Cert.InIdeal.main_v5_1) = v1 c
          ∧ r.2.mem ((c.tc : Thread Cert.InIdeal.nD Cert.InIdeal.τ).loc Cert.InIdeal.main_v5_2) = v2 c
          ∧ r.2.mem ((c.tc : Thread Cert.InIdeal.nD Cert.InIdeal.τ).loc Cert.InIdeal.main_v5_3) = v3 c
          ∧ r.2.mem ((c.tc : Thread Cert.InIdeal.nD Cert.InIdeal.τ).loc Cert.InIdeal.main_v5_4) = v4 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v21) = v0 c
          ∧ r.2.mem ((c.tc : Thread Cert.InRefIdeal.nD Cert.InRefIdeal.τ).loc Cert.InRefIdeal.main_v22) = v1 c
          ∧ r.2.mem ((c.tc : Thread Cert.InRefIdeal.nD Cert.InRefIdeal.τ).loc Cert.InRefIdeal.main_v23) = v2 c
          ∧ r.2.mem ((c.tc : Thread Cert.InRefIdeal.nD Cert.InRefIdeal.τ).loc Cert.InRefIdeal.main_v24) = v3 c
          ∧ r.2.mem ((c.tc : Thread Cert.InRefIdeal.nD Cert.InRefIdeal.τ).loc Cert.InRefIdeal.main_v25) = v4 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v20_0)) (v1 : (c : Dev Cert.FfnIdeal.nD) → Buf (Elt Ideal) ((c.tc : Thread Cert.FfnIdeal.nD Cert.FfnIdeal.τ).loc Cert.FfnIdeal.main_v20_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v20_0) = v0 c
          ∧ r.2.mem ((c.tc : Thread Cert.FfnIdeal.nD Cert.FfnIdeal.τ).loc Cert.FfnIdeal.main_v20_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v62) = v0 c
          ∧ r.2.mem ((c.tc : Thread Cert.FfnRefIdeal.nD Cert.FfnRefIdeal.τ).loc Cert.FfnRefIdeal.main_v63) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def Claim : Prop :=
  ∃ (hMix : Cert.Mix.Facts) (hMixIdeal : Cert.MixIdeal.Facts) (hMixRefIdeal : Cert.MixRefIdeal.Facts) (hIn : Cert.In.Facts) (hInIdeal : Cert.InIdeal.Facts) (hInRefIdeal : Cert.InRefIdeal.Facts) (hFfn : Cert.Ffn.Facts) (hFfnIdeal : Cert.FfnIdeal.Facts) (hFfnRefIdeal : Cert.FfnRefIdeal.Facts) (hPre_finite_logits : Cert.Pre_finite_logits.Facts),
    quiescent_Mix (hMix := hMix)
    ∧ quiescent_MixIdeal (hMixIdeal := hMixIdeal)
    ∧ quiescent_MixIdeal_pre_finite_logits (hMixIdeal := hMixIdeal) (hPre_finite_logits := hPre_finite_logits)
    ∧ quiescent_MixRefIdeal (hMixRefIdeal := hMixRefIdeal)
    ∧ quiescent_MixRefIdeal_pre_finite_logits (hMixRefIdeal := hMixRefIdeal) (hPre_finite_logits := hPre_finite_logits)
    ∧ quiescent_In (hIn := hIn)
    ∧ quiescent_InIdeal (hInIdeal := hInIdeal)
    ∧ quiescent_InRefIdeal (hInRefIdeal := hInRefIdeal)
    ∧ quiescent_Ffn (hFfn := hFfn)
    ∧ quiescent_FfnIdeal (hFfnIdeal := hFfnIdeal)
    ∧ quiescent_FfnRefIdeal (hFfnRefIdeal := hFfnRefIdeal)
    ∧ preserves_Mix_MixIdeal
    ∧ algebraic_MixIdeal_MixRefIdeal_pre_finite_logits (hMixIdeal := hMixIdeal) (hMixRefIdeal := hMixRefIdeal) (hPre_finite_logits := hPre_finite_logits)
    ∧ preserves_In_InIdeal
    ∧ algebraic_InIdeal_InRefIdeal (hInIdeal := hInIdeal) (hInRefIdeal := hInRefIdeal)
    ∧ preserves_Ffn_FfnIdeal
    ∧ algebraic_FfnIdeal_FfnRefIdeal (hFfnIdeal := hFfnIdeal) (hFfnRefIdeal := hFfnRefIdeal)
-- ==== Pre_finite_logits.lean ====
abbrev S8x4096x1024 : Shape := ⟨3, ![8, 4096, 1024]⟩
abbrev S8x4096x512 : Shape := ⟨3, ![8, 4096, 512]⟩
abbrev S8x4096x128 : Shape := ⟨3, ![8, 4096, 128]⟩
abbrev S8x4096x2048 : Shape := ⟨3, ![8, 4096, 2048]⟩
abbrev S1x4x128x128 : Shape := ⟨4, ![1, 4, 128, 128]⟩
abbrev S1x512 : Shape := ⟨2, ![1, 512]⟩
abbrev S1x8 : Shape := ⟨2, ![1, 8]⟩
abbrev S1x512x1024 : Shape := ⟨3, ![1, 512, 1024]⟩
abbrev S1x1024x1024 : Shape := ⟨3, ![1, 1024, 1024]⟩
abbrev S_ : Shape := ⟨0, ![]⟩

class Facts : Prop where
  bcast_S_S8x4096x512 : S_.BroadcastsInDim S8x4096x512 (![] : Fin 0 → Fin S8x4096x512.rank)
  bcast_S_S8x4096x128 : S_.BroadcastsInDim S8x4096x128 (![] : Fin 0 → Fin S8x4096x128.rank)
  bcast_S_S1x8 : S_.BroadcastsInDim S1x8 (![] : Fin 0 → Fin S1x8.rank)

variable [Facts]

def fn {F : FTy → Type} [FloatOps F] (main_arg0 : FVec F S8x4096x1024 .f32) (main_arg1 : FVec F S8x4096x512 .f32) (main_arg2 : FVec F S8x4096x512 .f32) (main_arg3 : FVec F S8x4096x128 .f32) (main_arg4 : FVec F S8x4096x128 .f32) (main_arg5 : FVec F S8x4096x2048 .f32) (main_arg6 : FVec F S1x4x128x128 .f32) (main_arg7 : FVec F S1x512 .f32) (main_arg8 : FVec F S1x8 .f32) (main_arg9 : FVec F S1x512x1024 .f32) (main_arg10 : FVec F S1x512x1024 .f32) (main_arg11 : FVec F S1x1024x1024 .f32) : IVec S8x4096x512 1 × IVec S8x4096x128 1 × IVec S1x8 1 :=
  let main_cst : FVec F S_ .f32 := constant S_ .f32 0x7F800000#32
  let main_v0 : FVec F S8x4096x512 .f32 := broadcastInDim S8x4096x512 ![] bcast_S_S8x4096x512 main_cst
  let main_v1 : IVec S8x4096x512 1 := cmpf .olt main_arg2 main_v0
  let main_cst_0 : FVec F S_ .f32 := constant S_ .f32 0xFF800000#32
  let main_v2 : FVec F S8x4096x512 .f32 := broadcastInDim S8x4096x512 ![] bcast_S_S8x4096x512 main_cst_0
  let main_v3 : IVec S8x4096x512 1 := cmpf .ogt main_arg2 main_v2
  let main_v4 : IVec S8x4096x512 1 := andi main_v1 main_v3
  let main_cst_1 : FVec F S_ .f32 := constant S_ .f32 0x7F800000#32
  let main_v5 : FVec F S8x4096x128 .f32 := broadcastInDim S8x4096x128 ![] bcast_S_S8x4096x128 main_cst_1
  let main_v6 : IVec S8x4096x128 1 := cmpf .olt main_arg3 main_v5
  let main_cst_2 : FVec F S_ .f32 := constant S_ .f32 0xFF800000#32
  let main_v7 : FVec F S8x4096x128 .f32 := broadcastInDim S8x4096x128 ![] bcast_S_S8x4096x128 main_cst_2
  let main_v8 : IVec S8x4096x128 1 := cmpf .ogt main_arg3 main_v7
  let main_v9 : IVec S8x4096x128 1 := andi main_v6 main_v8
  let main_cst_3 : FVec F S_ .f32 := constant S_ .f32 0x7F800000#32
  let main_v10 : FVec F S1x8 .f32 := broadcastInDim S1x8 ![] bcast_S_S1x8 main_cst_3
  let main_v11 : IVec S1x8 1 := cmpf .olt main_arg8 main_v10
  let main_cst_4 : FVec F S_ .f32 := constant S_ .f32 0xFF800000#32
  let main_v12 : FVec F S1x8 .f32 := broadcastInDim S1x8 ![] bcast_S_S1x8 main_cst_4
  let main_v13 : IVec S1x8 1 := cmpf .ogt main_arg8 main_v12
  let main_v14 : IVec S1x8 1 := andi main_v11 main_v13
  (main_v4, main_v9, main_v14)
-- ==== Mix.lean ====
abbrev S8x4096x1024 : Shape := ⟨3, ![8, 4096, 1024]⟩
abbrev S8x4096x512 : Shape := ⟨3, ![8, 4096, 512]⟩
abbrev S8x4096x128 : Shape := ⟨3, ![8, 4096, 128]⟩
abbrev S8x4096x2048 : Shape := ⟨3, ![8, 4096, 2048]⟩
abbrev S1x4x128x128 : Shape := ⟨4, ![1, 4, 128, 128]⟩
abbrev S1x512 : Shape := ⟨2, ![1, 512]⟩
abbrev S1x8 : Shape := ⟨2, ![1, 8]⟩
abbrev S1x512x1024 : Shape := ⟨3, ![1, 512, 1024]⟩
abbrev S1x1024x1024 : Shape := ⟨3, ![1, 1024, 1024]⟩
abbrev S32768x1024 : Shape := ⟨2, ![32768, 1024]⟩
abbrev S32768x512 : Shape := ⟨2, ![32768, 512]⟩
abbrev S32768x128 : Shape := ⟨2, ![32768, 128]⟩
abbrev S32768x2048 : Shape := ⟨2, ![32768, 2048]⟩
abbrev S8 : Shape := ⟨1, ![8]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S8x128x128 : Shape := ⟨3, ![8, 128, 128]⟩
abbrev S512x512 : Shape := ⟨2, ![512, 512]⟩
abbrev S512x128 : Shape := ⟨2, ![512, 128]⟩
abbrev S512x2048 : Shape := ⟨2, ![512, 2048]⟩
abbrev S1x128x128 : Shape := ⟨3, ![1, 128, 128]⟩
abbrev S528x512 : Shape := ⟨2, ![528, 512]⟩
abbrev S2x640x128 : Shape := ⟨3, ![2, 640, 128]⟩
abbrev S2x512x256 : Shape := ⟨3, ![2, 512, 256]⟩
abbrev S16x512 : Shape := ⟨2, ![16, 512]⟩
abbrev S2x128x128 : Shape := ⟨3, ![2, 128, 128]⟩
abbrev S512x256 : Shape := ⟨2, ![512, 256]⟩
abbrev S1x512x256 : Shape := ⟨3, ![1, 512, 256]⟩
abbrev S1x512x128 : Shape := ⟨3, ![1, 512, 128]⟩
abbrev S512x1 : Shape := ⟨2, ![512, 1]⟩
abbrev S1 : Shape := ⟨1, ![1]⟩
abbrev S128x512 : Shape := ⟨2, ![128, 512]⟩
abbrev S1x256x128 : Shape := ⟨3, ![1, 256, 128]⟩
abbrev S256x128 : Shape := ⟨2, ![256, 128]⟩
abbrev S128x128 : Shape := ⟨2, ![128, 128]⟩
abbrev S1024x256 : Shape := ⟨2, ![1024, 256]⟩
abbrev S528x128 : Shape := ⟨2, ![528, 128]⟩
abbrev S1x128 : Shape := ⟨2, ![1, 128]⟩
abbrev S128x256 : Shape := ⟨2, ![128, 256]⟩
abbrev S256x512 : Shape := ⟨2, ![256, 512]⟩
abbrev S256x1024 : Shape := ⟨2, ![256, 1024]⟩
abbrev S256x2048 : Shape := ⟨2, ![256, 2048]⟩

abbrev nBuf : Space → Nat
  | .hbm => 32
  | .vmem => 30
  | .smem => 1
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x128, .f32⟩
  | .hbm, ⟨4, _⟩ => ⟨S8x4096x128, .f32⟩
  | .hbm, ⟨5, _⟩ => ⟨S8x4096x2048, .f32⟩
  | .hbm, ⟨6, _⟩ => ⟨S1x4x128x128, .f32⟩
  | .hbm, ⟨7, _⟩ => ⟨S1x512, .f32⟩
  | .hbm, ⟨8, _⟩ => ⟨S1x8, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S32768x1024, .f32⟩
  | .hbm, ⟨13, _⟩ => ⟨S32768x512, .f32⟩
  | .hbm, ⟨14, _⟩ => ⟨S32768x512, .f32⟩
  | .hbm, ⟨15, _⟩ => ⟨S32768x128, .f32⟩
  | .hbm, ⟨16, _⟩ => ⟨S32768x128, .f32⟩
  | .hbm, ⟨17, _⟩ => ⟨S32768x2048, .f32⟩
  | .hbm, ⟨18, _⟩ => ⟨S8, .f32⟩
  | .hbm, ⟨19, _⟩ => ⟨S4x128x128, .f32⟩
  | .hbm, ⟨20, _⟩ => ⟨S4x128x128, .bf16⟩
  | .hbm, ⟨21, _⟩ => ⟨S512, .f32⟩
  | .hbm, ⟨22, _⟩ => ⟨S1x512, .f32⟩
  | .hbm, ⟨23, _⟩ => ⟨S512x1024, .f32⟩
  | .hbm, ⟨24, _⟩ => ⟨S512x1024, .bf16⟩
  | .hbm, ⟨25, _⟩ => ⟨S512x1024, .f32⟩
  | .hbm, ⟨26, _⟩ => ⟨S512x1024, .bf16⟩
  | .hbm, ⟨27, _⟩ => ⟨S1024x1024, .f32⟩
  | .hbm, ⟨28, _⟩ => ⟨S1024x1024, .bf16⟩
  | .hbm, ⟨29, _⟩ => ⟨S32768x1024, .f32⟩
  | .hbm, ⟨30, _⟩ => ⟨S8x128x128, .f32⟩
  | .hbm, ⟨31, _⟩ => ⟨S8x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x2048, .f32⟩
  | .local _ .vmem, ⟨9, _⟩ => ⟨S512x2048, .f32⟩
  | .local _ .vmem, ⟨10, _⟩ => ⟨S4x128x128, .bf16⟩
  | .local _ .vmem, ⟨11, _⟩ => ⟨S1x512, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S528x512, .f32⟩
  | .local _ .vmem, ⟨24, _⟩ => ⟨S2x640x128, .bf16⟩
  | .local _ .vmem, ⟨25, _⟩ => ⟨S2x640x128, .bf16⟩
  | .local _ .vmem, ⟨26, _⟩ => ⟨S512x512, .f32⟩
  | .local _ .vmem, ⟨27, _⟩ => ⟨S2x512x256, .f32⟩
  | .local _ .vmem, ⟨28, _⟩ => ⟨S512x1024, .f32⟩
  | .local _ .vmem, ⟨29, _⟩ => ⟨S512x1024, .bf16⟩
  | .local _ .smem, ⟨0, _⟩ => ⟨S8, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![65], ![false]⟩

def k0_off1 (i : grid0.Coords) (c0_i32_33 : BitVec 32) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let v99 : BitVec 32 := Scalar.muli v9 c4_i32
  let v100 : BitVec 32 := Scalar.addi v99 c0_i32_33
  let c1_i32_34 : BitVec 32 := 1#32
  let v101 : BitVec 32 := Scalar.minsi v100 c1_i32_34
  let v106 : Index := Scalar.indexCast v101
  let c0_40 : Index := 0#32
  let c0_41 : Index := 0#32
  ![v106.toNat, 0, 0]
def k0_cond3 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32 : BitVec 32 := 7#32
  let v795 : BitVec 1 := Scalar.cmpi .eq v9 c7_i32
  let v796 : BitVec 32 := Scalar.extui v795
  let c0_i32_363 : BitVec 32 := 0#32
  let v797 : BitVec 1 := Scalar.cmpi .ne v796 c0_i32_363
  v797

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_14 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixIdeal.lean ====
variable {F : FTy → Type} [FloatOps F] [Named F]
def κ : String → Option EReal := fun
  | "log2e" => some (((Real.log 2)⁻¹ : ℝ) : EReal)
  | "scale" => some (((Real.log 256)⁻¹ : ℝ) : EReal)
  | _ => none
-- ==== MixRefIdeal.lean ====
abbrev S8x4096x1024 : Shape := ⟨3, ![8, 4096, 1024]⟩
abbrev S8x4096x512 : Shape := ⟨3, ![8, 4096, 512]⟩
abbrev S8x4096x128 : Shape := ⟨3, ![8, 4096, 128]⟩
abbrev S8x4096x2048 : Shape := ⟨3, ![8, 4096, 2048]⟩
abbrev S1x4x128x128 : Shape := ⟨4, ![1, 4, 128, 128]⟩
abbrev S1x512 : Shape := ⟨2, ![1, 512]⟩
abbrev S1x8 : Shape := ⟨2, ![1, 8]⟩
abbrev S1x512x1024 : Shape := ⟨3, ![1, 512, 1024]⟩
abbrev S1x1024x1024 : Shape := ⟨3, ![1, 1024, 1024]⟩
abbrev S4x128x128 : Shape := ⟨3, ![4, 128, 128]⟩
abbrev S512 : Shape := ⟨1, ![512]⟩
abbrev S_ : Shape := ⟨0, ![]⟩
abbrev S8x15x512 : Shape := ⟨3, ![8, 15, 512]⟩
abbrev S8x4111x512 : Shape := ⟨3, ![8, 4111, 512]⟩
abbrev S4096 : Shape := ⟨1, ![4096]⟩
abbrev S1x4096x1 : Shape := ⟨3, ![1, 4096, 1]⟩
abbrev S8x4096x1x128 : Shape := ⟨4, ![8, 4096, 1, 128]⟩
abbrev S8x4096x4x128 : Shape := ⟨4, ![8, 4096, 4, 128]⟩
abbrev S4x128x8x4096 : Shape := ⟨4, ![4, 128, 8, 4096]⟩
abbrev S1x1x512 : Shape := ⟨3, ![1, 1, 512]⟩
abbrev S8x4096x8x64 : Shape := ⟨4, ![8, 4096, 8, 64]⟩
abbrev S8x4096x2x64 : Shape := ⟨4, ![8, 4096, 2, 64]⟩
abbrev S8 : Shape := ⟨1, ![8]⟩
abbrev S8x32x128x2x4x64 : Shape := ⟨6, ![8, 32, 128, 2, 4, 64]⟩
abbrev S8x32x128x2x64 : Shape := ⟨5, ![8, 32, 128, 2, 64]⟩
abbrev S8x1x128x2x64 : Shape := ⟨5, ![8, 1, 128, 2, 64]⟩
abbrev S8x31x128x2x64 : Shape := ⟨5, ![8, 31, 128, 2, 64]⟩
abbrev S8x32x256x2x64 : Shape := ⟨5, ![8, 32, 256, 2, 64]⟩
abbrev S8x32x2x256x128x4 : Shape := ⟨6, ![8, 32, 2, 256, 128, 4]⟩
abbrev S8x32x2x4x128x256 : Shape := ⟨6, ![8, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4x1x1 : Shape := ⟨4, ![2, 4, 1, 1]⟩
abbrev S8x32x2x4x128x1 : Shape := ⟨6, ![8, 32, 2, 4, 128, 1]⟩
abbrev S8x32x2x4x128x257 : Shape := ⟨6, ![8, 32, 2, 4, 128, 257]⟩
abbrev S8x32x2x4x128 : Shape := ⟨5, ![8, 32, 2, 4, 128]⟩
abbrev S8x32x2x64x4x128 : Shape := ⟨6, ![8, 32, 2, 64, 4, 128]⟩
abbrev S8x128x2x64 : Shape := ⟨4, ![8, 128, 2, 64]⟩
abbrev S512x1024 : Shape := ⟨2, ![512, 1024]⟩
abbrev S1024x1024 : Shape := ⟨2, ![1024, 1024]⟩
abbrev S32768x1024 : Shape := ⟨2, ![32768, 1024]⟩
abbrev S8x2x64x128 : Shape := ⟨4, ![8, 2, 64, 128]⟩
abbrev S8x128x128 : Shape := ⟨3, ![8, 128, 128]⟩

abbrev nBuf : Space → Nat
  | .hbm => 247
  | .vmem => 0
  | .smem => 0
  | _ => 0

abbrev hbmTy0_0 (i : Nat) : BufTy := match i % 128 with
  | 0 => ⟨S8x4096x1024, .f32⟩
  | 1 => ⟨S8x4096x512, .f32⟩
  | 2 => ⟨S8x4096x512, .f32⟩
  | 3 => ⟨S8x4096x128, .f32⟩
  | 4 => ⟨S8x4096x128, .f32⟩
  | 5 => ⟨S8x4096x2048, .f32⟩
  | 6 => ⟨S1x4x128x128, .f32⟩
  | 7 => ⟨S1x512, .f32⟩
  | 8 => ⟨S1x8, .f32⟩
  | 9 => ⟨S1x512x1024, .f32⟩
  | 10 => ⟨S1x512x1024, .f32⟩
  | 11 => ⟨S1x1024x1024, .f32⟩
  | 12 => ⟨S4x128x128, .f32⟩
  | 13 => ⟨S512, .f32⟩
  | 14 => ⟨S_, .f32⟩
  | 15 => ⟨S8x15x512, .f32⟩
  | 16 => ⟨S8x4111x512, .f32⟩
  | 17 => ⟨S4096, .i32⟩
  | 18 => ⟨S8x4096x128, .f32⟩
  | 19 => ⟨S8x4096x128, .f32⟩
  | 20 => ⟨S8x4096x128, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .f32⟩
  | 28 => ⟨S1x4096x1, .f32⟩
  | 29 => ⟨S8x4096x128, .f32⟩
  | 30 => ⟨S8x4096x128, .f32⟩
  | 31 => ⟨S8x4096x128, .f32⟩
  | 32 => ⟨S8x4096x128, .f32⟩
  | 33 => ⟨S8x4096x128, .f32⟩
  | 34 => ⟨S8x4096x128, .f32⟩
  | 35 => ⟨S8x4096x128, .f32⟩
  | 36 => ⟨S8x4096x128, .f32⟩
  | 37 => ⟨S8x4096x128, .f32⟩
  | 38 => ⟨S8x4096x128, .f32⟩
  | 39 => ⟨S8x4096x128, .f32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .f32⟩
  | 47 => ⟨S1x4096x1, .f32⟩
  | 48 => ⟨S8x4096x128, .f32⟩
  | 49 => ⟨S8x4096x128, .f32⟩
  | 50 => ⟨S8x4096x128, .f32⟩
  | 51 => ⟨S8x4096x128, .f32⟩
  | 52 => ⟨S8x4096x128, .f32⟩
  | 53 => ⟨S8x4096x128, .f32⟩
  | 54 => ⟨S8x4096x128, .f32⟩
  | 55 => ⟨S8x4096x128, .f32⟩
  | 56 => ⟨S8x4096x128, .f32⟩
  | 57 => ⟨S8x4096x128, .f32⟩
  | 58 => ⟨S8x4096x128, .f32⟩
  | 59 => ⟨S8x4096x128, .f32⟩
  | 60 => ⟨S8x4096x128, .f32⟩
  | 61 => ⟨S8x4096x128, .f32⟩
  | 62 => ⟨S8x4096x128, .f32⟩
  | 63 => ⟨S8x4096x128, .f32⟩
  | 64 => ⟨S8x4096x128, .f32⟩
  | 65 => ⟨S8x4096x128, .f32⟩
  | 66 => ⟨S8x4096x128, .f32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S4096, .f32⟩
  | 74 => ⟨S1x4096x1, .f32⟩
  | 75 => ⟨S8x4096x128, .f32⟩
  | 76 => ⟨S8x4096x128, .f32⟩
  | 77 => ⟨S8x4096x128, .f32⟩
  | 78 => ⟨S8x4096x128, .f32⟩
  | 79 => ⟨S8x4096x128, .f32⟩
  | 80 => ⟨S8x4096x128, .f32⟩
  | 81 => ⟨S8x4096x128, .f32⟩
  | 82 => ⟨S8x4096x128, .f32⟩
  | 83 => ⟨S8x4096x128, .f32⟩
  | 84 => ⟨S8x4096x128, .f32⟩
  | 85 => ⟨S8x4096x128, .f32⟩
  | 86 => ⟨S8x4096x128, .f32⟩
  | 87 => ⟨S8x4096x128, .f32⟩
  | 88 => ⟨S8x4096x128, .f32⟩
  | 89 => ⟨S8x4096x128, .f32⟩
  | 90 => ⟨S8x4096x128, .f32⟩
  | 91 => ⟨S8x4096x128, .f32⟩
  | 92 => ⟨S8x4096x128, .f32⟩
  | 93 => ⟨S8x4096x128, .f32⟩
  | 94 => ⟨S8x4096x128, .f32⟩
  | 95 => ⟨S8x4096x128, .f32⟩
  | 96 => ⟨S8x4096x128, .f32⟩
  | 97 => ⟨S8x4096x128, .f32⟩
  | 98 => ⟨S8x4096x128, .f32⟩
  | 99 => ⟨S8x4096x128, .f32⟩
  | 100 => ⟨S8x4096x128, .f32⟩
  | 101 => ⟨S8x4096x128, .f32⟩
  | 102 => ⟨S8x4096x128, .f32⟩
  | 103 => ⟨S8x4096x128, .f32⟩
  | 104 => ⟨S8x4096x128, .f32⟩
  | 105 => ⟨S8x4096x128, .f32⟩
  | 106 => ⟨S8x4096x128, .f32⟩
  | 107 => ⟨S8x4096x128, .f32⟩
  | 108 => ⟨S8x4096x128, .f32⟩
  | 109 => ⟨S8x4096x128, .f32⟩
  | 110 => ⟨S_, .i32⟩
  | 111 => ⟨S4096, .i32⟩
  | 112 => ⟨S4096, .i32⟩
  | 113 => ⟨S_, .i32⟩
  | 114 => ⟨S4096, .i32⟩
  | 115 => ⟨S4096, .i32⟩
  | 116 => ⟨S4096, .f32⟩
  | 117 => ⟨S1x4096x1, .f32⟩
  | 118 => ⟨S8x4096x128, .f32⟩
  | 119 => ⟨S8x4096x128, .f32⟩
  | 120 => ⟨S8x4096x128, .f32⟩
  | 121 => ⟨S8x4096x128, .f32⟩
  | 122 => ⟨S8x4096x1x128, .f32⟩
  | 123 => ⟨S8x4096x1x128, .f32⟩
  | 124 => ⟨S8x4096x1x128, .f32⟩
  | 125 => ⟨S8x4096x1x128, .f32⟩
  | 126 => ⟨S8x4096x4x128, .f32⟩
  | 127 => ⟨S4x128x8x4096, .f32⟩
  | _ => ⟨S8x4096x1024, .f32⟩

abbrev hbmTy0_1 (i : Nat) : BufTy := match i % 128 with
  | 0 => ⟨S8x4096x4x128, .f32⟩
  | 1 => ⟨S8x4096x512, .f32⟩
  | 2 => ⟨S1x1x512, .f32⟩
  | 3 => ⟨S8x4096x512, .f32⟩
  | 4 => ⟨S8x4096x512, .f32⟩
  | 5 => ⟨S8x4096x8x64, .f32⟩
  | 6 => ⟨S8x4096x2x64, .f32⟩
  | 7 => ⟨S8x4096x2x64, .f32⟩
  | 8 => ⟨S8, .f32⟩
  | 9 => ⟨S8x32x128x2x4x64, .f32⟩
  | 10 => ⟨S8x32x128x2x64, .f32⟩
  | 11 => ⟨S8x32x128x2x64, .f32⟩
  | 12 => ⟨S8x1x128x2x64, .f32⟩
  | 13 => ⟨S_, .f32⟩
  | 14 => ⟨S8x1x128x2x64, .f32⟩
  | 15 => ⟨S8x31x128x2x64, .f32⟩
  | 16 => ⟨S8x32x128x2x64, .f32⟩
  | 17 => ⟨S8x32x256x2x64, .f32⟩
  | 18 => ⟨S8x1x128x2x64, .f32⟩
  | 19 => ⟨S_, .f32⟩
  | 20 => ⟨S8x1x128x2x64, .f32⟩
  | 21 => ⟨S8x31x128x2x64, .f32⟩
  | 22 => ⟨S8x32x128x2x64, .f32⟩
  | 23 => ⟨S8x32x256x2x64, .f32⟩
  | 24 => ⟨S8x32x2x256x128x4, .f32⟩
  | 25 => ⟨S8x32x2x4x128x256, .f32⟩
  | 26 => ⟨S_, .f32⟩
  | 27 => ⟨S8x32x2x4x128x256, .f32⟩
  | 28 => ⟨S8x32x2x4x128x256, .f32⟩
  | 29 => ⟨S128, .i32⟩
  | 30 => ⟨S128x1, .i32⟩
  | 31 => ⟨S256, .i32⟩
  | 32 => ⟨S1x256, .i32⟩
  | 33 => ⟨S_, .i32⟩
  | 34 => ⟨S128x1, .i32⟩
  | 35 => ⟨S128x1, .i32⟩
  | 36 => ⟨S128x256, .i32⟩
  | 37 => ⟨S128x256, .i32⟩
  | 38 => ⟨S128x256, .i32⟩
  | 39 => ⟨S_, .i32⟩
  | 40 => ⟨S128x256, .i32⟩
  | 41 => ⟨S128x256, .i1⟩
  | 42 => ⟨S_, .i32⟩
  | 43 => ⟨S128x256, .i32⟩
  | 44 => ⟨S128x256, .i1⟩
  | 45 => ⟨S128x256, .i1⟩
  | 46 => ⟨S32, .i32⟩
  | 47 => ⟨S32x1x1, .i32⟩
  | 48 => ⟨S_, .i32⟩
  | 49 => ⟨S32x1x1, .i32⟩
  | 50 => ⟨S32x1x1, .i32⟩
  | 51 => ⟨S_, .i32⟩
  | 52 => ⟨S32x1x1, .i32⟩
  | 53 => ⟨S32x1x1, .i32⟩
  | 54 => ⟨S1x1x256, .i32⟩
  | 55 => ⟨S32x1x256, .i32⟩
  | 56 => ⟨S32x1x256, .i32⟩
  | 57 => ⟨S32x1x256, .i32⟩
  | 58 => ⟨S_, .i32⟩
  | 59 => ⟨S32x1x256, .i32⟩
  | 60 => ⟨S32x1x256, .i1⟩
  | 61 => ⟨S1x128x256, .i1⟩
  | 62 => ⟨S32x128x256, .i1⟩
  | 63 => ⟨S32x128x256, .i1⟩
  | 64 => ⟨S32x128x256, .i1⟩
  | 65 => ⟨S1x32x1x1x128x256, .i1⟩
  | 66 => ⟨S_, .f32⟩
  | 67 => ⟨S_, .f32⟩
  | 68 => ⟨S8x32x2x4x128x256, .i1⟩
  | 69 => ⟨S8x32x2x4x128x256, .f32⟩
  | 70 => ⟨S8x32x2x4x128x256, .f32⟩
  | 71 => ⟨S2x4x1x1, .f32⟩
  | 72 => ⟨S8x32x2x4x128x1, .f32⟩
  | 73 => ⟨S8x32x2x4x128x257, .f32⟩
  | 74 => ⟨S_, .f32⟩
  | 75 => ⟨S8x32x2x4x128, .f32⟩
  | 76 => ⟨S_, .f32⟩
  | 77 => ⟨S8x32x2x4x128, .f32⟩
  | 78 => ⟨S8x32x2x4x128, .f32⟩
  | 79 => ⟨S8x32x2x4x128x1, .f32⟩
  | 80 => ⟨S8x32x2x4x128x257, .f32⟩
  | 81 => ⟨S8x32x2x4x128x257, .f32⟩
  | 82 => ⟨S8x32x2x4x128x257, .f32⟩
  | 83 => ⟨S_, .f32⟩
  | 84 => ⟨S8x32x2x4x128, .f32⟩
  | 85 => ⟨S8x32x2x4x128x1, .f32⟩
  | 86 => ⟨S8x32x2x4x128x257, .f32⟩
  | 87 => ⟨S8x32x2x4x128x257, .f32⟩
  | 88 => ⟨S8x32x2x4x128x256, .f32⟩
  | 89 => ⟨S8x32x2x64x4x128, .f32⟩
  | 90 => ⟨S8x32x128x2x4x64, .f32⟩
  | 91 => ⟨S8x4096x512, .f32⟩
  | 92 => ⟨S8x128x2x64, .f32⟩
  | 93 => ⟨S8x128x2x64, .f32⟩
  | 94 => ⟨S8x4096x2048, .f32⟩
  | 95 => ⟨S8x4096x2048, .f32⟩
  | 96 => ⟨S_, .f32⟩
  | 97 => ⟨S8x4096x2048, .f32⟩
  | 98 => ⟨S8x4096x2048, .f32⟩
  | 99 => ⟨S_, .f32⟩
  | 100 => ⟨S8x4096x2048, .f32⟩
  | 101 => ⟨S8x4096x2048, .f32⟩
  | 102 => ⟨S8x4096x1024, .f32⟩
  | 103 => ⟨S8x4096x1024, .f32⟩
  | 104 => ⟨S512x1024, .f32⟩
  | 105 => ⟨S8x4096x1024, .f32⟩
  | 106 => ⟨S8x4096x1024, .f32⟩
  | 107 => ⟨S512x1024, .f32⟩
  | 108 => ⟨S8x4096x1024, .f32⟩
  | 109 => ⟨S8x4096x1024, .f32⟩
  | 110 => ⟨S8x4096x1024, .f32⟩
  | 111 => ⟨S1024x1024, .f32⟩
  | 112 => ⟨S8x4096x1024, .f32⟩
  | 113 => ⟨S8x4096x1024, .f32⟩
  | 114 => ⟨S32768x1024, .f32⟩
  | 115 => ⟨S8x2x64x128, .f32⟩
  | 116 => ⟨S8x128x128, .f32⟩
  | 117 => ⟨S8x2x64x128, .f32⟩
  | 118 => ⟨S8x128x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_3 : Ref sig .tc := ⟨.hbm, 67, rfl⟩
abbrev main_v50 : Ref sig .tc := ⟨.hbm, 68, rfl⟩
abbrev main_v51 : Ref sig .tc := ⟨.hbm, 69, rfl⟩
abbrev main_c_4 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_c_5 : Ref sig .tc := ⟨.hbm, 110, rfl⟩
abbrev main_v91 : Ref sig .tc := ⟨.hbm, 111, rfl⟩
abbrev main_v92 : Ref sig .tc := ⟨.hbm, 112, rfl⟩
abbrev main_c_6 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_7 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_cst_8 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_cst_9 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_c_10 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_c_11 : Ref sig .tc := ⟨.hbm, 167, rfl⟩
abbrev main_v142 : Ref sig .tc := ⟨.hbm, 168, rfl⟩
abbrev main_v143 : Ref sig .tc := ⟨.hbm, 169, rfl⟩
abbrev main_c_12 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_c_13 : Ref sig .tc := ⟨.hbm, 176, rfl⟩
abbrev main_v149 : Ref sig .tc := ⟨.hbm, 177, rfl⟩
abbrev main_v150 : Ref sig .tc := ⟨.hbm, 178, rfl⟩
abbrev main_c_14 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_c_15 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_cst_16 : Ref sig .tc := ⟨.hbm, 194, rfl⟩
abbrev main_call0_v0 : Ref sig .tc := ⟨.hbm, 195, rfl⟩
abbrev main_call0_v1 : Ref sig .tc := ⟨.hbm, 196, rfl⟩
abbrev main_call0_v2 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_cst_17 : Ref sig .tc := ⟨.hbm, 202, rfl⟩
abbrev main_v168 : Ref sig .tc := ⟨.hbm, 203, rfl⟩
abbrev main_cst_18 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_cst_19 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_cst_20 : Ref sig .tc := ⟨.hbm, 224, rfl⟩
abbrev main_v187 : Ref sig .tc := ⟨.hbm, 225, rfl⟩
abbrev main_v188 : Ref sig .tc := ⟨.hbm, 226, rfl⟩
abbrev main_cst_21 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩

abbrev nD : Nat := 1
abbrev τ : Topo := Topo.v7x

variable {F : FTy → Type} [FloatOps F]
-- ==== In.lean ====
abbrev S8x4096x1024 : Shape := ⟨3, ![8, 4096, 1024]⟩
abbrev S1x1024 : Shape := ⟨2, ![1, 1024]⟩
abbrev S1x1024x3328 : Shape := ⟨3, ![1, 1024, 3328]⟩
abbrev S32768x1024 : Shape := ⟨2, ![32768, 1024]⟩
abbrev S1024 : Shape := ⟨1, ![1024]⟩
abbrev S1024x3328 : Shape := ⟨2, ![1024, 3328]⟩
abbrev S32768x512 : Shape := ⟨2, ![32768, 512]⟩
abbrev S32768x128 : Shape := ⟨2, ![32768, 128]⟩
abbrev S32768x2048 : Shape := ⟨2, ![32768, 2048]⟩
abbrev S1024x1024 : Shape := ⟨2, ![1024, 1024]⟩
abbrev S1024x512 : Shape := ⟨2, ![1024, 512]⟩
abbrev S1024x128 : Shape := ⟨2, ![1024, 128]⟩
abbrev S1024x2048 : Shape := ⟨2, ![1024, 2048]⟩
abbrev S1024x1 : Shape := ⟨2, ![1024, 1]⟩
abbrev S1024x256 : Shape := ⟨2, ![1024, 256]⟩

abbrev nBuf : Space → Nat
  | .hbm => 13
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3328, .f32⟩
  | .hbm, ⟨3, _⟩ => ⟨S32768x1024, .f32⟩
  | .hbm, ⟨4, _⟩ => ⟨S1024, .f32⟩
  | .hbm, ⟨5, _⟩ => ⟨S1x1024, .f32⟩
  | .hbm, ⟨6, _⟩ => ⟨S1024x3328, .f32⟩
  | .hbm, ⟨7, _⟩ => ⟨S1024x3328, .bf16⟩
  | .hbm, ⟨8, _⟩ => ⟨S32768x512, .f32⟩
  | .hbm, ⟨9, _⟩ => ⟨S32768x512, .f32⟩
  | .hbm, ⟨10, _⟩ => ⟨S32768x128, .f32⟩
  | .hbm, ⟨11, _⟩ => ⟨S32768x128, .f32⟩
  | .hbm, ⟨12, _⟩ => ⟨S32768x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3328, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x2048, .f32⟩
  | .local _ .vmem, ⟨13, _⟩ => ⟨S1024x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InRefIdeal.lean ====
abbrev S8x4096x1024 : Shape := ⟨3, ![8, 4096, 1024]⟩
abbrev S1x1024 : Shape := ⟨2, ![1, 1024]⟩
abbrev S1x1024x3328 : Shape := ⟨3, ![1, 1024, 3328]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3328 : Shape := ⟨2, ![1024, 3328]⟩
abbrev S8x4096x3328 : Shape := ⟨3, ![8, 4096, 3328]⟩
abbrev S8x4096x512 : Shape := ⟨3, ![8, 4096, 512]⟩
abbrev S8x4096x128 : Shape := ⟨3, ![8, 4096, 128]⟩
abbrev S8x4096x2048 : Shape := ⟨3, ![8, 4096, 2048]⟩
abbrev S32768x512 : Shape := ⟨2, ![32768, 512]⟩
abbrev S32768x128 : Shape := ⟨2, ![32768, 128]⟩
abbrev S32768x2048 : Shape := ⟨2, ![32768, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3328, .f32⟩
  | .hbm, ⟨3, _⟩ => ⟨S1024, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1024x3328, .f32⟩
  | .hbm, ⟨21, _⟩ => ⟨S8x4096x3328, .f32⟩
  | .hbm, ⟨22, _⟩ => ⟨S8x4096x512, .f32⟩
  | .hbm, ⟨23, _⟩ => ⟨S8x4096x512, .f32⟩
  | .hbm, ⟨24, _⟩ => ⟨S8x4096x128, .f32⟩
  | .hbm, ⟨25, _⟩ => ⟨S8x4096x128, .f32⟩
  | .hbm, ⟨26, _⟩ => ⟨S8x4096x2048, .f32⟩
  | .hbm, ⟨27, _⟩ => ⟨S32768x512, .f32⟩
  | .hbm, ⟨28, _⟩ => ⟨S32768x512, .f32⟩
  | .hbm, ⟨29, _⟩ => ⟨S32768x128, .f32⟩
  | .hbm, ⟨30, _⟩ => ⟨S32768x128, .f32⟩
  | .hbm, ⟨31, _⟩ => ⟨S32768x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Ffn.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S5632 : Shape := ⟨1, ![5632]⟩
abbrev S_ : Shape := ⟨0, ![]⟩
abbrev S3x5632 : Shape := ⟨2, ![3, 5632]⟩
abbrev S32768x1024 : Shape := ⟨2, ![32768, 1024]⟩
abbrev S1024x5632 : Shape := ⟨2, ![1024, 5632]⟩
abbrev S2816x1024 : Shape := ⟨2, ![2816, 1024]⟩
abbrev S8x2x5632 : Shape := ⟨3, ![8, 2, 5632]⟩
abbrev S512x1024 : Shape := ⟨2, ![512, 1024]⟩
abbrev S1x2x5632 : Shape := ⟨3, ![1, 2, 5632]⟩
abbrev S520x5632 : Shape := ⟨2, ![520, 5632]⟩
abbrev S512x2816 : Shape := ⟨2, ![512, 2816]⟩
abbrev S8x5632 : Shape := ⟨2, ![8, 5632]⟩
abbrev S512 : Shape := ⟨1, ![512]⟩
abbrev S512x1 : Shape := ⟨2, ![512, 1]⟩
abbrev S512x5632 : Shape := ⟨2, ![512, 5632]⟩
abbrev S520x256 : Shape := ⟨2, ![520, 256]⟩
abbrev S512x256 : Shape := ⟨2, ![512, 256]⟩
abbrev S1x256 : Shape := ⟨2, ![1, 256]⟩
abbrev S256x1024 : Shape := ⟨2, ![256, 1024]⟩
abbrev S2x5632 : Shape := ⟨2, ![2, 5632]⟩

abbrev nBuf : Space → Nat
  | .hbm => 34
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S5632, .i32⟩
  | .hbm, ⟨8, _⟩ => ⟨S_, .i32⟩
  | .hbm, ⟨9, _⟩ => ⟨S5632, .i32⟩
  | .hbm, ⟨10, _⟩ => ⟨S5632, .i1⟩
  | .hbm, ⟨11, _⟩ => ⟨S_, .f32⟩
  | .hbm, ⟨12, _⟩ => ⟨S_, .f32⟩
  | .hbm, ⟨13, _⟩ => ⟨S5632, .f32⟩
  | .hbm, ⟨14, _⟩ => ⟨S5632, .f32⟩
  | .hbm, ⟨15, _⟩ => ⟨S5632, .f32⟩
  | .hbm, ⟨16, _⟩ => ⟨S5632, .f32⟩
  | .hbm, ⟨17, _⟩ => ⟨S3x5632, .f32⟩
  | .hbm, ⟨18, _⟩ => ⟨S1x5632, .f32⟩
  | .hbm, ⟨19, _⟩ => ⟨S3x5632, .f32⟩
  | .hbm, ⟨20, _⟩ => ⟨S3x5632, .f32⟩
  | .hbm, ⟨21, _⟩ => ⟨S5632, .f32⟩
  | .hbm, ⟨22, _⟩ => ⟨S5632, .f32⟩
  | .hbm, ⟨23, _⟩ => ⟨S1x5632, .f32⟩
  | .hbm, ⟨24, _⟩ => ⟨S32768x1024, .f32⟩
  | .hbm, ⟨25, _⟩ => ⟨S1024, .f32⟩
  | .hbm, ⟨26, _⟩ => ⟨S1x1024, .f32⟩
  | .hbm, ⟨27, _⟩ => ⟨S1024x5632, .f32⟩
  | .hbm, ⟨28, _⟩ => ⟨S1024x5632, .bf16⟩
  | .hbm, ⟨29, _⟩ => ⟨S2816x1024, .f32⟩
  | .hbm, ⟨30, _⟩ => ⟨S2816x1024, .bf16⟩
  | .hbm, ⟨31, _⟩ => ⟨S1x1024, .f32⟩
  | .hbm, ⟨32, _⟩ => ⟨S32768x1024, .f32⟩
  | .hbm, ⟨33, _⟩ => ⟨S8x2x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x2x5632, .f32⟩
  | .local _ .vmem, ⟨11, _⟩ => ⟨S1x2x5632, .f32⟩
  | .local _ .vmem, ⟨12, _⟩ => ⟨S520x5632, .f32⟩
  | .local _ .vmem, ⟨13, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5632 : Shape := ⟨2, ![1024, 5632]⟩
abbrev S8x4096x5632 : Shape := ⟨3, ![8, 4096, 5632]⟩
abbrev S8x2x5632 : Shape := ⟨3, ![8, 2, 5632]⟩
abbrev S8x4098x5632 : Shape := ⟨3, ![8, 4098, 5632]⟩
abbrev S1x1x5632 : Shape := ⟨3, ![1, 1, 5632]⟩
abbrev S5632 : Shape := ⟨1, ![5632]⟩
abbrev S8x4096x2816 : Shape := ⟨3, ![8, 4096, 2816]⟩
abbrev S2816x1024 : Shape := ⟨2, ![2816, 1024]⟩
abbrev S32768x1024 : Shape := ⟨2, ![32768, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1024x5632, .f32⟩
  | .hbm, ⟨25, _⟩ => ⟨S8x4096x5632, .f32⟩
  | .hbm, ⟨26, _⟩ => ⟨S_, .f32⟩
  | .hbm, ⟨27, _⟩ => ⟨S8x2x5632, .f32⟩
  | .hbm, ⟨28, _⟩ => ⟨S8x4098x5632, .f32⟩
  | .hbm, ⟨29, _⟩ => ⟨S8x4096x5632, .f32⟩
  | .hbm, ⟨30, _⟩ => ⟨S1x1x5632, .f32⟩
  | .hbm, ⟨31, _⟩ => ⟨S5632, .f32⟩
  | .hbm, ⟨32, _⟩ => ⟨S1x1x5632, .f32⟩
  | .hbm, ⟨33, _⟩ => ⟨S8x4096x5632, .f32⟩
  | .hbm, ⟨34, _⟩ => ⟨S8x4096x5632, .f32⟩
  | .hbm, ⟨35, _⟩ => ⟨S8x4096x5632, .f32⟩
  | .hbm, ⟨36, _⟩ => ⟨S1x1x5632, .f32⟩
  | .hbm, ⟨37, _⟩ => ⟨S5632, .f32⟩
  | .hbm, ⟨38, _⟩ => ⟨S1x1x5632, .f32⟩
  | .hbm, ⟨39, _⟩ => ⟨S8x4096x5632, .f32⟩
  | .hbm, ⟨40, _⟩ => ⟨S8x4096x5632, .f32⟩
  | .hbm, ⟨41, _⟩ => ⟨S8x4096x5632, .f32⟩
  | .hbm, ⟨42, _⟩ => ⟨S8x4096x5632, .f32⟩
  | .hbm, ⟨43, _⟩ => ⟨S1x1x5632, .f32⟩
  | .hbm, ⟨44, _⟩ => ⟨S5632, .f32⟩
  | .hbm, ⟨45, _⟩ => ⟨S1x1x5632, .f32⟩
  | .hbm, ⟨46, _⟩ => ⟨S8x4096x5632, .f32⟩
  | .hbm, ⟨47, _⟩ => ⟨S8x4096x5632, .f32⟩
  | .hbm, ⟨48, _⟩ => ⟨S8x4096x5632, .f32⟩
  | .hbm, ⟨49, _⟩ => ⟨S5632, .f32⟩
  | .hbm, ⟨50, _⟩ => ⟨S1x1x5632, .f32⟩
  | .hbm, ⟨51, _⟩ => ⟨S8x4096x5632, .f32⟩
  | .hbm, ⟨52, _⟩ => ⟨S8x4096x5632, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S_, .f32⟩
  | .hbm, ⟨58, _⟩ => ⟨S8x4096x2816, .f32⟩
  | .hbm, ⟨59, _⟩ => ⟨S8x4096x2816, .f32⟩
  | .hbm, ⟨60, _⟩ => ⟨S_, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S2816x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x4096x1, .f32⟩
  | .hbm, ⟨79, _⟩ => ⟨S8x4096x1024, .f32⟩
  | .hbm, ⟨80, _⟩ => ⟨S8x4096x1024, .f32⟩
  | .hbm, ⟨81, _⟩ => ⟨S1x1x1024, .f32⟩
  | .hbm, ⟨82, _⟩ => ⟨S8x4096x1024, .f32⟩
  | .hbm, ⟨83, _⟩ => ⟨S8x4096x1024, .f32⟩
  | .hbm, ⟨84, _⟩ => ⟨S32768x1024, .f32⟩
  | .hbm, ⟨85, _⟩ => ⟨S8x2x5632, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_3 : Ref sig .tc := ⟨.hbm, 69, rfl⟩
abbrev main_v50 : Ref sig .tc := ⟨.hbm, 70, rfl⟩
abbrev main_v51 : Ref sig .tc := ⟨.hbm, 71, rfl⟩
abbrev main_cst_4 : Ref sig .tc := ⟨.hbm, 72, rfl⟩
abbrev main_v52 : Ref sig .tc := ⟨.hbm, 73, rfl⟩
abbrev main_v53 : Ref sig .tc := ⟨.hbm, 74, rfl⟩
abbrev main_cst_5 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Proof.MixCond.lean ====
/- The conditions of the mixing kernel's three conditionals, from the grid point alone. -/
module

public import proofs.«01_k».proof.Proof.Gen.MixIdeal.Frame
public import proofs.«01_k».proof.Proof.Gen.MixIdeal.Skeleton

@[expose] public section

noncomputable section

namespace Cert.MixIdeal.Gen

open Idealize.ShloMosaic Idealize.ShloMosaic.TcCoe Idealize.ShloMosaic.Tactic
open Idealize.ShloMosaic.Pipeline (Dat Cfg Window)

/-- The condition of the first conditional: the first grid point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The condition of the second: the first tile of a sequence. -/
abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1
/-- It holds at the points ≡ 0 (mod 8) — decided over the grid. -/
theorem hcond0_1 : ∀ t : Fin cfg0.N, cond0_1 (grid0.coords t) ↔ t.val % 8 = 0 :=
  (by decide +kernel : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := k0_cond3 i = 1#1
/-- It holds at the points ≡ 7 (mod 8) — decided over the grid. -/
theorem hcond0_2 : ∀ t : Fin cfg0.N, cond0_2 (grid0.coords t) ↔ t.val % 8 = 7 :=
  (by decide +kernel : ∀ t : Fin grid0.N, cond0_2 (grid0.coords t) ↔ t.val % 8 = 7)

/-! ## Which band of the bias a query block reads

Band 0 is the first block of a sequence, band 1 every other block. -/

theorem slot_first (i : grid0.Coords) (h : cond0_1 i) : k0_off1 i 0#32 = ![0, 0, 0] :=
  (by decide +kernel : ∀ i : grid0.Coords, cond0_1 i → k0_off1 i 0#32 = ![0, 0, 0]) i h
theorem slot_later (i : grid0.Coords) (h : ¬cond0_1 i) : k0_off1 i 0#32 = ![1, 0, 0] :=
  (by decide +kernel : ∀ i : grid0.Coords, ¬cond0_1 i → k0_off1 i 0#32 = ![1, 0, 0]) i h
theorem slot_1 (i : grid0.Coords) : k0_off1 i 1#32 = ![1, 0, 0] :=
  (by decide +kernel : ∀ i : grid0.Coords, k0_off1 i 1#32 = ![1, 0, 0]) i
theorem slot_2 (i : grid0.Coords) : k0_off1 i 2#32 = ![1, 0, 0] :=
  (by decide +kernel : ∀ i : grid0.Coords, k0_off1 i 2#32 = ![1, 0, 0]) i
theorem slot_3 (i : grid0.Coords) : k0_off1 i 3#32 = ![1, 0, 0] :=
  (by decide +kernel : ∀ i : grid0.Coords, k0_off1 i 3#32 = ![1, 0, 0]) i
instance (i : grid0.Coords) [h : Fact (cond0_1 i)] : ClosedOff (k0_off1 i 0#32) := ⟨![0, 0, 0], slot_first i h.out⟩
instance (i : grid0.Coords) : ClosedOff (k0_off1 i 1#32) := ⟨![1, 0, 0], slot_1 i⟩
instance (i : grid0.Coords) : ClosedOff (k0_off1 i 2#32) := ⟨![1, 0, 0], slot_2 i⟩
instance (i : grid0.Coords) : ClosedOff (k0_off1 i 3#32) := ⟨![1, 0, 0], slot_3 i⟩

end Cert.MixIdeal.Gen

end
-- ==== Proof.MixRunA.lean ====
module

public import proofs.«01_k».proof.Proof.MixCond

@[expose] public section

-- membership in a rectangle of production extents (`View.cover_of_tiled`): the elaborator's structural look
-- recurses once per coordinate of the long axes
set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1028000 in
/-- The body run in case A. -/
noncomputable def kernelRun0_A (c : Dev nD) (i : grid0.Coords) (arg1 : Memref sig .tc .smem S8 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2048 .f32) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S528x512 .f32) (harg16 : arg16.IsWhole) (arg17 : Memref sig .tc .vmem S2x640x128 .bf16) (harg17 : arg17.IsWhole) (arg18 : Memref sig .tc .vmem S2x640x128 .bf16) (harg18 : arg18.IsWhole) (arg19 : Memref sig .tc .vmem S512x512 .f32) (harg19 : arg19.IsWhole) (arg20 : Memref sig .tc .vmem S2x512x256 .f32) (harg20 : arg20.IsWhole) (arg21 : Memref sig .tc .vmem S512x1024 .f32) (harg21 : arg21.IsWhole) (arg22 : Memref sig .tc .vmem S512x1024 .bf16) (harg22 : arg22.IsWhole) (hc0 : cond0_0 i) (hc1 : cond0_1 i) (hc2 : ¬cond0_2 i)
    (x0 : Vec F S8 .f32) (x1 : Vec F S512x512 .f32) (x2 : Vec F S512x512 .f32) (x3 : Vec F S512x128 .f32) (x4 : Vec F S512x128 .f32) (x5 : Vec F S512x2048 .f32) (x6 : Vec F S4x128x128 .bf16) (x7 : Vec F S1x512 .f32) (x8 : Vec F S512x1024 .bf16) (x9 : Vec F S512x1024 .bf16) (x10 : Vec F S1024x1024 .bf16) (x11 : Vec F S512x1024 .f32) :
    Σ' (L12 : List (View.Piece (Elt F) S512x1024 .f32)), Σ' (L13 : List (View.Piece (Elt F) S1x128x128 .f32)), Σ' (L14 : List (View.Piece (Elt F) S1x128x128 .f32)), Σ' (LS0 : List (View.Piece (Elt F) S528x512 .f32)), Σ' (LS1 : List (View.Piece (Elt F) S2x640x128 .bf16)), Σ' (LS2 : List (View.Piece (Elt F) S2x640x128 .bf16)), Σ' (LS4 : List (View.Piece (Elt F) S2x512x256 .f32)), Σ' (LS6 : List (View.Piece (Elt F) S512x1024 .bf16)), Σ' (LT3 : List (View.Piece (Elt F) S512x512 .f32)), { LT5 : List (View.Piece (Elt F) S512x1024 .f32) //
      ∀ (xi13 : Vec F S1x128x128 .f32) (xi14 : Vec F S1x128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xi13 ∗ owns (c : Thread nD τ) arg15 fullShare xi14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ owns (c : Thread nD τ) arg14 fullShare xi13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LT3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LT5) ∗ (∃ f, arg22.view.loc (c : Thread nD τ) ↦[arg22.view.set]{fullShare} arg22.view.writes (Elt F) f LS6)) -∗ K ⟨⟩))
          ⊢ wp frame (wpE (defs₀ (F := F)) Variants.none c none) E (cc0_mix_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, [], [], ?_, ?_, ?_, ?_, ?_, ?_, ?_, fun xi13 xi14 E K => ?run⟩
  case run =>
    haveI : Fact (cond0_1 i) := ⟨hc1⟩
    simp only [cc0_mix_prompt_eq_skeleton]; unfold cc0_mix_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.MixIdeal.Gen

end
-- ==== Proof.MixRunB.lean ====
module

public import proofs.«01_k».proof.Proof.MixCond

@[expose] public section

-- membership in a rectangle of production extents (`View.cover_of_tiled`): the elaborator's structural look
-- recurses once per coordinate of the long axes
set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- The body run in case B. -/
noncomputable def kernelRun0_B (c : Dev nD) (i : grid0.Coords) (arg1 : Memref sig .tc .smem S8 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2048 .f32) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S528x512 .f32) (harg16 : arg16.IsWhole) (arg17 : Memref sig .tc .vmem S2x640x128 .bf16) (harg17 : arg17.IsWhole) (arg18 : Memref sig .tc .vmem S2x640x128 .bf16) (harg18 : arg18.IsWhole) (arg19 : Memref sig .tc .vmem S512x512 .f32) (harg19 : arg19.IsWhole) (arg20 : Memref sig .tc .vmem S2x512x256 .f32) (harg20 : arg20.IsWhole) (arg21 : Memref sig .tc .vmem S512x1024 .f32) (harg21 : arg21.IsWhole) (arg22 : Memref sig .tc .vmem S512x1024 .bf16) (harg22 : arg22.IsWhole) (hc0 : ¬cond0_0 i) (hc1 : ¬cond0_1 i) (hc2 : ¬cond0_2 i)
    (x0 : Vec F S8 .f32) (x1 : Vec F S512x512 .f32) (x2 : Vec F S512x512 .f32) (x3 : Vec F S512x128 .f32) (x4 : Vec F S512x128 .f32) (x5 : Vec F S512x2048 .f32) (x6 : Vec F S4x128x128 .bf16) (x7 : Vec F S1x512 .f32) (x8 : Vec F S512x1024 .bf16) (x9 : Vec F S512x1024 .bf16) (x10 : Vec F S1024x1024 .bf16) (x11 : Vec F S512x1024 .f32) (xs0 : Vec F S528x512 .f32) (xs1 : Vec F S2x640x128 .bf16) (xs2 : Vec F S2x640x128 .bf16) (xs4 : Vec F S2x512x256 .f32) (xs6 : Vec F S512x1024 .bf16) :
    Σ' (L12 : List (View.Piece (Elt F) S512x1024 .f32)), Σ' (L13 : List (View.Piece (Elt F) S1x128x128 .f32)), Σ' (L14 : List (View.Piece (Elt F) S1x128x128 .f32)), Σ' (LS0 : List (View.Piece (Elt F) S528x512 .f32)), Σ' (LS1 : List (View.Piece (Elt F) S2x640x128 .bf16)), Σ' (LS2 : List (View.Piece (Elt F) S2x640x128 .bf16)), Σ' (LS4 : List (View.Piece (Elt F) S2x512x256 .f32)), Σ' (LS6 : List (View.Piece (Elt F) S512x1024 .bf16)), Σ' (LT3 : List (View.Piece (Elt F) S512x512 .f32)), { LT5 : List (View.Piece (Elt F) S512x1024 .f32) //
      ∀ (xi13 : Vec F S1x128x128 .f32) (xi14 : Vec F S1x128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xi13 ∗ owns (c : Thread nD τ) arg15 fullShare xi14 ∗ owns (c : Thread nD τ) arg16 fullShare xs0 ∗ owns (c : Thread nD τ) arg17 fullShare xs1 ∗ owns (c : Thread nD τ) arg18 fullShare xs2 ∗ (∃ d, owns (c : Thread nD τ) arg19 fullShare d) ∗ owns (c : Thread nD τ) arg20 fullShare xs4 ∗ (∃ d, owns (c : Thread nD τ) arg21 fullShare d) ∗ owns (c : Thread nD τ) arg22 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ owns (c : Thread nD τ) arg14 fullShare xi13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LT3) ∗ owns (c : Thread nD τ) arg20 fullShare xs4 ∗ (∃ f, arg21.view.loc (c : Thread nD τ) ↦[arg21.view.set]{fullShare} arg21.view.writes (Elt F) f LT5) ∗ (∃ f, arg22.view.loc (c : Thread nD τ) ↦[arg22.view.set]{fullShare} arg22.view.writes (Elt F) f LS6)) -∗ K ⟨⟩))
          ⊢ wp frame (wpE (defs₀ (F := F)) Variants.none c none) E (cc0_mix_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, [], [], ?_, ?_, ?_, [], ?_, ?_, ?_, fun xi13 xi14 E K => ?run⟩
  case run =>
    simp only [cc0_mix_prompt_eq_skeleton]; unfold cc0_mix_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%fs0, %hfs0, HS0⟩, ⟨%fs1, %hfs1, HS1⟩, ⟨%fs2, %hfs2, HS2⟩, ⟨%ds3, %fs3, -, HS3⟩, ⟨%fs4, %hfs4, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14; obtain rfl := harg16.eq_unread hfs0; obtain rfl := harg17.eq_unread hfs1; obtain rfl := harg18.eq_unread hfs2; obtain rfl := harg20.eq_unread hfs4; obtain rfl := harg22.eq_unread hfs6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    isplitl [HS1]; · iexists _; iexact HS1
    isplitl [HS2]; · iexists _; iexact HS2
    isplitl [HS3]; · iexists _; iexact HS3
    isplitl [HS4]
    · iexists _; isplitr; · ipureintro; exact harg20.read_unread _
      iexact HS4
    isplitl [HS5]; · iexists _; iexact HS5
    iexists _; iexact HS6

end Cert.MixIdeal.Gen

end
-- ==== Proof.MixRunC.lean ====
module

public import proofs.«01_k».proof.Proof.MixCond

@[expose] public section

-- membership in a rectangle of production extents (`View.cover_of_tiled`): the elaborator's structural look
-- recurses once per coordinate of the long axes
set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- The body run in case C. -/
noncomputable def kernelRun0_C (c : Dev nD) (i : grid0.Coords) (arg1 : Memref sig .tc .smem S8 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2048 .f32) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S528x512 .f32) (harg16 : arg16.IsWhole) (arg17 : Memref sig .tc .vmem S2x640x128 .bf16) (harg17 : arg17.IsWhole) (arg18 : Memref sig .tc .vmem S2x640x128 .bf16) (harg18 : arg18.IsWhole) (arg19 : Memref sig .tc .vmem S512x512 .f32) (harg19 : arg19.IsWhole) (arg20 : Memref sig .tc .vmem S2x512x256 .f32) (harg20 : arg20.IsWhole) (arg21 : Memref sig .tc .vmem S512x1024 .f32) (harg21 : arg21.IsWhole) (arg22 : Memref sig .tc .vmem S512x1024 .bf16) (harg22 : arg22.IsWhole) (hc0 : ¬cond0_0 i) (hc1 : ¬cond0_1 i) (hc2 : cond0_2 i)
    (x0 : Vec F S8 .f32) (x1 : Vec F S512x512 .f32) (x2 : Vec F S512x512 .f32) (x3 : Vec F S512x128 .f32) (x4 : Vec F S512x128 .f32) (x5 : Vec F S512x2048 .f32) (x6 : Vec F S4x128x128 .bf16) (x7 : Vec F S1x512 .f32) (x8 : Vec F S512x1024 .bf16) (x9 : Vec F S512x1024 .bf16) (x10 : Vec F S1024x1024 .bf16) (x11 : Vec F S512x1024 .f32) (xs0 : Vec F S528x512 .f32) (xs1 : Vec F S2x640x128 .bf16) (xs2 : Vec F S2x640x128 .bf16) (xs4 : Vec F S2x512x256 .f32) (xs6 : Vec F S512x1024 .bf16) :
    Σ' (L12 : List (View.Piece (Elt F) S512x1024 .f32)), Σ' (L13 : List (View.Piece (Elt F) S1x128x128 .f32)), Σ' (L14 : List (View.Piece (Elt F) S1x128x128 .f32)), Σ' (LS0 : List (View.Piece (Elt F) S528x512 .f32)), Σ' (LS1 : List (View.Piece (Elt F) S2x640x128 .bf16)), Σ' (LS2 : List (View.Piece (Elt F) S2x640x128 .bf16)), Σ' (LS4 : List (View.Piece (Elt F) S2x512x256 .f32)), Σ' (LS6 : List (View.Piece (Elt F) S512x1024 .bf16)), Σ' (LT3 : List (View.Piece (Elt F) S512x512 .f32)), { LT5 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ owns (c : Thread nD τ) arg18 fullShare xs2 ∗ (∃ d, owns (c : Thread nD τ) arg19 fullShare d) ∗ owns (c : Thread nD τ) arg20 fullShare xs4 ∗ (∃ d, owns (c : Thread nD τ) arg21 fullShare d) ∗ owns (c : Thread nD τ) arg22 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LT3) ∗ owns (c : Thread nD τ) arg20 fullShare xs4 ∗ (∃ f, arg21.view.loc (c : Thread nD τ) ↦[arg21.view.set]{fullShare} arg21.view.writes (Elt F) f LT5) ∗ (∃ f, arg22.view.loc (c : Thread nD τ) ↦[arg22.view.set]{fullShare} arg22.view.writes (Elt F) f LS6)) -∗ K ⟨⟩))
          ⊢ wp frame (wpE (defs₀ (F := F)) Variants.none c none) E (cc0_mix_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, [], ?_, ?_, ?_, fun E K => ?run⟩
  case run =>
    simp only [cc0_mix_prompt_eq_skeleton]; unfold cc0_mix_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%fs0, %hfs0, HS0⟩, ⟨%fs1, %hfs1, HS1⟩, ⟨%fs2, %hfs2, HS2⟩, ⟨%ds3, %fs3, -, HS3⟩, ⟨%fs4, %hfs4, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg16.eq_unread hfs0; obtain rfl := harg17.eq_unread hfs1; obtain rfl := harg18.eq_unread hfs2; obtain rfl := harg20.eq_unread hfs4; obtain rfl := harg22.eq_unread hfs6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [HS0]; · iexists _; iexact HS0
    isplitl [HS1]; · iexists _; iexact HS1
    isplitl [HS2]; · iexists _; iexact HS2
    isplitl [HS3]; · iexists _; iexact HS3
    isplitl [HS4]
    · iexists _; isplitr; · ipureintro; exact harg20.read_unread _
      iexact HS4
    isplitl [HS5]; · iexists _; iexact HS5
    iexists _; iexact HS6

end Cert.MixIdeal.Gen

end
-- ==== Proof.MixRunD.lean ====
module

public import proofs.«01_k».proof.Proof.MixCond

@[expose] public section

-- membership in a rectangle of production extents (`View.cover_of_tiled`): the elaborator's structural look
-- recurses once per coordinate of the long axes
set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1016000 in
/-- The body run in case D. -/
noncomputable def kernelRun0_D (c : Dev nD) (i : grid0.Coords) (arg1 : Memref sig .tc .smem S8 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2048 .f32) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S512x1024 .f32) (harg12 : arg12.IsWhole) (arg13 : Memref sig .tc .vmem S512x1024 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S528x512 .f32) (harg16 : arg16.IsWhole) (arg17 : Memref sig .tc .vmem S2x640x128 .bf16) (harg17 : arg17.IsWhole) (arg18 : Memref sig .tc .vmem S2x640x128 .bf16) (harg18 : arg18.IsWhole) (arg19 : Memref sig .tc .vmem S512x512 .f32) (harg19 : arg19.IsWhole) (arg20 : Memref sig .tc .vmem S2x512x256 .f32) (harg20 : arg20.IsWhole) (arg21 : Memref sig .tc .vmem S512x1024 .f32) (harg21 : arg21.IsWhole) (arg22 : Memref sig .tc .vmem S512x1024 .bf16) (harg22 : arg22.IsWhole) (hc0 : ¬cond0_0 i) (hc1 : cond0_1 i) (hc2 : ¬cond0_2 i)
    (x0 : Vec F S8 .f32) (x1 : Vec F S512x512 .f32) (x2 : Vec F S512x512 .f32) (x3 : Vec F S512x128 .f32) (x4 : Vec F S512x128 .f32) (x5 : Vec F S512x2048 .f32) (x6 : Vec F S4x128x128 .bf16) (x7 : Vec F S1x512 .f32) (x8 : Vec F S512x1024 .bf16) (x9 : Vec F S512x1024 .bf16) (x10 : Vec F S1024x1024 .bf16) (x11 : Vec F S512x1024 .f32) (xs6 : Vec F S512x1024 .bf16) :
    Σ' (L12 : List (View.Piece (Elt F) S512x1024 .f32)), Σ' (L13 : List (View.Piece (Elt F) S1x128x128 .f32)), Σ' (L14 : List (View.Piece (Elt F) S1x128x128 .f32)), Σ' (LS0 : List (View.Piece (Elt F) S528x512 .f32)), Σ' (LS1 : List (View.Piece (Elt F) S2x640x128 .bf16)), Σ' (LS2 : List (View.Piece (Elt F) S2x640x128 .bf16)), Σ' (LS4 : List (View.Piece (Elt F) S2x512x256 .f32)), Σ' (LS6 : List (View.Piece (Elt F) S512x1024 .bf16)), Σ' (LT3 : List (View.Piece (Elt F) S512x512 .f32)), { LT5 : List (View.Piece (Elt F) S512x1024 .f32) //
      ∀ (xi13 : Vec F S1x128x128 .f32) (xi14 : Vec F S1x128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xi13 ∗ owns (c : Thread nD τ) arg15 fullShare xi14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ owns (c : Thread nD τ) arg14 fullShare xi13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg18.view.loc (c : Thread nD τ) ↦[arg18.view.set]{fullShare} arg18.view.writes (Elt F) f LS2) ∗ (∃ f, arg19.view.loc (c : Thread nD τ) ↦[arg19.view.set]{fullShare} arg19.view.writes (Elt F) f LT3) ∗ (∃ f, arg20.view.loc (c : Thread nD τ) ↦[arg20.view.set]{fullShare} arg20.view.writes (Elt F) f LS4) ∗ (∃ f, arg21.view.loc (c : Thread nD τ) ↦[arg21.view.set]{fullShare} arg21.view.writes (Elt F) f LT5) ∗ (∃ f, arg22.view.loc (c : Thread nD τ) ↦[arg22.view.set]{fullShare} arg22.view.writes (Elt F) f LS6)) -∗ K ⟨⟩))
          ⊢ wp frame (wpE (defs₀ (F := F)) Variants.none c none) E (cc0_mix_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, [], [], ?_, ?_, ?_, ?_, ?_, ?_, ?_, fun xi13 xi14 E K => ?run⟩
  case run =>
    haveI : Fact (cond0_1 i) := ⟨hc1⟩
    simp only [cc0_mix_prompt_eq_skeleton]; unfold cc0_mix_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14; obtain rfl := harg22.eq_unread hfs6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.MixIdeal.Gen

end
-- ==== Proof.MixKit.lean ====
/- The mixing kernel's staging buffers and scratch at a grid point, its four runs there, and what each leaves. -/
module

public import proofs.«01_k».proof.Proof.MixRunA
public import proofs.«01_k».proof.Proof.MixRunB
public import proofs.«01_k».proof.Proof.MixRunC
public import proofs.«01_k».proof.Proof.MixRunD

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of output window 12, through which its contents are stated (`View.read_writes_of_cover`: the
    choice does not matter). -/
abbrev VO0_12 : View sig .tc .vmem S512x1024 .f32 := (Memref.whole cc0_stg12_0 : Memref sig .tc .vmem S512x1024 .f32).view
/-- One staging buffer of output window 13, through which its contents are stated (`View.read_writes_of_cover`: the
    choice does not matter). -/
abbrev VO0_13 : View sig .tc .vmem S1x128x128 .f32 := (Memref.whole cc0_stg13_0 : Memref sig .tc .vmem S1x128x128 .f32).view
/-- One staging buffer of output window 14, through which its contents are stated (`View.read_writes_of_cover`: the
    choice does not matter). -/
abbrev VO0_14 : View sig .tc .vmem S1x128x128 .f32 := (Memref.whole cc0_stg14_0 : Memref sig .tc .vmem S1x128x128 .f32).view
/-- Each window's current staging memref at point `t`, spelled as the pipeline passes it (`bodyAt0`), and its wholeness. -/
abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x128x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128x128 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S528x512 .f32 := Memref.whole cc0_scratch0
abbrev scM0_1 : Memref sig .tc .vmem S2x640x128 .bf16 := Memref.whole cc0_scratch1
abbrev scM0_2 : Memref sig .tc .vmem S2x640x128 .bf16 := Memref.whole cc0_scratch2
abbrev scM0_3 : Memref sig .tc .vmem S512x512 .f32 := Memref.whole cc0_scratch3
abbrev scM0_4 : Memref sig .tc .vmem S2x512x256 .f32 := Memref.whole cc0_scratch4
abbrev scM0_5 : Memref sig .tc .vmem S512x1024 .f32 := Memref.whole cc0_scratch5
abbrev scM0_6 : Memref sig .tc .vmem S512x1024 .bf16 := Memref.whole cc0_scratch6
/-- The scratch `arg16` the kernel carries between points, as a view: what it holds is stated through it. -/
abbrev VS0_0 : View sig .tc .vmem S528x512 .f32 := scM0_0.view
/-- The scratch `arg17` the kernel carries between points, as a view: what it holds is stated through it. -/
abbrev VS0_1 : View sig .tc .vmem S2x640x128 .bf16 := scM0_1.view
/-- The scratch `arg18` the kernel carries between points, as a view: what it holds is stated through it. -/
abbrev VS0_2 : View sig .tc .vmem S2x640x128 .bf16 := scM0_2.view
/-- The scratch `arg20` the kernel carries between points, as a view: what it holds is stated through it. -/
abbrev VS0_4 : View sig .tc .vmem S2x512x256 .f32 := scM0_4.view
/-- The scratch `arg22` the kernel carries between points, as a view: what it holds is stated through it. -/
abbrev VS0_6 : View sig .tc .vmem S512x1024 .bf16 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- What a grid point leaves: the output rows, the transposed keys and values, and the scratch carried to the next point. -/
structure Left (F : FTy → Type) where
  x1 : Vec F S512x1024 .f32
  kt : Vec F S1x128x128 .f32
  vt : Vec F S1x128x128 .f32
  uext : Vec F S528x512 .f32
  kdup : Vec F S2x640x128 .bf16
  vdup : Vec F S2x640x128 .bf16
  bias : Vec F S2x512x256 .f32
  mixed : Vec F S512x1024 .bf16

/-- The run at the first grid point. -/
abbrev runA (c : Dev nD) (t : Fin cfg0.N) (h : t.val = 0)  :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h) ((hcond0_1 t).mpr (by rw [h])) (fun e => by have := (hcond0_2 t).mp e; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem coverA_x1 (c : Dev nD) (t : Fin cfg0.N) (h : t.val = 0)  (y : S512x1024.Idx) :
    ∃ pc ∈ (runA m c t h ).1, y ∈ pc.1.set :=
  View.cover_of_tiledL (runA m c t h ).1 S512x256.size (by sl_kernel_rfl) y
theorem coverA_uext (c : Dev nD) (t : Fin cfg0.N) (h : t.val = 0)  (y : S528x512.Idx) :
    ∃ pc ∈ (runA m c t h ).2.2.2.1, y ∈ pc.1.set :=
  View.cover_of_tiledBy (runA m c t h ).2.2.2.1 ![16, 512] (by sl_kernel_rfl) y
theorem coverA_kdup (c : Dev nD) (t : Fin cfg0.N) (h : t.val = 0)  (y : S2x640x128.Idx) :
    ∃ pc ∈ (runA m c t h ).2.2.2.2.1, y ∈ pc.1.set :=
  View.cover_of_tiledBy (runA m c t h ).2.2.2.2.1 ![1, 128, 128] (by sl_kernel_rfl) y
theorem coverA_vdup (c : Dev nD) (t : Fin cfg0.N) (h : t.val = 0)  (y : S2x640x128.Idx) :
    ∃ pc ∈ (runA m c t h ).2.2.2.2.2.1, y ∈ pc.1.set :=
  View.cover_of_tiledBy (runA m c t h ).2.2.2.2.2.1 ![1, 128, 128] (by sl_kernel_rfl) y
theorem coverA_bias (c : Dev nD) (t : Fin cfg0.N) (h : t.val = 0)  (y : S2x512x256.Idx) :
    ∃ pc ∈ (runA m c t h ).2.2.2.2.2.2.1, y ∈ pc.1.set :=
  View.cover_of_tiledL (runA m c t h ).2.2.2.2.2.2.1 S1x512x256.size (by sl_kernel_rfl) y
theorem coverA_mixed (c : Dev nD) (t : Fin cfg0.N) (h : t.val = 0)  (y : S512x1024.Idx) :
    ∃ pc ∈ (runA m c t h ).2.2.2.2.2.2.2.1, y ∈ pc.1.set :=
  View.cover_of_wholeMem (runA m c t h ).2.2.2.2.2.2.2.1 (by sl_whole_mem) y

/-- What the first grid point leaves. -/
def leftA (c : Dev nD) (t : Fin cfg0.N) (h : t.val = 0)  : Left F where
  x1 := VO0_12.read (Elt F) (VO0_12.writes (Elt F) VO0_12.junk (runA m c t h ).1)
  kt := VO0_13.read (Elt F) VO0_13.junk
  vt := VO0_14.read (Elt F) VO0_14.junk
  uext := VS0_0.read (Elt F) (VS0_0.writes (Elt F) VS0_0.junk (runA m c t h ).2.2.2.1)
  kdup := VS0_1.read (Elt F) (VS0_1.writes (Elt F) VS0_1.junk (runA m c t h ).2.2.2.2.1)
  vdup := VS0_2.read (Elt F) (VS0_2.writes (Elt F) VS0_2.junk (runA m c t h ).2.2.2.2.2.1)
  bias := VS0_4.read (Elt F) (VS0_4.writes (Elt F) VS0_4.junk (runA m c t h ).2.2.2.2.2.2.1)
  mixed := VS0_6.read (Elt F) (VS0_6.writes (Elt F) VS0_6.junk (runA m c t h ).2.2.2.2.2.2.2.1)

/-- The run at an inner tile of a sequence. -/
abbrev runB (c : Dev nD) (t : Fin cfg0.N) (h1 : ¬t.val % 8 = 0) (h2 : ¬t.val % 8 = 7) (xs0 : Vec F S528x512 .f32) (xs1 xs2 : Vec F S2x640x128 .bf16) (xs4 : Vec F S2x512x256 .f32) (xs6 : Vec F S512x1024 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun e => h1 (by rw [(hcond0_0 t).mp e])) (fun e => h1 ((hcond0_1 t).mp e)) (fun e => h2 ((hcond0_2 t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1 xs2 xs4 xs6

theorem coverB_x1 (c : Dev nD) (t : Fin cfg0.N) (h1 : ¬t.val % 8 = 0) (h2 : ¬t.val % 8 = 7) (xs0 : Vec F S528x512 .f32) (xs1 xs2 : Vec F S2x640x128 .bf16) (xs4 : Vec F S2x512x256 .f32) (xs6 : Vec F S512x1024 .bf16) (y : S512x1024.Idx) :
    ∃ pc ∈ (runB m c t h1 h2 xs0 xs1 xs2 xs4 xs6).1, y ∈ pc.1.set :=
  View.cover_of_tiledL (runB m c t h1 h2 xs0 xs1 xs2 xs4 xs6).1 S512x256.size (by sl_kernel_rfl) y
theorem coverB_uext (c : Dev nD) (t : Fin cfg0.N) (h1 : ¬t.val % 8 = 0) (h2 : ¬t.val % 8 = 7) (xs0 : Vec F S528x512 .f32) (xs1 xs2 : Vec F S2x640x128 .bf16) (xs4 : Vec F S2x512x256 .f32) (xs6 : Vec F S512x1024 .bf16) (y : S528x512.Idx) :
    ∃ pc ∈ (runB m c t h1 h2 xs0 xs1 xs2 xs4 xs6).2.2.2.1, y ∈ pc.1.set :=
  View.cover_of_tiledBy (runB m c t h1 h2 xs0 xs1 xs2 xs4 xs6).2.2.2.1 ![16, 512] (by sl_kernel_rfl) y
theorem coverB_kdup (c : Dev nD) (t : Fin cfg0.N) (h1 : ¬t.val % 8 = 0) (h2 : ¬t.val % 8 = 7) (xs0 : Vec F S528x512 .f32) (xs1 xs2 : Vec F S2x640x128 .bf16) (xs4 : Vec F S2x512x256 .f32) (xs6 : Vec F S512x1024 .bf16) (y : S2x640x128.Idx) :
    ∃ pc ∈ (runB m c t h1 h2 xs0 xs1 xs2 xs4 xs6).2.2.2.2.1, y ∈ pc.1.set :=
  View.cover_of_tiledBy (runB m c t h1 h2 xs0 xs1 xs2 xs4 xs6).2.2.2.2.1 ![1, 128, 128] (by sl_kernel_rfl) y
theorem coverB_vdup (c : Dev nD) (t : Fin cfg0.N) (h1 : ¬t.val % 8 = 0) (h2 : ¬t.val % 8 = 7) (xs0 : Vec F S528x512 .f32) (xs1 xs2 : Vec F S2x640x128 .bf16) (xs4 : Vec F S2x512x256 .f32) (xs6 : Vec F S512x1024 .bf16) (y : S2x640x128.Idx) :
    ∃ pc ∈ (runB m c t h1 h2 xs0 xs1 xs2 xs4 xs6).2.2.2.2.2.1, y ∈ pc.1.set :=
  View.cover_of_tiledBy (runB m c t h1 h2 xs0 xs1 xs2 xs4 xs6).2.2.2.2.2.1 ![1, 128, 128] (by sl_kernel_rfl) y
theorem coverB_mixed (c : Dev nD) (t : Fin cfg0.N) (h1 : ¬t.val % 8 = 0) (h2 : ¬t.val % 8 = 7) (xs0 : Vec F S528x512 .f32) (xs1 xs2 : Vec F S2x640x128 .bf16) (xs4 : Vec F S2x512x256 .f32) (xs6 : Vec F S512x1024 .bf16) (y : S512x1024.Idx) :
    ∃ pc ∈ (runB m c t h1 h2 xs0 xs1 xs2 xs4 xs6).2.2.2.2.2.2.2.1, y ∈ pc.1.set :=
  View.cover_of_tiledL (runB m c t h1 h2 xs0 xs1 xs2 xs4 xs6).2.2.2.2.2.2.2.1 S256x1024.size (by sl_kernel_rfl) y

/-- What an inner tile of a sequence leaves, over what the point before left. -/
def leftB (c : Dev nD) (t : Fin cfg0.N) (h1 : ¬t.val % 8 = 0) (h2 : ¬t.val % 8 = 7) (p : Left F) : Left F where
  x1 := VO0_12.read (Elt F) (VO0_12.writes (Elt F) VO0_12.junk (runB m c t h1 h2 p.uext p.kdup p.vdup p.bias p.mixed).1)
  kt := p.kt
  vt := p.vt
  uext := VS0_0.read (Elt F) (VS0_0.writes (Elt F) VS0_0.junk (runB m c t h1 h2 p.uext p.kdup p.vdup p.bias p.mixed).2.2.2.1)
  kdup := VS0_1.read (Elt F) (VS0_1.writes (Elt F) VS0_1.junk (runB m c t h1 h2 p.uext p.kdup p.vdup p.bias p.mixed).2.2.2.2.1)
  vdup := VS0_2.read (Elt F) (VS0_2.writes (Elt F) VS0_2.junk (runB m c t h1 h2 p.uext p.kdup p.vdup p.bias p.mixed).2.2.2.2.2.1)
  bias := p.bias
  mixed := VS0_6.read (Elt F) (VS0_6.writes (Elt F) VS0_6.junk (runB m c t h1 h2 p.uext p.kdup p.vdup p.bias p.mixed).2.2.2.2.2.2.2.1)

/-- The run at the last tile of a sequence. -/
abbrev runC (c : Dev nD) (t : Fin cfg0.N) (h : t.val % 8 = 7) (xs0 : Vec F S528x512 .f32) (xs1 xs2 : Vec F S2x640x128 .bf16) (xs4 : Vec F S2x512x256 .f32) (xs6 : Vec F S512x1024 .bf16) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun e => by have := (hcond0_0 t).mp e; omega) (fun e => by have := (hcond0_1 t).mp e; omega) ((hcond0_2 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1 xs2 xs4 xs6

theorem coverC_x1 (c : Dev nD) (t : Fin cfg0.N) (h : t.val % 8 = 7) (xs0 : Vec F S528x512 .f32) (xs1 xs2 : Vec F S2x640x128 .bf16) (xs4 : Vec F S2x512x256 .f32) (xs6 : Vec F S512x1024 .bf16) (y : S512x1024.Idx) :
    ∃ pc ∈ (runC m c t h xs0 xs1 xs2 xs4 xs6).1, y ∈ pc.1.set :=
  View.cover_of_tiledL (runC m c t h xs0 xs1 xs2 xs4 xs6).1 S512x256.size (by sl_kernel_rfl) y
theorem coverC_kt (c : Dev nD) (t : Fin cfg0.N) (h : t.val % 8 = 7) (xs0 : Vec F S528x512 .f32) (xs1 xs2 : Vec F S2x640x128 .bf16) (xs4 : Vec F S2x512x256 .f32) (xs6 : Vec F S512x1024 .bf16) (y : S1x128x128.Idx) :
    ∃ pc ∈ (runC m c t h xs0 xs1 xs2 xs4 xs6).2.1, y ∈ pc.1.set :=
  View.cover_of_tiledL (runC m c t h xs0 xs1 xs2 xs4 xs6).2.1 S1x128x128.size (by sl_kernel_rfl) y
theorem coverC_vt (c : Dev nD) (t : Fin cfg0.N) (h : t.val % 8 = 7) (xs0 : Vec F S528x512 .f32) (xs1 xs2 : Vec F S2x640x128 .bf16) (xs4 : Vec F S2x512x256 .f32) (xs6 : Vec F S512x1024 .bf16) (y : S1x128x128.Idx) :
    ∃ pc ∈ (runC m c t h xs0 xs1 xs2 xs4 xs6).2.2.1, y ∈ pc.1.set :=
  View.cover_of_tiledL (runC m c t h xs0 xs1 xs2 xs4 xs6).2.2.1 S1x128x128.size (by sl_kernel_rfl) y
theorem coverC_uext (c : Dev nD) (t : Fin cfg0.N) (h : t.val % 8 = 7) (xs0 : Vec F S528x512 .f32) (xs1 xs2 : Vec F S2x640x128 .bf16) (xs4 : Vec F S2x512x256 .f32) (xs6 : Vec F S512x1024 .bf16) (y : S528x512.Idx) :
    ∃ pc ∈ (runC m c t h xs0 xs1 xs2 xs4 xs6).2.2.2.1, y ∈ pc.1.set :=
  View.cover_of_tiledBy (runC m c t h xs0 xs1 xs2 xs4 xs6).2.2.2.1 ![16, 512] (by sl_kernel_rfl) y
theorem coverC_kdup (c : Dev nD) (t : Fin cfg0.N) (h : t.val % 8 = 7) (xs0 : Vec F S528x512 .f32) (xs1 xs2 : Vec F S2x640x128 .bf16) (xs4 : Vec F S2x512x256 .f32) (xs6 : Vec F S512x1024 .bf16) (y : S2x640x128.Idx) :
    ∃ pc ∈ (runC m c t h xs0 xs1 xs2 xs4 xs6).2.2.2.2.1, y ∈ pc.1.set :=
  View.cover_of_tiledBy (runC m c t h xs0 xs1 xs2 xs4 xs6).2.2.2.2.1 ![1, 128, 128] (by sl_kernel_rfl) y
theorem coverC_vdup (c : Dev nD) (t : Fin cfg0.N) (h : t.val % 8 = 7) (xs0 : Vec F S528x512 .f32) (xs1 xs2 : Vec F S2x640x128 .bf16) (xs4 : Vec F S2x512x256 .f32) (xs6 : Vec F S512x1024 .bf16) (y : S2x640x128.Idx) :
    ∃ pc ∈ (runC m c t h xs0 xs1 xs2 xs4 xs6).2.2.2.2.2.1, y ∈ pc.1.set :=
  View.cover_of_tiledBy (runC m c t h xs0 xs1 xs2 xs4 xs6).2.2.2.2.2.1 ![1, 128, 128] (by sl_kernel_rfl) y
theorem coverC_mixed (c : Dev nD) (t : Fin cfg0.N) (h : t.val % 8 = 7) (xs0 : Vec F S528x512 .f32) (xs1 xs2 : Vec F S2x640x128 .bf16) (xs4 : Vec F S2x512x256 .f32) (xs6 : Vec F S512x1024 .bf16) (y : S512x1024.Idx) :
    ∃ pc ∈ (runC m c t h xs0 xs1 xs2 xs4 xs6).2.2.2.2.2.2.2.1, y ∈ pc.1.set :=
  View.cover_of_tiledL (runC m c t h xs0 xs1 xs2 xs4 xs6).2.2.2.2.2.2.2.1 S256x1024.size (by sl_kernel_rfl) y

/-- What the last tile of a sequence leaves, over what the point before left. -/
def leftC (c : Dev nD) (t : Fin cfg0.N) (h : t.val % 8 = 7) (p : Left F) : Left F where
  x1 := VO0_12.read (Elt F) (VO0_12.writes (Elt F) VO0_12.junk (runC m c t h p.uext p.kdup p.vdup p.bias p.mixed).1)
  kt := VO0_13.read (Elt F) (VO0_13.writes (Elt F) VO0_13.junk (runC m c t h p.uext p.kdup p.vdup p.bias p.mixed).2.1)
  vt := VO0_14.read (Elt F) (VO0_14.writes (Elt F) VO0_14.junk (runC m c t h p.uext p.kdup p.vdup p.bias p.mixed).2.2.1)
  uext := VS0_0.read (Elt F) (VS0_0.writes (Elt F) VS0_0.junk (runC m c t h p.uext p.kdup p.vdup p.bias p.mixed).2.2.2.1)
  kdup := VS0_1.read (Elt F) (VS0_1.writes (Elt F) VS0_1.junk (runC m c t h p.uext p.kdup p.vdup p.bias p.mixed).2.2.2.2.1)
  vdup := VS0_2.read (Elt F) (VS0_2.writes (Elt F) VS0_2.junk (runC m c t h p.uext p.kdup p.vdup p.bias p.mixed).2.2.2.2.2.1)
  bias := p.bias
  mixed := VS0_6.read (Elt F) (VS0_6.writes (Elt F) VS0_6.junk (runC m c t h p.uext p.kdup p.vdup p.bias p.mixed).2.2.2.2.2.2.2.1)

/-- The run at the first tile of a later sequence. -/
abbrev runD (c : Dev nD) (t : Fin cfg0.N) (h : t.val % 8 = 0) (hz : ¬t.val = 0) (xs6 : Vec F S512x1024 .bf16) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun e => hz ((hcond0_0 t).mp e)) ((hcond0_1 t).mpr h) (fun e => by have := (hcond0_2 t).mp e; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs6

theorem coverD_x1 (c : Dev nD) (t : Fin cfg0.N) (h : t.val % 8 = 0) (hz : ¬t.val = 0) (xs6 : Vec F S512x1024 .bf16) (y : S512x1024.Idx) :
    ∃ pc ∈ (runD m c t h hz xs6).1, y ∈ pc.1.set :=
  View.cover_of_tiledL (runD m c t h hz xs6).1 S512x256.size (by sl_kernel_rfl) y
theorem coverD_uext (c : Dev nD) (t : Fin cfg0.N) (h : t.val % 8 = 0) (hz : ¬t.val = 0) (xs6 : Vec F S512x1024 .bf16) (y : S528x512.Idx) :
    ∃ pc ∈ (runD m c t h hz xs6).2.2.2.1, y ∈ pc.1.set :=
  View.cover_of_tiledBy (runD m c t h hz xs6).2.2.2.1 ![16, 512] (by sl_kernel_rfl) y
theorem coverD_kdup (c : Dev nD) (t : Fin cfg0.N) (h : t.val % 8 = 0) (hz : ¬t.val = 0) (xs6 : Vec F S512x1024 .bf16) (y : S2x640x128.Idx) :
    ∃ pc ∈ (runD m c t h hz xs6).2.2.2.2.1, y ∈ pc.1.set :=
  View.cover_of_tiledBy (runD m c t h hz xs6).2.2.2.2.1 ![1, 128, 128] (by sl_kernel_rfl) y
theorem coverD_vdup (c : Dev nD) (t : Fin cfg0.N) (h : t.val % 8 = 0) (hz : ¬t.val = 0) (xs6 : Vec F S512x1024 .bf16) (y : S2x640x128.Idx) :
    ∃ pc ∈ (runD m c t h hz xs6).2.2.2.2.2.1, y ∈ pc.1.set :=
  View.cover_of_tiledBy (runD m c t h hz xs6).2.2.2.2.2.1 ![1, 128, 128] (by sl_kernel_rfl) y
theorem coverD_bias (c : Dev nD) (t : Fin cfg0.N) (h : t.val % 8 = 0) (hz : ¬t.val = 0) (xs6 : Vec F S512x1024 .bf16) (y : S2x512x256.Idx) :
    ∃ pc ∈ (runD m c t h hz xs6).2.2.2.2.2.2.1, y ∈ pc.1.set :=
  View.cover_of_tiledL (runD m c t h hz xs6).2.2.2.2.2.2.1 S1x512x256.size (by sl_kernel_rfl) y
theorem coverD_mixed (c : Dev nD) (t : Fin cfg0.N) (h : t.val % 8 = 0) (hz : ¬t.val = 0) (xs6 : Vec F S512x1024 .bf16) (y : S512x1024.Idx) :
    ∃ pc ∈ (runD m c t h hz xs6).2.2.2.2.2.2.2.1, y ∈ pc.1.set :=
  View.cover_of_tiledL (runD m c t h hz xs6).2.2.2.2.2.2.2.1 S256x1024.size (by sl_kernel_rfl) y

/-- What the first tile of a later sequence leaves, over what the point before left. -/
def leftD (c : Dev nD) (t : Fin cfg0.N) (h : t.val % 8 = 0) (hz : ¬t.val = 0) (p : Left F) : Left F where
  x1 := VO0_12.read (Elt F) (VO0_12.writes (Elt F) VO0_12.junk (runD m c t h hz p.mixed).1)
  kt := p.kt
  vt := p.vt
  uext := VS0_0.read (Elt F) (VS0_0.writes (Elt F) VS0_0.junk (runD m c t h hz p.mixed).2.2.2.1)
  kdup := VS0_1.read (Elt F) (VS0_1.writes (Elt F) VS0_1.junk (runD m c t h hz p.mixed).2.2.2.2.1)
  vdup := VS0_2.read (Elt F) (VS0_2.writes (Elt F) VS0_2.junk (runD m c t h hz p.mixed).2.2.2.2.2.1)
  bias := VS0_4.read (Elt F) (VS0_4.writes (Elt F) VS0_4.junk (runD m c t h hz p.mixed).2.2.2.2.2.2.1)
  mixed := VS0_6.read (Elt F) (VS0_6.writes (Elt F) VS0_6.junk (runD m c t h hz p.mixed).2.2.2.2.2.2.2.1)

/-- What the buffers hold after the body at position `n`. -/
def left (c : Dev nD) : (n : ℕ) → n < cfg0.N → Left F
  | 0, hn => leftA m c ⟨0, hn⟩ rfl
  | n + 1, hn =>
    if h1 : (n + 1) % 8 = 0 then leftD m c ⟨n + 1, hn⟩ h1 (Nat.succ_ne_zero n) (left c n (Nat.lt_of_succ_lt hn))
    else if h2 : (n + 1) % 8 = 7 then leftC m c ⟨n + 1, hn⟩ h2 (left c n (Nat.lt_of_succ_lt hn))
    else leftB m c ⟨n + 1, hn⟩ h1 h2 (left c n (Nat.lt_of_succ_lt hn))

theorem left_A (c : Dev nD) (t : Fin cfg0.N) (h : t.val = 0) : left m c t.val t.isLt = leftA m c t h := by
  obtain ⟨n, hn⟩ := t; obtain rfl : n = 0 := h; rfl

theorem left_B (c : Dev nD) (t : Fin cfg0.N) (h1 : ¬t.val % 8 = 0) (h2 : ¬t.val % 8 = 7) :
    left m c t.val t.isLt = leftB m c t h1 h2 (left m c (t.val - 1) (by omega)) := by
  obtain ⟨n, hn⟩ := t
  cases n with
  | zero => exact absurd rfl h1
  | succ n => exact (dif_neg h1).trans (dif_neg h2)

theorem left_C (c : Dev nD) (t : Fin cfg0.N) (h : t.val % 8 = 7) :
    left m c t.val t.isLt = leftC m c t h (left m c (t.val - 1) (by omega)) := by
  obtain ⟨n, hn⟩ := t
  cases n with
  | zero => exact absurd h (show ¬(0 % 8 = 7) by decide)
  | succ n => exact (dif_neg (by dsimp only at h; omega)).trans (dif_pos h)

theorem left_D (c : Dev nD) (t : Fin cfg0.N) (h : t.val % 8 = 0) (hz : ¬t.val = 0) :
    left m c t.val t.isLt = leftD m c t h hz (left m c (t.val - 1) (by omega)) := by
  obtain ⟨n, hn⟩ := t
  cases n with
  | zero => exact absurd rfl hz
  | succ n => exact dif_pos h

end Cert.MixIdeal.Gen

end
-- ==== Proof.MixFrame.lean ====
/- The mixing kernel's pipeline: what its buffers hold at every point, the body at every point, the run and the frame. -/
module

public import proofs.«01_k».proof.Proof.MixKit
public import Idealize.ShloMosaic.Lib.Claim

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch between two points: what the point before left in the carried buffers, the others at anything. -/
def carried (c : Dev nD) (p : Left F) : sProp 𝕄 :=
  iprop(iprop(owns (c : Thread nD τ) scM0_0 fullShare p.uext ∗ owns (c : Thread nD τ) scM0_1 fullShare p.kdup ∗ owns (c : Thread nD τ) scM0_2 fullShare p.vdup ∗ (∃ d, owns (c : Thread nD τ) scM0_3 fullShare d) ∗ owns (c : Thread nD τ) scM0_4 fullShare p.bias ∗ (∃ d, owns (c : Thread nD τ) scM0_5 fullShare d) ∗ owns (c : Thread nD τ) scM0_6 fullShare p.mixed) ∗ (∃ r, prngReg c r))

/-- Before point `n`: at the first point every scratch buffer at anything. -/
def PhiS (c : Dev nD) : (n : ℕ) → n ≤ cfg0.N → sProp 𝕄
  | 0, _ => Pipeline.ΦA spec0 c
  | n + 1, hn => carried c (left m c n hn)

theorem PhiS_pos (c : Dev nD) (n : ℕ) (h : n ≤ cfg0.N) (hz : n ≠ 0) :
    PhiS m c n h = carried c (left m c (n - 1) (by omega)) := by
  cases n with
  | zero => exact absurd rfl hz
  | succ n => rfl

/-- The proof data: inputs stay at their blocks, the outputs' buffers at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (left m c t.val t.isLt).x1
    | ⟨13, _⟩ => (left m c t.val t.isLt).kt
    | ⟨14, _⟩ => (left m c t.val t.isLt).vt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (left m c t.val t.isLt).x1 := by dsimp only [dats]
theorem after0_13 (c : Dev nD) (t : Fin cfg0.N) : (dats m 0 c).after 13 t = (left m c t.val t.isLt).kt := by dsimp only [dats]
theorem after0_14 (c : Dev nD) (t : Fin cfg0.N) : (dats m 0 c).after 14 t = (left m c t.val t.isLt).vt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- The last point stores nothing into window 13 and writes it back: it still holds what the last tile left. -/
theorem before0_13_last (c : Dev nD) (t : Fin cfg0.N) (ht : t.val = 64) (d) :
    (dats m 0 c).before 13 t d = (dats m 0 c).after 13 t := by
  have hp : ∀ t : Fin cfg0.N, t.val = 63 → (cfg0.win 13).flush t = false ∧ cfg0.idle 13 (grid0.coords t) = false :=
    (by decide +kernel : ∀ t : Fin grid0.N, t.val = 63 → (cfg0.win 13).flush t = false ∧ cfg0.idle 13 (grid0.coords t) = false)
  obtain ⟨hf, hi⟩ := hp ⟨t.val - 1, by omega⟩ (by show t.val - 1 = 63; omega)
  rw [(dats m 0 c).before_of_pos 13 t (by omega) ((cfg0.win 13).fetch_out rfl t), hf, if_neg Bool.false_ne_true]
  unfold Dat.left
  rw [hi]
  show (dats m 0 c).kept 13 _ d = _
  unfold Dat.kept
  rw [Pipeline.fill_of_clip_none 13 _ (fun _ => rfl) d ((dats m 0 c).after 13 _), Window.fill_cut, after0_13, after0_13,
    left_D m c t (by omega) (by omega)]
  rfl

/-- Where the body stores nothing into window 13, the window ends as the pipeline's post asks. -/
theorem keep0_13 (c : Dev nD) (t : Fin cfg0.N) (h : ¬t.val % 8 = 7) (d) :
    owns (c : Thread nD τ) (ms0_13 t) fullShare ((dats m 0 c).before 13 t d) ⊢ (dats m 0 c).leavesExact 13 t := by
  have hi : ∀ t : Fin cfg0.N, ¬t.val % 8 = 7 → cfg0.idle 13 (grid0.coords t) = true :=
    (by decide +kernel : ∀ t : Fin grid0.N, ¬t.val % 8 = 7 → cfg0.idle 13 (grid0.coords t) = true)
  have hn : ∀ t : Fin cfg0.N, ¬t.val % 8 = 7 → ¬t.val = 64 → (cfg0.win 13).flush t = false :=
    (by decide +kernel : ∀ t : Fin grid0.N, ¬t.val % 8 = 7 → ¬t.val = 64 → (cfg0.win 13).flush t = false)
  have hl : ∀ t : Fin cfg0.N, t.val = 64 → (cfg0.win 13).flush t = true :=
    (by decide +kernel : ∀ t : Fin grid0.N, t.val = 64 → (cfg0.win 13).flush t = true)
  by_cases ht : t.val = 64
  · rw [before0_13_last m c t ht]
    unfold Dat.leavesExact
    rw [hi t h, hl t ht]

  · rw [Dat.leavesExact_idle (dats m 0 c) 13 t (hi t h) (hn t h ht)]
    iintro H
    iexists d; iexact H

/-- The last point stores nothing into window 14 and writes it back: it still holds what the last tile left. -/
theorem before0_14_last (c : Dev nD) (t : Fin cfg0.N) (ht : t.val = 64) (d) :
    (dats m 0 c).before 14 t d = (dats m 0 c).after 14 t := by
  have hp : ∀ t : Fin cfg0.N, t.val = 63 → (cfg0.win 14).flush t = false ∧ cfg0.idle 14 (grid0.coords t) = false :=
    (by decide +kernel : ∀ t : Fin grid0.N, t.val = 63 → (cfg0.win 14).flush t = false ∧ cfg0.idle 14 (grid0.coords t) = false)
  obtain ⟨hf, hi⟩ := hp ⟨t.val - 1, by omega⟩ (by show t.val - 1 = 63; omega)
  rw [(dats m 0 c).before_of_pos 14 t (by omega) ((cfg0.win 14).fetch_out rfl t), hf, if_neg Bool.false_ne_true]
  unfold Dat.left
  rw [hi]
  show (dats m 0 c).kept 14 _ d = _
  unfold Dat.kept
  rw [Pipeline.fill_of_clip_none 14 _ (fun _ => rfl) d ((dats m 0 c).after 14 _), Window.fill_cut, after0_14, after0_14,
    left_D m c t (by omega) (by omega)]
  rfl

/-- Where the body stores nothing into window 14, the window ends as the pipeline's post asks. -/
theorem keep0_14 (c : Dev nD) (t : Fin cfg0.N) (h : ¬t.val % 8 = 7) (d) :
    owns (c : Thread nD τ) (ms0_14 t) fullShare ((dats m 0 c).before 14 t d) ⊢ (dats m 0 c).leavesExact 14 t := by
  have hi : ∀ t : Fin cfg0.N, ¬t.val % 8 = 7 → cfg0.idle 14 (grid0.coords t) = true :=
    (by decide +kernel : ∀ t : Fin grid0.N, ¬t.val % 8 = 7 → cfg0.idle 14 (grid0.coords t) = true)
  have hn : ∀ t : Fin cfg0.N, ¬t.val % 8 = 7 → ¬t.val = 64 → (cfg0.win 14).flush t = false :=
    (by decide +kernel : ∀ t : Fin grid0.N, ¬t.val % 8 = 7 → ¬t.val = 64 → (cfg0.win 14).flush t = false)
  have hl : ∀ t : Fin cfg0.N, t.val = 64 → (cfg0.win 14).flush t = true :=
    (by decide +kernel : ∀ t : Fin grid0.N, t.val = 64 → (cfg0.win 14).flush t = true)
  by_cases ht : t.val = 64
  · rw [before0_14_last m c t ht]
    unfold Dat.leavesExact
    rw [hi t h, hl t ht]

  · rw [Dat.leavesExact_idle (dats m 0 c) 14 t (hi t h) (hn t h ht)]
    iintro H
    iexists d; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- A window the body never skips ends at its contents after the point. -/
theorem leaves0_0 (c : Dev nD) (t : Fin cfg0.N) : (dats m 0 c).leavesExact 0 t = owns (c : Thread nD τ) (ms0_0 t) fullShare ((dats m 0 c).after 0 t) := rfl
theorem leaves0_1 (c : Dev nD) (t : Fin cfg0.N) : (dats m 0 c).leavesExact 1 t = owns (c : Thread nD τ) (ms0_1 t) fullShare ((dats m 0 c).after 1 t) := rfl
theorem leaves0_2 (c : Dev nD) (t : Fin cfg0.N) : (dats m 0 c).leavesExact 2 t = owns (c : Thread nD τ) (ms0_2 t) fullShare ((dats m 0 c).after 2 t) := rfl
theorem leaves0_3 (c : Dev nD) (t : Fin cfg0.N) : (dats m 0 c).leavesExact 3 t = owns (c : Thread nD τ) (ms0_3 t) fullShare ((dats m 0 c).after 3 t) := rfl
theorem leaves0_4 (c : Dev nD) (t : Fin cfg0.N) : (dats m 0 c).leavesExact 4 t = owns (c : Thread nD τ) (ms0_4 t) fullShare ((dats m 0 c).after 4 t) := rfl
theorem leaves0_5 (c : Dev nD) (t : Fin cfg0.N) : (dats m 0 c).leavesExact 5 t = owns (c : Thread nD τ) (ms0_5 t) fullShare ((dats m 0 c).after 5 t) := rfl
theorem leaves0_6 (c : Dev nD) (t : Fin cfg0.N) : (dats m 0 c).leavesExact 6 t = owns (c : Thread nD τ) (ms0_6 t) fullShare ((dats m 0 c).after 6 t) := rfl
theorem leaves0_7 (c : Dev nD) (t : Fin cfg0.N) : (dats m 0 c).leavesExact 7 t = owns (c : Thread nD τ) (ms0_7 t) fullShare ((dats m 0 c).after 7 t) := rfl
theorem leaves0_8 (c : Dev nD) (t : Fin cfg0.N) : (dats m 0 c).leavesExact 8 t = owns (c : Thread nD τ) (ms0_8 t) fullShare ((dats m 0 c).after 8 t) := rfl
theorem leaves0_9 (c : Dev nD) (t : Fin cfg0.N) : (dats m 0 c).leavesExact 9 t = owns (c : Thread nD τ) (ms0_9 t) fullShare ((dats m 0 c).after 9 t) := rfl
theorem leaves0_10 (c : Dev nD) (t : Fin cfg0.N) : (dats m 0 c).leavesExact 10 t = owns (c : Thread nD τ) (ms0_10 t) fullShare ((dats m 0 c).after 10 t) := rfl
theorem leaves0_11 (c : Dev nD) (t : Fin cfg0.N) : (dats m 0 c).leavesExact 11 t = owns (c : Thread nD τ) (ms0_11 t) fullShare ((dats m 0 c).after 11 t) := rfl
theorem leaves0_12 (c : Dev nD) (t : Fin cfg0.N) : (dats m 0 c).leavesExact 12 t = owns (c : Thread nD τ) (ms0_12 t) fullShare ((dats m 0 c).after 12 t) := rfl
theorem leaves0_13 (c : Dev nD) (t : Fin cfg0.N) (h : t.val % 8 = 7) : (dats m 0 c).leavesExact 13 t = owns (c : Thread nD τ) (ms0_13 t) fullShare ((dats m 0 c).after 13 t) := by
  unfold Dat.leavesExact
  rw [(by decide +kernel : ∀ t : Fin grid0.N, t.val % 8 = 7 → cfg0.idle 13 (grid0.coords t) = false) t h]
theorem leaves0_14 (c : Dev nD) (t : Fin cfg0.N) (h : t.val % 8 = 7) : (dats m 0 c).leavesExact 14 t = owns (c : Thread nD τ) (ms0_14 t) fullShare ((dats m 0 c).after 14 t) := by
  unfold Dat.leavesExact
  rw [(by decide +kernel : ∀ t : Fin grid0.N, t.val % 8 = 7 → cfg0.idle 14 (grid0.coords t) = false) t h]

set_option maxHeartbeats 8000000 in
/-- The body at the first grid point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = carried c (left m c t.val t.isLt) from rfl, leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12]
  rw [PhiS_castSucc m c t, show PhiS m c t.val (Nat.le_of_lt t.isLt) = Pipeline.ΦA spec0 c from by obtain ⟨n, hn⟩ := t; obtain rfl : n = 0 := h; rfl, PhiA0_eq]
  rw [left_A m c t h]
  unfold carried leftA; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runA m c t h ).2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, ⟨%e12, H12⟩, H13, H14, ⟨%es0, HS0⟩, ⟨%es1, HS1⟩, ⟨%es2, HS2⟩, ⟨%fT3, HS3⟩, ⟨%es4, HS4⟩, ⟨%fT5, HS5⟩, ⟨%es6, HS6⟩⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (coverA_uext m c t h)
      isplitl [HS1]
      · unfold owns; iexists _; isplitr
        swap; · iexact HS1
        ipureintro; exact View.read_writes_of_cover _ _ _ _ _ (coverA_kdup m c t h)
      isplitl [HS2]
      · unfold owns; iexists _; isplitr
        swap; · iexact HS2
        ipureintro; exact View.read_writes_of_cover _ _ _ _ _ (coverA_vdup m c t h)
      isplitl [HS3]
      · iexists _; unfold owns; iexists _; isplitr
        swap; · iexact HS3
        ipureintro; rfl
      isplitl [HS4]
      · unfold owns; iexists _; isplitr
        swap; · iexact HS4
        ipureintro; exact View.read_writes_of_cover _ _ _ _ _ (coverA_bias m c t h)
      isplitl [HS5]
      · iexists _; unfold owns; iexists _; isplitr
        swap; · iexact HS5
        ipureintro; rfl
      unfold owns; iexists _; isplitr
      swap; · iexact HS6
      ipureintro; exact View.read_writes_of_cover _ _ _ _ _ (coverA_mixed m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (coverA_x1 m c t h)
  isplitl [H13]; · iapply (keep0_13 m c t (by omega) d13); iexact H13
  iapply (keep0_14 m c t (by omega) d14); iexact H14

set_option maxHeartbeats 8000000 in
/-- The body at an inner tile of a sequence. -/
theorem sound_B (c : Dev nD) (t : Fin cfg0.N) (h1 : ¬t.val % 8 = 0) (h2 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = carried c (left m c t.val t.isLt) from rfl, leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12]
  rw [PhiS_castSucc m c t, PhiS_pos m c _ _ (fun e => h1 (by rw [e]))]
  rw [left_B m c t h1 h2]
  unfold carried leftB; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runB m c t h1 h2 (left m c (t.val - 1) (by omega)).uext (left m c (t.val - 1) (by omega)).kdup (left m c (t.val - 1) (by omega)).vdup (left m c (t.val - 1) (by omega)).bias (left m c (t.val - 1) (by omega)).mixed).2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, ⟨%e12, H12⟩, H13, H14, ⟨%es0, HS0⟩, ⟨%es1, HS1⟩, ⟨%es2, HS2⟩, ⟨%fT3, HS3⟩, HS4, ⟨%fT5, HS5⟩, ⟨%es6, HS6⟩⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (coverB_uext m c t h1 h2 _ _ _ _ _)
      isplitl [HS1]
      · unfold owns; iexists _; isplitr
        swap; · iexact HS1
        ipureintro; exact View.read_writes_of_cover _ _ _ _ _ (coverB_kdup m c t h1 h2 _ _ _ _ _)
      isplitl [HS2]
      · unfold owns; iexists _; isplitr
        swap; · iexact HS2
        ipureintro; exact View.read_writes_of_cover _ _ _ _ _ (coverB_vdup m c t h1 h2 _ _ _ _ _)
      isplitl [HS3]
      · iexists _; unfold owns; iexists _; isplitr
        swap; · iexact HS3
        ipureintro; rfl
      isplitl [HS4]
      · iexact HS4
      isplitl [HS5]
      · iexists _; unfold owns; iexists _; isplitr
        swap; · iexact HS5
        ipureintro; rfl
      unfold owns; iexists _; isplitr
      swap; · iexact HS6
      ipureintro; exact View.read_writes_of_cover _ _ _ _ _ (coverB_mixed m c t h1 h2 _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (coverB_x1 m c t h1 h2 _ _ _ _ _)
  isplitl [H13]; · iapply (keep0_13 m c t h2 d13); iexact H13
  iapply (keep0_14 m c t h2 d14); iexact H14

set_option maxHeartbeats 8000000 in
/-- The body at the last tile of a sequence. -/
theorem sound_C (c : Dev nD) (t : Fin cfg0.N) (h : t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = carried c (left m c t.val t.isLt) from rfl, leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12]
  rw [leaves0_13 m c t h, leaves0_14 m c t h, after0_13, after0_14]
  rw [PhiS_castSucc m c t, PhiS_pos m c _ _ (by omega)]
  rw [left_C m c t h]
  unfold carried leftC; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runC m c t h (left m c (t.val - 1) (by omega)).uext (left m c (t.val - 1) (by omega)).kdup (left m c (t.val - 1) (by omega)).vdup (left m c (t.val - 1) (by omega)).bias (left m c (t.val - 1) (by omega)).mixed).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, ⟨%e12, H12⟩, ⟨%e13, H13⟩, ⟨%e14, H14⟩, ⟨%es0, HS0⟩, ⟨%es1, HS1⟩, ⟨%es2, HS2⟩, ⟨%fT3, HS3⟩, HS4, ⟨%fT5, HS5⟩, ⟨%es6, HS6⟩⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (coverC_uext m c t h _ _ _ _ _)
      isplitl [HS1]
      · unfold owns; iexists _; isplitr
        swap; · iexact HS1
        ipureintro; exact View.read_writes_of_cover _ _ _ _ _ (coverC_kdup m c t h _ _ _ _ _)
      isplitl [HS2]
      · unfold owns; iexists _; isplitr
        swap; · iexact HS2
        ipureintro; exact View.read_writes_of_cover _ _ _ _ _ (coverC_vdup m c t h _ _ _ _ _)
      isplitl [HS3]
      · iexists _; unfold owns; iexists _; isplitr
        swap; · iexact HS3
        ipureintro; rfl
      isplitl [HS4]
      · iexact HS4
      isplitl [HS5]
      · iexists _; unfold owns; iexists _; isplitr
        swap; · iexact HS5
        ipureintro; rfl
      unfold owns; iexists _; isplitr
      swap; · iexact HS6
      ipureintro; exact View.read_writes_of_cover _ _ _ _ _ (coverC_mixed m c t h _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (coverC_x1 m c t h _ _ _ _ _)
  isplitl [H13]
  · unfold owns; iexists _; isplitr
    swap; · iexact H13
    ipureintro; exact View.read_writes_of_cover _ _ _ _ _ (coverC_kt m c t h _ _ _ _ _)
  unfold owns; iexists _; isplitr
  swap; · iexact H14
  ipureintro; exact View.read_writes_of_cover _ _ _ _ _ (coverC_vt m c t h _ _ _ _ _)

set_option maxHeartbeats 8000000 in
/-- The body at the first tile of a later sequence. -/
theorem sound_D (c : Dev nD) (t : Fin cfg0.N) (h : t.val % 8 = 0) (hz : ¬t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = carried c (left m c t.val t.isLt) from rfl, leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12]
  rw [PhiS_castSucc m c t, PhiS_pos m c _ _ hz]
  rw [left_D m c t h hz]
  unfold carried leftD; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runD m c t h hz (left m c (t.val - 1) (by omega)).mixed).2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  isplitl [HS0]; · iexists _; iexact HS0
  isplitl [HS1]; · iexists _; iexact HS1
  isplitl [HS2]; · iexists _; iexact HS2
  isplitl [HS3]; · iexact HS3
  isplitl [HS4]; · iexists _; iexact HS4
  isplitl [HS5]; · iexact HS5
  isplitl [HS6]; · iexact HS6
  iintro ⟨H0, H1, H2, H3, H4, H5, H6, H7, H8, H9, H10, H11, ⟨%e12, H12⟩, H13, H14, ⟨%es0, HS0⟩, ⟨%es1, HS1⟩, ⟨%es2, HS2⟩, ⟨%fT3, HS3⟩, ⟨%es4, HS4⟩, ⟨%fT5, HS5⟩, ⟨%es6, HS6⟩⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact View.read_writes_of_cover _ _ _ _ _ (coverD_uext m c t h hz _)
      isplitl [HS1]
      · unfold owns; iexists _; isplitr
        swap; · iexact HS1
        ipureintro; exact View.read_writes_of_cover _ _ _ _ _ (coverD_kdup m c t h hz _)
      isplitl [HS2]
      · unfold owns; iexists _; isplitr
        swap; · iexact HS2
        ipureintro; exact View.read_writes_of_cover _ _ _ _ _ (coverD_vdup m c t h hz _)
      isplitl [HS3]
      · iexists _; unfold owns; iexists _; isplitr
        swap; · iexact HS3
        ipureintro; rfl
      isplitl [HS4]
      · unfold owns; iexists _; isplitr
        swap; · iexact HS4
        ipureintro; exact View.read_writes_of_cover _ _ _ _ _ (coverD_bias m c t h hz _)
      isplitl [HS5]
      · iexists _; unfold owns; iexists _; isplitr
        swap; · iexact HS5
        ipureintro; rfl
      unfold owns; iexists _; isplitr
      swap; · iexact HS6
      ipureintro; exact View.read_writes_of_cover _ _ _ _ _ (coverD_mixed m c t h hz _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (coverD_x1 m c t h hz _)
  isplitl [H13]; · iapply (keep0_13 m c t (by omega) d13); iexact H13
  iapply (keep0_14 m c t (by omega) d14); iexact H14

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_A m c t hz
  by_cases h1 : t.val % 8 = 0
  · exact sound_D m c t h1 hz
  by_cases h2 : t.val % 8 = 7
  · exact sound_C m c t h2
  · exact sound_B m c t h1 h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 :=
  Idealize.SL.BI.Entails.refl _

/-- After the last point the carried scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 65 := N_0; omega), PhiA0_eq]
  unfold carried
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexists _; iexact HS2
    isplitl [HS3]
    · iexact HS3
    isplitl [HS4]
    · iexists _; iexact HS4
    isplitl [HS5]
    · iexact HS5
    iexists _; iexact HS6
  iexact Hg

set_option backward.isDefEq.respectTransparency.types false in
/-- The run: every array of the pipeline ends at what the proof data computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.MixIdeal.Gen

end
-- ==== Proof.MixTile.lean ====
/- The mixing kernel's work on one tile, written once: from the rows it loads (named in `Loads`), the 512 rows of the gated
   mix it leaves in its scratch buffer. The kernel's eight attention units are two computations, one per key head; its two
   halves of the merge are one. -/
module

public import proofs.«01_k».proof.Proof.MixFrame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MixIdeal.Rows

open Idealize.ShloMosaic Idealize.ShloMosaic.TcCoe
open Cert.MixIdeal Cert.MixIdeal.Gen

variable {F : FTy → Type} [FloatOps F] [Named F]

/-- What a grid point loads: the sinks, and per block of 128 rows the queries, the two key heads' keys and values
    (the first block's, half of them the tile before's, apart), the mask; per pooling group its rows, weights and scales; the two branches' projections and the gates. -/
structure Loads (F : FTy → Type) where
  i : BitVec 32
  sk : Fin 8 → Elt F .f32
  q : Fin 4 → Vec F S128x512 .f32
  kd0 : Fin 2 → Vec F S1x256x128 .bf16
  kd : Fin 2 → Fin 4 → Vec F S1x256x128 .bf16
  vd0 : Fin 2 → Vec F S1x256x128 .bf16
  vd : Fin 2 → Fin 4 → Vec F S1x256x128 .bf16
  bs : Fin 4 → Vec F S1x512x256 .f32
  xe : Fin 4 → Vec F S528x128 .f32
  wp : Fin 4 → Vec F S1x128x128 .bf16
  ps : Fin 4 → Vec F S1x128 .f32
  wbp : Fin 2 → Vec F S512x512 .bf16
  wba : Vec F S512x1024 .bf16
  gl : Fin 2 → Vec F S256x2048 .f32

/-- The scaled sinks of the first key head's four query heads, one per 128 rows. -/
def sink0 (L : Loads F) : FVec F S512x1 .f32 := k0_pay23 (k0_pay22 (L.sk 3) (L.sk 2) (L.sk 1) (L.sk 0))
/-- The second key head's. -/
def sink1 (L : Loads F) : FVec F S512x1 .f32 := k0_pay24 (L.sk 7) (L.sk 6) (L.sk 5) (L.sk 4)

/-- The first key head's logits of a block of queries. -/
def score0 (q : Vec F S128x512 .f32) (kd : Vec F S1x256x128 .bf16) (bs : Vec F S1x512x256 .f32) : FVec F S512x256 .f32 :=
  k0_pay29 (k0_pay26 q) (k0_pay27 kd) (k0_pay28 bs) (iota .tc S128x128 32 [1] iota_S128x128_d1_w32)
/-- The second key head's. -/
def score1 (q : Vec F S128x512 .f32) (kd : Vec F S1x256x128 .bf16) (bs : Vec F S1x512x256 .f32) : FVec F S512x256 .f32 :=
  k0_pay43 (k0_pay37 q) (k0_pay38 kd) (k0_pay39 bs) k0_pay40 k0_pay41 k0_pay42

/-- The attention output of a block of queries, from its logits. -/
def attend (sk : FVec F S512x1 .f32) (s : FVec F S512x256 .f32) (vd : Vec F S1x256x128 .bf16) : FVec F S128x256 .f32 :=
  k0_pay47 (k0_pay35 sk s) (k0_pay36 sk s) vd

/-- A block's output for the first key head, from its keys and values. -/
def unit0 (L : Loads F) (kd vd : Vec F S1x256x128 .bf16) (nb : Fin 4) : FVec F S128x256 .f32 :=
  attend (sink0 L) (score0 (L.q nb) kd (L.bs nb)) vd
/-- For the second. -/
def unit1 (L : Loads F) (kd vd : Vec F S1x256x128 .bf16) (nb : Fin 4) : FVec F S128x256 .f32 :=
  attend (sink1 L) (score1 (L.q nb) kd (L.bs nb)) vd

/-- The four pooling groups' columns of the tile, side by side. -/
def pool0 (L : Loads F) : FVec F S512x128 .bf16 := k0_pay32 (k0_pay31 (k0_pay25 L.i) (L.xe 0)) (L.wp 0) (L.ps 0)
def pool1 (L : Loads F) : FVec F S512x128 .bf16 := k0_pay46 (k0_pay45 (k0_pay25 L.i) (L.xe 1)) (L.wp 1) (L.ps 1)
def pool2 (L : Loads F) : FVec F S512x128 .bf16 := k0_pay54 (k0_pay25 L.i) (L.xe 2) (L.wp 2) (L.ps 2)
def pool3 (L : Loads F) : FVec F S512x128 .bf16 := k0_pay67 (k0_pay66 (k0_pay25 L.i) (L.xe 3) (L.wp 3)) (L.ps 3)

/-- A half of the pooled branch's columns. -/
def branch (L : Loads F) (h : Fin 2) : FVec F S512x512 .f32 := k0_pay75 (pool0 L) (pool1 L) (pool2 L) (pool3 L) (L.wbp h)

/-- The attention outputs' buffer once its first four blocks are there. -/
def heads4 (L : Loads F) : List (View.Piece (Elt F) S512x512 .f32) :=
  [⟨Rect.unit (s := S512x512) ![128, 256] S128x256.size inb_S512x512_S128x256_128_256, unit1 L (L.kd 1 1) (L.vd 1 1) 1⟩,
   ⟨Rect.unit (s := S512x512) ![128, 0] S128x256.size inb_S512x512_S128x256_128_0, unit0 L (L.kd 0 1) (L.vd 0 1) 1⟩,
   ⟨Rect.unit (s := S512x512) ![0, 256] S128x256.size inb_S512x512_S128x256_0_256, unit1 L (L.kd0 1) (L.vd0 1) 0⟩,
   ⟨Rect.unit (s := S512x512) ![0, 0] S128x256.size inb_S512x512_S128x256_0_0, unit0 L (L.kd0 0) (L.vd0 0) 0⟩]
/-- One more. -/
def heads5 (L : Loads F) : List (View.Piece (Elt F) S512x512 .f32) :=
  ⟨Rect.unit (s := S512x512) ![256, 0] S128x256.size inb_S512x512_S128x256_256_0, unit0 L (L.kd 0 2) (L.vd 0 2) 2⟩ :: heads4 L
/-- All eight. -/
def heads8 (L : Loads F) : List (View.Piece (Elt F) S512x512 .f32) :=
  ⟨Rect.unit (s := S512x512) ![384, 256] S128x256.size inb_S512x512_S128x256_384_256, unit1 L (L.kd 1 3) (L.vd 1 3) 3⟩ ::
   ⟨Rect.unit (s := S512x512) ![384, 0] S128x256.size inb_S512x512_S128x256_384_0, unit0 L (L.kd 0 3) (L.vd 0 3) 3⟩ ::
   ⟨Rect.unit (s := S512x512) ![256, 256] S128x256.size inb_S512x512_S128x256_256_256, unit1 L (L.kd 1 2) (L.vd 1 2) 2⟩ :: heads5 L

/-- The pooled branch's buffer. -/
def branches (L : Loads F) : List (View.Piece (Elt F) S512x1024 .f32) :=
  [⟨Rect.unit (s := S512x1024) ![0, 512] S512x512.size inb_S512x1024_S512x512_0_512, branch L 1⟩,
   ⟨Rect.unit (s := S512x1024) ![0, 0] S512x512.size inb_S512x1024_S512x512_0_0, branch L 0⟩]

/-- The gated sum of the two branches, over 256 rows. -/
def merge (o : Vec F S256x512 .f32) (wba : Vec F S512x1024 .bf16) (pa : Vec F S256x1024 .f32) (gl : Vec F S256x2048 .f32) :
    FVec F S256x1024 .bf16 := k0_pay100 (k0_pay99 o) wba pa gl

/-- The gated mix of the tile. -/
def mixed (L : Loads F) : List (View.Piece (Elt F) S512x1024 .bf16) :=
  [⟨Rect.unit (s := S512x1024) ![256, 0] S256x1024.size inb_S512x1024_S256x1024_256_0,
     merge (scM0_3.view.readCov (heads8 L) (Rect.unit (s := S512x512) ![256, 0] S256x512.size inb_S512x512_S256x512_256_0).toLoadRect)
       L.wba (scM0_5.view.readCov (branches L) (Rect.unit (s := S512x1024) ![256, 0] S256x1024.size inb_S512x1024_S256x1024_256_0).toLoadRect)
       (L.gl 1)⟩,
   ⟨Rect.unit (s := S512x1024) ![0, 0] S256x1024.size inb_S512x1024_S256x1024_0_0,
     merge (scM0_3.view.readCov (heads5 L) (Rect.unit (s := S512x512) ![0, 0] S256x512.size inb_S512x512_S256x512_0_0).toLoadRect)
       L.wba (scM0_5.view.readCov (branches L) (Rect.unit (s := S512x1024) ![0, 0] S256x1024.size inb_S512x1024_S256x1024_0_0).toLoadRect)
       (L.gl 0)⟩]

/-! ## The loads of a grid point -/

variable (m : (ℓ : Loc nD τ sig) → Buf (Elt F) ℓ)

/-- The tile's rows, below the sixteen rows of the tile before. -/
def ubuf (c : Dev nD) (t : Fin cfg0.N) : List (View.Piece (Elt F) S528x512 .f32) :=
  [⟨Rect.unit (s := S528x512) ![16, 0] S512x512.size inb_S528x512_S512x512_16_0,
    k0_pay10 (View.readAt (Elt F) (ms0_1 t).view (Rect.unit (s := S512x512) ![0, 0] S512x512.size inb_S512x512_S512x512_0_0).toLoadRect
      ((hs0_1 t).unread (iblk m c 1 t)))⟩]

/-- The block's keys as the kernel loads them. -/
def kload (c : Dev nD) (t : Fin cfg0.N) : Vec F S512x128 .f32 :=
  View.readAt (Elt F) (ms0_3 t).view (Rect.unit (s := S512x128) ![0, 0] S512x128.size inb_S512x128_S512x128_0_0).toLoadRect
    ((hs0_3 t).unread (iblk m c 3 t))
/-- The block's values. -/
def vload (c : Dev nD) (t : Fin cfg0.N) : Vec F S512x128 .f32 :=
  View.readAt (Elt F) (ms0_4 t).view (Rect.unit (s := S512x128) ![0, 0] S512x128.size inb_S512x128_S512x128_0_0).toLoadRect
    ((hs0_4 t).unread (iblk m c 4 t))

/-- A key head's columns twice over, for both key heads, below the 128 rows of the tile before. -/
def dbuf (x : Vec F S512x128 .f32) : List (View.Piece (Elt F) S2x640x128 .bf16) :=
  [⟨Rect.unit (s := S2x640x128) ![1, 128, 0] S1x512x128.size inb_S2x640x128_S1x512x128_1_128_0, k0_pay16 (k0_pay14 x)⟩,
   ⟨Rect.unit (s := S2x640x128) ![0, 128, 0] S1x512x128.size inb_S2x640x128_S1x512x128_0_128_0, k0_pay15 x⟩]

theorem q_inb (nb : Fin 4) : ∀ a, ![128 * nb.val, 0] a + S128x512.size a ≤ S512x512.size a := by revert nb; decide
theorem k_inb (g : Fin 2) (nb : Fin 4) : ∀ a, ![g.val, 128 * nb.val, 0] a + S1x256x128.size a ≤ S2x640x128.size a := by
  revert g nb; decide
theorem x_inb (g : Fin 4) : ∀ a, ![0, 128 * g.val] a + S528x128.size a ≤ S528x512.size a := by revert g; decide
theorem w_inb (g : Fin 4) : ∀ a, ![g.val, 0, 0] a + S1x128x128.size a ≤ S4x128x128.size a := by revert g; decide
theorem s_inb (g : Fin 4) : ∀ a, ![0, 128 * g.val] a + S1x128.size a ≤ S1x512.size a := by revert g; decide
theorem b_inb (h : Fin 2) : ∀ a, ![0, 512 * h.val] a + S512x512.size a ≤ S512x1024.size a := by revert h; decide
theorem g_inb (h : Fin 2) : ∀ a, ![256 * h.val, 0] a + S256x2048.size a ≤ S512x2048.size a := by revert h; decide
theorem sk_inb (k : Fin 8) : ∀ a, ![k.val] a + S1.size a ≤ S8.size a := by revert k; decide

/-- The loads of a point, given those from the scratch buffers. -/
def loads (c : Dev nD) (t : Fin cfg0.N) (kd0 vd0 : Fin 2 → Vec F S1x256x128 .bf16)
    (kd vd : Fin 2 → Fin 4 → Vec F S1x256x128 .bf16) (bs : Fin 4 → Vec F S1x512x256 .f32)
    (xe : Fin 4 → Vec F S528x128 .f32) : Loads F where
  i := Scalar.select (Scalar.andi (Scalar.xori (Scalar.cmpi .slt (Scalar.remsi (BitVec.ofNat 32 (grid0.coords t 0)) 8#32) 0#32) 0#1)
      (Scalar.cmpi .ne (Scalar.remsi (BitVec.ofNat 32 (grid0.coords t 0)) 8#32) 0#32))
    (Scalar.addi (Scalar.remsi (BitVec.ofNat 32 (grid0.coords t 0)) 8#32) 8#32) (Scalar.remsi (BitVec.ofNat 32 (grid0.coords t 0)) 8#32)
  sk k := View.readAt (Elt F) (ms0_0 t).view (Rect.unit (s := S8) ![k.val] S1.size (sk_inb k)).toLoadRect ((hs0_0 t).unread (iblk m c 0 t))
    (Shape.Idx.first (show 0 < S1.numel by decide))
  q nb := View.readAt (Elt F) (ms0_2 t).view (Rect.unit (s := S512x512) ![128 * nb.val, 0] S128x512.size (q_inb nb)).toLoadRect
    ((hs0_2 t).unread (iblk m c 2 t))
  kd0 := kd0
  kd := kd
  vd0 := vd0
  vd := vd
  bs := bs
  xe := xe
  wp g := View.readAt (Elt F) (ms0_6 t).view (Rect.unit (s := S4x128x128) ![g.val, 0, 0] S1x128x128.size (w_inb g)).toLoadRect
    ((hs0_6 t).unread (iblk m c 6 t))
  ps g := View.readAt (Elt F) (ms0_7 t).view (Rect.unit (s := S1x512) ![0, 128 * g.val] S1x128.size (s_inb g)).toLoadRect
    ((hs0_7 t).unread (iblk m c 7 t))
  wbp h := View.readAt (Elt F) (ms0_8 t).view (Rect.unit (s := S512x1024) ![0, 512 * h.val] S512x512.size (b_inb h)).toLoadRect
    ((hs0_8 t).unread (iblk m c 8 t))
  wba := View.readAt (Elt F) (ms0_9 t).view (Rect.unit (s := S512x1024) ![0, 0] S512x1024.size inb_S512x1024_S512x1024_0_0).toLoadRect
    ((hs0_9 t).unread (iblk m c 9 t))
  gl h := View.readAt (Elt F) (ms0_5 t).view (Rect.unit (s := S512x2048) ![256 * h.val, 0] S256x2048.size (g_inb h)).toLoadRect
    ((hs0_5 t).unread (iblk m c 5 t))

/-- The keys (or values) a block of queries attends to, from a buffer. -/
abbrev krect (g : Fin 2) (nb : Fin 4) : Rect S2x640x128 := Rect.unit (s := S2x640x128) ![g.val, 128 * nb.val, 0] S1x256x128.size (k_inb g nb)
/-- A pooling group's columns. -/
abbrev xrect (g : Fin 4) : Rect S528x512 := Rect.unit (s := S528x512) ![0, 128 * g.val] S528x128.size (x_inb g)
/-- A block's mask. -/
abbrev brect (t : Fin cfg0.N) (nb : Fin 4) : Rect S2x512x256 :=
  Rect.unit (s := S2x512x256) (k0_off1 (grid0.coords t) (BitVec.ofNat 32 nb.val)) S1x512x256.size (k0_off1_inb (grid0.coords t) nb)

/-- The loads at a tile that continues its sequence. -/
def keptLoads (c : Dev nD) (t : Fin cfg0.N) (xs0 : Vec F S528x512 .f32) (xs1 xs2 : Vec F S2x640x128 .bf16) (xs4 : Vec F S2x512x256 .f32) :
    Loads F :=
  loads m c t
    (fun g => View.readAt (Elt F) scM0_1.view (krect g 0).toLoadRect (scM0_1.view.writes (Elt F) ((Memref.isWhole_whole _).unread xs1) (dbuf (kload m c t))))
    (fun g => View.readAt (Elt F) scM0_2.view (krect g 0).toLoadRect (scM0_2.view.writes (Elt F) ((Memref.isWhole_whole _).unread xs2) (dbuf (vload m c t))))
    (fun g nb => scM0_1.view.readCov (dbuf (kload m c t)) (krect g nb).toLoadRect)
    (fun g nb => scM0_2.view.readCov (dbuf (vload m c t)) (krect g nb).toLoadRect)
    (fun nb => View.readAt (Elt F) scM0_4.view (brect t nb).toLoadRect ((Memref.isWhole_whole _).unread xs4))
    (fun g => View.readAt (Elt F) scM0_0.view (xrect g).toLoadRect (scM0_0.view.writes (Elt F) ((Memref.isWhole_whole _).unread xs0) (ubuf m c t)))

/-- The masks a sequence's first tile writes: its first block's, and every other block's. -/
def masks : List (View.Piece (Elt F) S2x512x256 .f32) :=
  [⟨Rect.unit (s := S2x512x256) ![1, 0, 0] S1x512x256.size inb_S2x512x256_S1x512x256_1_0_0, k0_pay9 k0_pay6 (iota .tc S512x256 32 [1] iota_S512x256_d1_w32) k0_pay7⟩,
   ⟨Rect.unit (s := S2x512x256) ![0, 0, 0] S1x512x256.size inb_S2x512x256_S1x512x256_0_0_0, k0_pay5⟩]

/-- The first tile's buffers: its rows, below zeros. -/
def kfresh (c : Dev nD) (t : Fin cfg0.N) : List (View.Piece (Elt F) S2x640x128 .bf16) :=
  [⟨Rect.unit (s := S2x640x128) ![1, 128, 0] S1x512x128.size inb_S2x640x128_S1x512x128_1_128_0, k0_pay16 (k0_pay14 (kload m c t))⟩,
   ⟨Rect.unit (s := S2x640x128) ![0, 128, 0] S1x512x128.size inb_S2x640x128_S1x512x128_0_128_0, k0_pay15 (kload m c t)⟩,
   ⟨Rect.unit (s := S2x640x128) ![0, 0, 0] S2x128x128.size inb_S2x640x128_S2x128x128_0_0_0, k0_pay3⟩]
def vfresh (c : Dev nD) (t : Fin cfg0.N) : List (View.Piece (Elt F) S2x640x128 .bf16) :=
  [⟨Rect.unit (s := S2x640x128) ![1, 128, 0] S1x512x128.size inb_S2x640x128_S1x512x128_1_128_0, k0_pay16 (k0_pay14 (vload m c t))⟩,
   ⟨Rect.unit (s := S2x640x128) ![0, 128, 0] S1x512x128.size inb_S2x640x128_S1x512x128_0_128_0, k0_pay15 (vload m c t)⟩,
   ⟨Rect.unit (s := S2x640x128) ![0, 0, 0] S2x128x128.size inb_S2x640x128_S2x128x128_0_0_0, k0_pay3⟩]
def ufresh (c : Dev nD) (t : Fin cfg0.N) : List (View.Piece (Elt F) S528x512 .f32) :=
  [⟨Rect.unit (s := S528x512) ![16, 0] S512x512.size inb_S528x512_S512x512_16_0,
    k0_pay10 (View.readAt (Elt F) (ms0_1 t).view (Rect.unit (s := S512x512) ![0, 0] S512x512.size inb_S512x512_S512x512_0_0).toLoadRect
      ((hs0_1 t).unread (iblk m c 1 t)))⟩,
   ⟨Rect.unit (s := S528x512) ![0, 0] S16x512.size inb_S528x512_S16x512_0_0, k0_pay2⟩]

/-- The loads at a sequence's first tile: above it there are zeros. -/
def freshLoads (c : Dev nD) (t : Fin cfg0.N) : Loads F :=
  loads m c t
    (fun g => scM0_1.view.readCov (kfresh m c t) (krect g 0).toLoadRect)
    (fun g => scM0_2.view.readCov (vfresh m c t) (krect g 0).toLoadRect)
    (fun g nb => scM0_1.view.readCov (kfresh m c t) (krect g nb).toLoadRect)
    (fun g nb => scM0_2.view.readCov (vfresh m c t) (krect g nb).toLoadRect)
    (fun nb => scM0_4.view.readCov masks (brect t nb).toLoadRect)
    (fun g => scM0_0.view.readCov (ufresh m c t) (xrect g).toLoadRect)

end Cert.MixIdeal.Rows

end
-- ==== Proof.Scalars.lean ====
module

public import Idealize.ShloMosaic.Lib.Pointwise
public import Mathlib.Analysis.SpecialFunctions.Trigonometric.DerivHyp
public import Mathlib.Analysis.SpecialFunctions.Exp

/-! Scalar identities over the extended reals: the logistic function through the hyperbolic tangent of half the argument. -/

@[expose] public section

noncomputable section

namespace Cert.Scalars

open Idealize.ShloMosaic

theorem half_bits : Ideal.ofBits .f32 0x3F000000#32 = ((1 / 2 : ℝ) : EReal) := by
  simp [Ideal.ofBits, Ideal.ieee, -EReal.coe_mul]
  norm_num

theorem one_bits : Ideal.ofBits .f32 0x3F800000#32 = 1 := by
  simp [Ideal.ofBits, Ideal.ieee, -EReal.coe_mul]
  norm_num

/-- Over the reals: half of `1 + tanh (x / 2)` is the logistic of `x`. -/
theorem tanh_half (x : ℝ) : (1 + Real.tanh (x * (1 / 2))) * (1 / 2) = (1 + Real.exp (-x))⁻¹ := by
  rw [Real.tanh_eq_sinh_div_cosh, Real.sinh_eq, Real.cosh_eq]
  have h1 : Real.exp x = Real.exp (x * (1 / 2)) * Real.exp (x * (1 / 2)) := by rw [← Real.exp_add]; congr 1; ring
  have h2 : Real.exp (-(x * (1 / 2))) = (Real.exp (x * (1 / 2)))⁻¹ := Real.exp_neg _
  have h3 : Real.exp (-x) = (Real.exp (x * (1 / 2)) * Real.exp (x * (1 / 2)))⁻¹ := by rw [Real.exp_neg, h1]
  have hp := Real.exp_pos (x * (1 / 2))
  rw [h2, h3]
  generalize Real.exp (x * (1 / 2)) = e at hp
  field_simp
  ring

theorem logistic_coe (x : ℝ) : Ideal.logistic (x : EReal) = ((1 + Real.exp (-x))⁻¹ : ℝ) := by
  have hp : (0 : ℝ) < 1 + Real.exp (-x) := by have := Real.exp_pos (-x); linarith
  have e : (1 : EReal) + Ideal.exp (-(x : EReal)) = ((1 + Real.exp (-x) : ℝ) : EReal) := by
    rw [← EReal.coe_neg]
    show (1 : EReal) + ((Real.exp (-x) : ℝ) : EReal) = _
    rw [EReal.coe_add, EReal.coe_one]
  unfold Ideal.logistic
  rw [e]
  unfold Ideal.div
  rw [if_neg (by exact_mod_cast hp.ne'), one_mul, EReal.coe_inv]

theorem logistic_top : Ideal.logistic ⊤ = 1 := by
  unfold Ideal.logistic
  rw [EReal.neg_top, show Ideal.exp ⊥ = 0 from rfl, add_zero]
  simp [Ideal.div]

theorem logistic_bot : Ideal.logistic ⊥ = 0 := by
  unfold Ideal.logistic
  rw [EReal.neg_bot, show Ideal.exp ⊤ = ⊤ from rfl, show (1 : EReal) + ⊤ = ⊤ by rw [← EReal.coe_one]; exact EReal.coe_add_top 1]
  simp [Ideal.div]

/-- `h (1 + tanh h)` at half of `g` is `g` times the logistic of `g`. -/
theorem silu_eq (g : EReal) : g * ((1 / 2 : ℝ) : EReal) * (1 + Ideal.tanh (g * ((1 / 2 : ℝ) : EReal))) = g * Ideal.logistic g := by
  induction g with
  | bot =>
    rw [EReal.bot_mul_coe_of_pos (by norm_num), logistic_bot]
    show (⊥ : EReal) * (1 + -1) = _
    rw [show (1 : EReal) + -1 = 0 from EReal.sub_self (EReal.coe_ne_top 1) (EReal.coe_ne_bot 1), mul_zero]
  | top =>
    rw [EReal.top_mul_coe_of_pos (by norm_num), logistic_top]
    show (⊤ : EReal) * (1 + 1) = _
    rw [mul_one, show (1 : EReal) + 1 = ((2 : ℝ) : EReal) by rw [← EReal.coe_one, ← EReal.coe_add]; norm_num]
    exact EReal.top_mul_coe_of_pos (by norm_num)
  | coe x =>
    rw [logistic_coe, ← EReal.coe_mul]
    show ((x * (1 / 2) : ℝ) : EReal) * (1 + ((Real.tanh (x * (1 / 2)) : ℝ) : EReal)) = _
    rw [← EReal.coe_one, ← EReal.coe_add, ← EReal.coe_mul, ← EReal.coe_mul, ← tanh_half]
    congr 1
    ring

/-- Half of `tanh (x / 2)`, plus a half, is the logistic of `x`. -/
theorem logistic_eq (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), logistic_bot]
    show ((1 / 2 : ℝ) : EReal) * -1 + _ = _
    rw [← EReal.coe_one, ← EReal.coe_neg, ← EReal.coe_mul, ← EReal.coe_add]
    norm_num
  | top =>
    rw [EReal.coe_mul_top_of_pos (by norm_num), logistic_top]
    show ((1 / 2 : ℝ) : EReal) * 1 + _ = _
    rw [mul_one, ← EReal.coe_add]
    norm_num
  | coe x =>
    rw [logistic_coe, ← EReal.coe_mul]
    show ((1 / 2 : ℝ) : EReal) * ((Real.tanh (1 / 2 * x) : ℝ) : EReal) + _ = _
    rw [← EReal.coe_mul, ← EReal.coe_add, ← tanh_half, mul_comm x]
    congr 1
    ring

end Cert.Scalars
end
-- ==== Proof.MixAttn.lean ====
module

public import proofs.«01_k».proof.Proof.Scalars

/-! One row of attention: weights in base two over scaled logits, normalised after the sum, are the softmax. -/

@[expose] public section

noncomputable section

namespace Cert.MixIdeal.Rows

open Idealize.ShloMosaic

/-- The largest of some numbers. -/
def top {n : ℕ} (x : Fin n → EReal) : EReal := Finset.fold max ⊥ x Finset.univ

/-- A row as the kernel computes it: weights in base two, the sum normalised at the end; the sink `z` only adds to the normaliser. -/
def kattn (s : Fin 256 → EReal) (z : EReal) (v : Fin 256 → EReal) : EReal :=
  (∑ j, Ideal.exp2 (s j - max (top s) z) * v j)
    * Ideal.div 1 ((∑ j, Ideal.exp2 (s j - max (top s) z)) + Ideal.exp2 (z - max (top s) z))

/-- The logits with the sink behind them. -/
def withSink (x : Fin 256 → EReal) (z : EReal) (k : Fin 257) : EReal := if h : k.val < 256 then x ⟨k.val, h⟩ else z

/-- A row as the reference computes it. -/
def rattn (x : Fin 256 → EReal) (z : EReal) (v : Fin 256 → EReal) : EReal :=
  ∑ j : Fin 256, v j * Ideal.div (Ideal.exp (withSink x z ⟨j.val, by omega⟩ - max ⊥ (top (withSink x z))))
    (0 + ∑ k : Fin 257, Ideal.exp (withSink x z k - max ⊥ (top (withSink x z))))

theorem top_eq_sup {n : ℕ} (x : Fin n → EReal) : top x = Finset.univ.sup x := rfl

theorem top_withSink (x : Fin 256 → EReal) (z : EReal) : max ⊥ (top (withSink x z)) = max (top x) z := by
  rw [max_eq_right bot_le, top_eq_sup, top_eq_sup]
  apply le_antisymm
  · refine Finset.sup_le fun k _ => ?_
    unfold withSink
    split
    · exact le_max_of_le_left (Finset.le_sup (f := x) (Finset.mem_univ _))
    · exact le_max_right _ _
  · refine max_le (Finset.sup_le fun j _ => ?_) ?_
    · refine le_trans (le_of_eq ?_) (Finset.le_sup (f := withSink x z) (Finset.mem_univ (⟨j.val, by omega⟩ : Fin 257)))
      unfold withSink
      rw [dif_pos j.isLt]
    · refine le_trans (le_of_eq ?_) (Finset.le_sup (f := withSink x z) (Finset.mem_univ (⟨256, by omega⟩ : Fin 257)))
      unfold withSink
      rw [dif_neg (by decide)]

/-- The base-two logarithm of e. -/
def L2e : ℝ := (Real.log 2)⁻¹

theorem L2e_pos : 0 < L2e := inv_pos.mpr (Real.log_pos (by norm_num))

theorem exp2_scaled (r : ℝ) : Ideal.exp2 ((L2e * r : ℝ) : EReal) = Ideal.exp (r : EReal) := by
  have h2 : Real.log 2 ≠ 0 := (Real.log_pos (by norm_num)).ne'
  show ((Real.rpow 2 (L2e * r) : ℝ) : EReal) = ((Real.exp r : ℝ) : EReal)
  congr 1
  show (2 : ℝ) ^ (L2e * r) = _
  rw [Real.rpow_def_of_pos (by norm_num)]
  congr 1
  unfold L2e
  field_simp

/-- Scaling by the logarithm and the base-two exponential undo each other. -/
theorem exp2_sub (x M : EReal) (hx : x ≠ ⊤) (hM : M ≠ ⊤) (hM' : M ≠ ⊥) :
    Ideal.exp2 ((L2e : EReal) * x - (L2e : EReal) * M) = Ideal.exp (x - M) := by
  induction M with
  | bot => exact absurd rfl hM'
  | top => exact absurd rfl hM
  | coe M =>
    induction x with
    | top => exact absurd rfl hx
    | bot =>
      rw [EReal.coe_mul_bot_of_pos L2e_pos, ← EReal.coe_mul, EReal.bot_sub, EReal.bot_sub]
      rfl
    | coe x =>
      rw [← EReal.coe_mul, ← EReal.coe_mul, ← EReal.coe_sub, ← mul_sub, exp2_scaled, ← EReal.coe_sub]

theorem scale_mono : Monotone fun x : EReal => (L2e : EReal) * x := fun _ _ h =>
  mul_le_mul_of_nonneg_left h (EReal.coe_nonneg.mpr L2e_pos.le)

theorem top_scaled (x : Fin 256 → EReal) (z : EReal) :
    max (top fun j => (L2e : EReal) * x j) ((L2e : EReal) * z) = (L2e : EReal) * max (top x) z := by
  rw [scale_mono.map_max, top_eq_sup, top_eq_sup]
  congr 1
  exact (Finset.comp_sup_eq_sup_comp_of_is_total (fun y : EReal => (L2e : EReal) * y) scale_mono
    (EReal.coe_mul_bot_of_pos L2e_pos)).symm

theorem exp_real (x : EReal) (hx : x ≠ ⊤) : ∃ r : ℝ, 0 ≤ r ∧ Ideal.exp x = (r : EReal) := by
  induction x with
  | bot => exact ⟨0, le_refl _, rfl⟩
  | top => exact absurd rfl hx
  | coe x => exact ⟨Real.exp x, (Real.exp_pos x).le, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

theorem attn_eq (x : Fin 256 → EReal) (z : EReal) (v : Fin 256 → EReal) (hx : ∀ j, x j ≠ ⊤) (hz : z ≠ ⊤) (hz' : z ≠ ⊥) :
    kattn (fun j => (L2e : EReal) * x j) ((L2e : EReal) * z) v = rattn x z v := by
  unfold kattn rattn
  rw [top_scaled, top_withSink]
  have hM : max (top x) z ≠ ⊤ := by
    refine ne_of_lt (max_lt ?_ (lt_top_iff_ne_top.mpr hz))
    rw [top_eq_sup]
    exact (Finset.sup_lt_iff bot_lt_top).mpr fun j _ => lt_top_iff_ne_top.mpr (hx j)
  have hM' : max (top x) z ≠ ⊥ := ne_of_gt (lt_of_lt_of_le (bot_lt_iff_ne_bot.mpr hz') (le_max_right _ _))
  generalize max (top x) z = M at hM hM'
  simp only [fun j => exp2_sub (x j) M (hx j) hM hM', exp2_sub z M hz hM hM']
  have hs : ∀ j : Fin 256, withSink x z ⟨j.val, by omega⟩ = x j := fun j => dif_pos j.isLt
  have hl : withSink x z (Fin.last 256) = z := dif_neg (by decide)
  have hsum : (0 + ∑ k : Fin 257, Ideal.exp (withSink x z k - M)) = (∑ j, Ideal.exp (x j - M)) + Ideal.exp (z - M) := by
    rw [zero_add, Fin.sum_univ_castSucc, hl]
    exact congrArg (· + _) (Finset.sum_congr rfl fun j _ => congrArg (fun w => Ideal.exp (w - M)) (hs j))
  rw [hsum]
  simp only [hs]
  have hne : ∀ y : EReal, y ≠ ⊤ → y - M ≠ ⊤ := by
    intro y hy
    induction M with
    | bot => exact absurd rfl hM'
    | top => exact absurd rfl hM
    | coe M =>
      induction y with
      | top => exact absurd rfl hy
      | bot => rw [EReal.bot_sub]; exact bot_ne_top
      | coe y => rw [← EReal.coe_sub]; exact EReal.coe_ne_top _
  choose e he0 he using fun j => exp_real (x j - M) (hne _ (hx j))
  have hzM : ∃ r : ℝ, 0 < r ∧ Ideal.exp (z - M) = (r : EReal) := by
    induction M with
    | bot => exact absurd rfl hM'
    | top => exact absurd rfl hM
    | coe M =>
      induction z with
      | top => exact absurd rfl hz
      | bot => exact absurd rfl hz'
      | coe z =>
        rw [← EReal.coe_sub]
        exact ⟨Real.exp (z - M), Real.exp_pos _, rfl⟩
  obtain ⟨w, hw0, hw⟩ := hzM
  simp only [he, hw]
  rw [← coe_sum, ← EReal.coe_add]
  have hD : 0 < ∑ j, e j + w := add_pos_of_nonneg_of_pos (Finset.sum_nonneg fun j _ => he0 j) hw0
  generalize ∑ j, e j + w = D at hD
  have hdiv : ∀ y : EReal, Ideal.div y (D : EReal) = y * ((D⁻¹ : ℝ) : EReal) := by
    intro y
    unfold Ideal.div
    rw [if_neg (by exact_mod_cast hD.ne'), EReal.coe_inv]
  simp only [hdiv, one_mul]
  rw [sum_mul_real _ _ _ (inv_nonneg.mpr hD.le)]
  refine Finset.sum_congr rfl fun j _ => ?_
  rw [mul_comm (e j : EReal) (v j), mul_assoc]

end Cert.MixIdeal.Rows
end
-- ==== Proof.MixUnit.lean ====
module

public import proofs.«01_k».proof.Proof.MixTile
public import proofs.«01_k».proof.Proof.MixAttn
public import Idealize.ShloMosaic.Lib.WordCmp

/-! The work on one tile, entry by entry: logits, attention outputs, masks and the stored copies of keys and values. -/

@[expose] public section

set_option maxRecDepth 16384
set_option maxHeartbeats 1000000

noncomputable section

namespace Cert.MixIdeal.Rows

open Idealize.ShloMosaic Idealize.ShloMosaic.TcCoe
open Cert.MixIdeal Cert.MixIdeal.Gen

theorem select_lt {α : Type} (n k : ℕ) (hn : n < 2 ^ 31) (hk : k < 2 ^ 31) (a b : α) :
    Scalar.select (IntOp.cmpi .slt (BitVec.ofNat 32 n) (BitVec.ofNat 32 k)) a b = if n < k then a else b := by
  rw [WordCmp.cmpi_slt_ofNat hn hk]
  by_cases h : n < k
  · simp [Scalar.select, h]
  · simp [Scalar.select, h]

theorem select_lane {α : Type} (x : Fin 128) (a b : α) :
    Scalar.select (IntOp.cmpi .slt (BitVec.ofNat 32 x.val) 64#32) a b = if x.val < 64 then a else b :=
  select_lt x.val 64 (by omega) (by decide) a b

theorem scale_value : (Named.named (F := Ideal) κ "scale" (φ := .f32) 0x3E38AA3B#32 : EReal) = (((Real.log 256)⁻¹ : ℝ) : EReal) := rfl
theorem log2e_value : (Named.named (F := Ideal) κ "log2e" (φ := .f32) 0x3FB8AA3B#32 : EReal) = (L2e : EReal) := rfl

/-- Half of the lanes are zero: the sum over the lanes is the sum over the other half. -/
theorem sum_low (a b : Fin 128 → EReal) : ∑ x : Fin 128, (if x.val < 64 then a x else 0) * b x = ∑ d : Fin 64, a ⟨d.val, by omega⟩ * b ⟨d.val, by omega⟩ := by
  refine (Fin.sum_univ_add (a := 64) (b := 64) (fun x : Fin 128 => (if x.val < 64 then a x else 0) * b x)).trans ?_
  have h2 : ∀ i : Fin 64, (if (Fin.natAdd 64 i : Fin 128).val < 64 then a (Fin.natAdd 64 i) else 0) * b (Fin.natAdd 64 i) = 0 := fun i => by
    rw [if_neg (by show ¬64 + i.val < 64; omega), zero_mul]
  rw [Finset.sum_congr rfl fun i _ => h2 i, Finset.sum_const_zero, add_zero]
  refine Finset.sum_congr rfl fun i _ => ?_
  rw [if_pos (by show i.val < 64; omega)]
  rfl

theorem sum_high (a b : Fin 128 → EReal) : ∑ x : Fin 128, (if x.val < 64 then 0 else a x) * b x = ∑ d : Fin 64, a ⟨64 + d.val, by omega⟩ * b ⟨64 + d.val, by omega⟩ := by
  refine (Fin.sum_univ_add (a := 64) (b := 64) (fun x : Fin 128 => (if x.val < 64 then 0 else a x) * b x)).trans ?_
  have h1 : ∀ i : Fin 64, (if (Fin.castAdd 64 i : Fin 128).val < 64 then 0 else a (Fin.castAdd 64 i)) * b (Fin.castAdd 64 i) = 0 := fun i => by
    rw [if_pos (by show i.val < 64; omega), zero_mul]
  rw [Finset.sum_congr rfl fun i _ => h1 i, Finset.sum_const_zero, zero_add]
  refine Finset.sum_congr rfl fun i _ => ?_
  rw [if_neg (by show ¬64 + i.val < 64; omega)]
  rfl

/-! ## Logits -/

/-- One logit of the kernel: over the 64 lanes of a head, `c` the head's first column, `o` its first lane. -/
def scoreAt (q : Fin 512 → EReal) (k : Fin 128 → EReal) (bias : EReal) (c o : ℕ) (hc : c ≤ 448) (ho : o ≤ 64) : EReal :=
  (∑ d : Fin 64, q ⟨c + d.val, by omega⟩ * (((Real.log 256)⁻¹ : ℝ) : EReal) * k ⟨o + d.val, by omega⟩) + bias

theorem score0_row (q : Vec Ideal S128x512 .f32) (kd : Vec Ideal S1x256x128 .bf16) (bs : Vec Ideal S1x512x256 .f32) (i : Fin 512) (j : Fin 256) :
    score0 q kd bs (ix2 i j) = (∑ x : Fin 128,
      (if h : i.val < 128 then Scalar.select (IntOp.cmpi .slt (BitVec.ofNat 32 x.val) 64#32) (q (ix2 ⟨i.val, by omega⟩ ⟨x.val, by omega⟩) * Named.named (F := Ideal) κ "scale" (φ := .f32) 0x3E38AA3B#32) 0
       else if h : i.val - 128 < 128 then Scalar.select (IntOp.cmpi .slt (BitVec.ofNat 32 x.val) 64#32) 0 (q (ix2 ⟨i.val - 128, by omega⟩ ⟨x.val, by omega⟩) * Named.named (F := Ideal) κ "scale" (φ := .f32) 0x3E38AA3B#32)
       else if h : i.val - 128 - 128 < 128 then Scalar.select (IntOp.cmpi .slt (BitVec.ofNat 32 x.val) 64#32) (q (ix2 ⟨i.val - 128 - 128, by omega⟩ ⟨128 + x.val, by omega⟩) * Named.named (F := Ideal) κ "scale" (φ := .f32) 0x3E38AA3B#32) 0
       else Scalar.select (IntOp.cmpi .slt (BitVec.ofNat 32 x.val) 64#32) 0 (q (ix2 ⟨i.val - 128 - 128 - 128, by omega⟩ ⟨128 + x.val, by omega⟩) * Named.named (F := Ideal) κ "scale" (φ := .f32) 0x3E38AA3B#32)) * kd (ix3 0 j x)) + bs (ix3 0 i j) := by
  pointwise [score0, k0_pay29, k0_pay26, k0_pay27, k0_pay28]

theorem score0_apply (q : Vec Ideal S128x512 .f32) (kd : Vec Ideal S1x256x128 .bf16) (bs : Vec Ideal S1x512x256 .f32) (h : Fin 4) (r : Fin 128) (j : Fin 256) :
    score0 q kd bs (ix2 ⟨128 * h.val + r.val, by omega⟩ j)
      = scoreAt (fun c => q (ix2 r c)) (fun l => kd (ix3 0 j l)) (bs (ix3 0 ⟨128 * h.val + r.val, by omega⟩ j)) (0 + 64 * h.val) (64 * (h.val % 2)) (by omega) (by omega) := by
  rw [score0_row]
  unfold scoreAt
  refine congrArg (· + _) ?_
  simp only [select_lane, scale_value]
  match h with
  | ⟨0, _⟩ =>
    simp only [dif_pos (show 128 * 0 + r.val < 128 by omega)]
    refine (sum_low _ _).trans (Finset.sum_congr rfl fun d _ => ?_)
    refine congrArg₂ (fun a b => a * _ * b) (congrArg q (congrArg₂ ix2 (Fin.ext ?_) (Fin.ext ?_))) (congrArg kd (congrArg (ix3 0 j) (Fin.ext ?_)))
    all_goals dsimp only
    all_goals omega
  | ⟨1, _⟩ =>
    simp only [dif_neg (show ¬128 * 1 + r.val < 128 by omega), dif_pos (show 128 * 1 + r.val - 128 < 128 by omega)]
    refine (sum_high _ _).trans (Finset.sum_congr rfl fun d _ => ?_)
    refine congrArg₂ (fun a b => a * _ * b) (congrArg q (congrArg₂ ix2 (Fin.ext ?_) (Fin.ext ?_))) (congrArg kd (congrArg (ix3 0 j) (Fin.ext ?_)))
    all_goals dsimp only
    all_goals omega
  | ⟨2, _⟩ =>
    simp only [dif_neg (show ¬128 * 2 + r.val < 128 by omega), dif_neg (show ¬128 * 2 + r.val - 128 < 128 by omega), dif_pos (show 128 * 2 + r.val - 128 - 128 < 128 by omega)]
    refine (sum_low _ _).trans (Finset.sum_congr rfl fun d _ => ?_)
    refine congrArg₂ (fun a b => a * _ * b) (congrArg q (congrArg₂ ix2 (Fin.ext ?_) (Fin.ext ?_))) (congrArg kd (congrArg (ix3 0 j) (Fin.ext ?_)))
    all_goals dsimp only
    all_goals omega
  | ⟨3, _⟩ =>
    simp only [dif_neg (show ¬128 * 3 + r.val < 128 by omega), dif_neg (show ¬128 * 3 + r.val - 128 < 128 by omega), dif_neg (show ¬128 * 3 + r.val - 128 - 128 < 128 by omega)]
    refine (sum_high _ _).trans (Finset.sum_congr rfl fun d _ => ?_)
    refine congrArg₂ (fun a b => a * _ * b) (congrArg q (congrArg₂ ix2 (Fin.ext ?_) (Fin.ext ?_))) (congrArg kd (congrArg (ix3 0 j) (Fin.ext ?_)))
    all_goals dsimp only
    all_goals omega

theorem score1_row (q : Vec Ideal S128x512 .f32) (kd : Vec Ideal S1x256x128 .bf16) (bs : Vec Ideal S1x512x256 .f32) (i : Fin 512) (j : Fin 256) :
    score1 q kd bs (ix2 i j) = (∑ x : Fin 128,
      (if h : i.val < 128 then Scalar.select (IntOp.cmpi .slt (BitVec.ofNat 32 x.val) 64#32) (q (ix2 ⟨i.val, by omega⟩ ⟨256 + x.val, by omega⟩) * Named.named (F := Ideal) κ "scale" (φ := .f32) 0x3E38AA3B#32) 0
       else if h : i.val - 128 < 128 then Scalar.select (IntOp.cmpi .slt (BitVec.ofNat 32 x.val) 64#32) 0 (q (ix2 ⟨i.val - 128, by omega⟩ ⟨256 + x.val, by omega⟩) * Named.named (F := Ideal) κ "scale" (φ := .f32) 0x3E38AA3B#32)
       else if h : i.val - 128 - 128 < 128 then Scalar.select (IntOp.cmpi .slt (BitVec.ofNat 32 x.val) 64#32) (q (ix2 ⟨i.val - 128 - 128, by omega⟩ ⟨384 + x.val, by omega⟩) * Named.named (F := Ideal) κ "scale" (φ := .f32) 0x3E38AA3B#32) 0
       else Scalar.select (IntOp.cmpi .slt (BitVec.ofNat 32 x.val) 64#32) 0 (q (ix2 ⟨i.val - 128 - 128 - 128, by omega⟩ ⟨384 + x.val, by omega⟩) * Named.named (F := Ideal) κ "scale" (φ := .f32) 0x3E38AA3B#32)) * kd (ix3 0 j x)) + bs (ix3 0 i j) := by
  pointwise [score1, k0_pay43, k0_pay37, k0_pay38, k0_pay39, k0_pay40, k0_pay41, k0_pay42]

theorem score1_apply (q : Vec Ideal S128x512 .f32) (kd : Vec Ideal S1x256x128 .bf16) (bs : Vec Ideal S1x512x256 .f32) (h : Fin 4) (r : Fin 128) (j : Fin 256) :
    score1 q kd bs (ix2 ⟨128 * h.val + r.val, by omega⟩ j)
      = scoreAt (fun c => q (ix2 r c)) (fun l => kd (ix3 0 j l)) (bs (ix3 0 ⟨128 * h.val + r.val, by omega⟩ j)) (256 + 64 * h.val) (64 * (h.val % 2)) (by omega) (by omega) := by
  rw [score1_row]
  unfold scoreAt
  refine congrArg (· + _) ?_
  simp only [select_lane, scale_value]
  match h with
  | ⟨0, _⟩ =>
    simp only [dif_pos (show 128 * 0 + r.val < 128 by omega)]
    refine (sum_low _ _).trans (Finset.sum_congr rfl fun d _ => ?_)
    refine congrArg₂ (fun a b => a * _ * b) (congrArg q (congrArg₂ ix2 (Fin.ext ?_) (Fin.ext ?_))) (congrArg kd (congrArg (ix3 0 j) (Fin.ext ?_)))
    all_goals dsimp only
    all_goals omega
  | ⟨1, _⟩ =>
    simp only [dif_neg (show ¬128 * 1 + r.val < 128 by omega), dif_pos (show 128 * 1 + r.val - 128 < 128 by omega)]
    refine (sum_high _ _).trans (Finset.sum_congr rfl fun d _ => ?_)
    refine congrArg₂ (fun a b => a * _ * b) (congrArg q (congrArg₂ ix2 (Fin.ext ?_) (Fin.ext ?_))) (congrArg kd (congrArg (ix3 0 j) (Fin.ext ?_)))
    all_goals dsimp only
    all_goals omega
  | ⟨2, _⟩ =>
    simp only [dif_neg (show ¬128 * 2 + r.val < 128 by omega), dif_neg (show ¬128 * 2 + r.val - 128 < 128 by omega), dif_pos (show 128 * 2 + r.val - 128 - 128 < 128 by omega)]
    refine (sum_low _ _).trans (Finset.sum_congr rfl fun d _ => ?_)
    refine congrArg₂ (fun a b => a * _ * b) (congrArg q (congrArg₂ ix2 (Fin.ext ?_) (Fin.ext ?_))) (congrArg kd (congrArg (ix3 0 j) (Fin.ext ?_)))
    all_goals dsimp only
    all_goals omega
  | ⟨3, _⟩ =>
    simp only [dif_neg (show ¬128 * 3 + r.val < 128 by omega), dif_neg (show ¬128 * 3 + r.val - 128 < 128 by omega), dif_neg (show ¬128 * 3 + r.val - 128 - 128 < 128 by omega)]
    refine (sum_high _ _).trans (Finset.sum_congr rfl fun d _ => ?_)
    refine congrArg₂ (fun a b => a * _ * b) (congrArg q (congrArg₂ ix2 (Fin.ext ?_) (Fin.ext ?_))) (congrArg kd (congrArg (ix3 0 j) (Fin.ext ?_)))
    all_goals dsimp only
    all_goals omega

theorem sink0_apply (L : Loads Ideal) (h : Fin 4) (r : Fin 128) :
    sink0 L (ix2 ⟨128 * h.val + r.val, by omega⟩ 0) = L.sk ⟨0 + h.val, by omega⟩ * (L2e : EReal) := by
  pointwise [sink0, k0_pay22, k0_pay23]
  rw [log2e_value]
  refine congrArg (· * (L2e : EReal)) ?_
  have hl : 128 * h.val + r.val < 2 ^ 31 := by omega
  rw [select_lt _ 128 hl (by decide), select_lt _ 256 hl (by decide), select_lt _ 384 hl (by decide)]
  match h with
  | ⟨0, _⟩ => rw [if_pos (show 128 * 0 + r.val < 128 by omega)]; rfl
  | ⟨1, _⟩ => rw [if_neg (show ¬128 * 1 + r.val < 128 by omega), if_pos (show 128 * 1 + r.val < 256 by omega)]; rfl
  | ⟨2, _⟩ => rw [if_neg (show ¬128 * 2 + r.val < 128 by omega), if_neg (show ¬128 * 2 + r.val < 256 by omega), if_pos (show 128 * 2 + r.val < 384 by omega)]; rfl
  | ⟨3, _⟩ => rw [if_neg (show ¬128 * 3 + r.val < 128 by omega), if_neg (show ¬128 * 3 + r.val < 256 by omega), if_neg (show ¬128 * 3 + r.val < 384 by omega)]; rfl

theorem sink1_apply (L : Loads Ideal) (h : Fin 4) (r : Fin 128) :
    sink1 L (ix2 ⟨128 * h.val + r.val, by omega⟩ 0) = L.sk ⟨4 + h.val, by omega⟩ * (L2e : EReal) := by
  pointwise [sink1, k0_pay24]
  rw [log2e_value]
  refine congrArg (· * (L2e : EReal)) ?_
  have hl : 128 * h.val + r.val < 2 ^ 31 := by omega
  rw [select_lt _ 128 hl (by decide), select_lt _ 256 hl (by decide), select_lt _ 384 hl (by decide)]
  match h with
  | ⟨0, _⟩ => rw [if_pos (show 128 * 0 + r.val < 128 by omega)]; rfl
  | ⟨1, _⟩ => rw [if_neg (show ¬128 * 1 + r.val < 128 by omega), if_pos (show 128 * 1 + r.val < 256 by omega)]; rfl
  | ⟨2, _⟩ => rw [if_neg (show ¬128 * 2 + r.val < 128 by omega), if_neg (show ¬128 * 2 + r.val < 256 by omega), if_pos (show 128 * 2 + r.val < 384 by omega)]; rfl
  | ⟨3, _⟩ => rw [if_neg (show ¬128 * 3 + r.val < 128 by omega), if_neg (show ¬128 * 3 + r.val < 256 by omega), if_neg (show ¬128 * 3 + r.val < 384 by omega)]; rfl

/-! ## Attention outputs -/

theorem low_bits : Ideal.ofBits .f32 0xFF800000#32 = ⊥ := by
  simp [Ideal.ofBits, Ideal.ieee]

theorem weight_apply (sk : FVec Ideal S512x1 .f32) (s : FVec Ideal S512x256 .f32) (r : Fin 512) (j : Fin 256) :
    k0_pay36 sk s (ix2 r j) = Ideal.exp2 (s (ix2 r j) - max (top fun j => s (ix2 r j)) (sk (ix2 r 0))) := by
  pointwise [k0_pay36, k0_pay34, k0_pay33]
  rw [low_bits]
  rfl

theorem norm_apply (sk : FVec Ideal S512x1 .f32) (s : FVec Ideal S512x256 .f32) (r : Fin 512) :
    k0_pay35 sk s (ix2 r 0) = Ideal.div 1 ((∑ j, Ideal.exp2 (s (ix2 r j) - max (top fun j => s (ix2 r j)) (sk (ix2 r 0))))
      + Ideal.exp2 (sk (ix2 r 0) - max (top fun j => s (ix2 r j)) (sk (ix2 r 0)))) := by
  pointwise [k0_pay35, k0_pay34, k0_pay33]
  rw [low_bits]
  rfl

theorem attend_row (sk : FVec Ideal S512x1 .f32) (s : FVec Ideal S512x256 .f32) (vd : Vec Ideal S1x256x128 .bf16) (ρ : Fin 512) (l : Fin 128) :
    (∑ j, k0_pay36 sk s (ix2 ρ j) * vd (ix3 0 j l)) * k0_pay35 sk s (ix2 ρ 0)
      = kattn (fun j => s (ix2 ρ j)) (sk (ix2 ρ 0)) (fun j => vd (ix3 0 j l)) := by
  rw [norm_apply]
  simp only [weight_apply]
  rfl

theorem attend_apply (sk : FVec Ideal S512x1 .f32) (s : FVec Ideal S512x256 .f32) (vd : Vec Ideal S1x256x128 .bf16) (r : Fin 128) (h : Fin 4) (d : Fin 64) :
    attend sk s vd (ix2 r ⟨64 * h.val + d.val, by omega⟩)
      = kattn (fun j => s (ix2 ⟨128 * h.val + r.val, by omega⟩ j)) (sk (ix2 ⟨128 * h.val + r.val, by omega⟩ 0))
          (fun j => vd (ix3 0 j ⟨64 * (h.val % 2) + d.val, by omega⟩)) := by
  rw [← attend_row]
  have hw : ∀ n : Fin 256, attend sk s vd (ix2 r n) =
      if h : n.val < 128 then
        Scalar.select (IntOp.cmpi .slt (BitVec.ofNat 32 n.val) 64#32)
          ((∑ x, k0_pay36 sk s (ix2 ⟨r.val, by omega⟩ x) * vd (ix3 0 x ⟨n.val, by omega⟩)) * k0_pay35 sk s (ix2 ⟨r.val, by omega⟩ 0))
          ((∑ x, k0_pay36 sk s (ix2 ⟨128 + r.val, by omega⟩ x) * vd (ix3 0 x ⟨n.val, by omega⟩)) * k0_pay35 sk s (ix2 ⟨128 + r.val, by omega⟩ 0))
      else
        Scalar.select (IntOp.cmpi .slt (BitVec.ofNat 32 (n.val - 128)) 64#32)
          ((∑ x, k0_pay36 sk s (ix2 ⟨256 + r.val, by omega⟩ x) * vd (ix3 0 x ⟨n.val - 128, by omega⟩)) * k0_pay35 sk s (ix2 ⟨256 + r.val, by omega⟩ 0))
          ((∑ x, k0_pay36 sk s (ix2 ⟨384 + r.val, by omega⟩ x) * vd (ix3 0 x ⟨n.val - 128, by omega⟩)) * k0_pay35 sk s (ix2 ⟨384 + r.val, by omega⟩ 0)) := by
    intro n
    pointwise [attend, k0_pay47]
  rw [hw]
  match h with
  | ⟨0, _⟩ =>
    rw [dif_pos (show 64 * 0 + d.val < 128 by omega), select_lt _ 64 (by dsimp only; omega) (by decide), if_pos (show 64 * 0 + d.val < 64 by omega)]
    refine congrArg₂ (fun (a : Fin 512) (b : Fin 128) => (∑ x, k0_pay36 sk s (ix2 a x) * vd (ix3 0 x b)) * k0_pay35 sk s (ix2 a 0)) (Fin.ext ?_) (Fin.ext ?_)
    all_goals dsimp only
    all_goals omega
  | ⟨1, _⟩ =>
    rw [dif_pos (show 64 * 1 + d.val < 128 by omega), select_lt _ 64 (by dsimp only; omega) (by decide), if_neg (show ¬64 * 1 + d.val < 64 by omega)]
    refine congrArg₂ (fun (a : Fin 512) (b : Fin 128) => (∑ x, k0_pay36 sk s (ix2 a x) * vd (ix3 0 x b)) * k0_pay35 sk s (ix2 a 0)) (Fin.ext ?_) (Fin.ext ?_)
    all_goals dsimp only
    all_goals omega
  | ⟨2, _⟩ =>
    rw [dif_neg (show ¬64 * 2 + d.val < 128 by omega), select_lt _ 64 (by dsimp only; omega) (by decide), if_pos (show 64 * 2 + d.val - 128 < 64 by omega)]
    refine congrArg₂ (fun (a : Fin 512) (b : Fin 128) => (∑ x, k0_pay36 sk s (ix2 a x) * vd (ix3 0 x b)) * k0_pay35 sk s (ix2 a 0)) (Fin.ext ?_) (Fin.ext ?_)
    all_goals dsimp only
    all_goals omega
  | ⟨3, _⟩ =>
    rw [dif_neg (show ¬64 * 3 + d.val < 128 by omega), select_lt _ 64 (by dsimp only; omega) (by decide), if_neg (show ¬64 * 3 + d.val - 128 < 64 by omega)]
    refine congrArg₂ (fun (a : Fin 512) (b : Fin 128) => (∑ x, k0_pay36 sk s (ix2 a x) * vd (ix3 0 x b)) * k0_pay35 sk s (ix2 a 0)) (Fin.ext ?_) (Fin.ext ?_)
    all_goals dsimp only
    all_goals omega

theorem unit0_apply (L : Loads Ideal) (kd vd : Vec Ideal S1x256x128 .bf16) (nb : Fin 4) (r : Fin 128) (h : Fin 4) (d : Fin 64) :
    unit0 L kd vd nb (ix2 r ⟨64 * h.val + d.val, by omega⟩)
      = kattn (fun j => scoreAt (fun c => L.q nb (ix2 r c)) (fun l => kd (ix3 0 j l)) (L.bs nb (ix3 0 ⟨128 * h.val + r.val, by omega⟩ j)) (0 + 64 * h.val) (64 * (h.val % 2)) (by omega) (by omega))
          (L.sk ⟨0 + h.val, by omega⟩ * (L2e : EReal)) (fun j => vd (ix3 0 j ⟨64 * (h.val % 2) + d.val, by omega⟩)) := by
  unfold unit0
  rw [attend_apply, sink0_apply]
  simp only [score0_apply]

theorem unit1_apply (L : Loads Ideal) (kd vd : Vec Ideal S1x256x128 .bf16) (nb : Fin 4) (r : Fin 128) (h : Fin 4) (d : Fin 64) :
    unit1 L kd vd nb (ix2 r ⟨64 * h.val + d.val, by omega⟩)
      = kattn (fun j => scoreAt (fun c => L.q nb (ix2 r c)) (fun l => kd (ix3 0 j l)) (L.bs nb (ix3 0 ⟨128 * h.val + r.val, by omega⟩ j)) (256 + 64 * h.val) (64 * (h.val % 2)) (by omega) (by omega))
          (L.sk ⟨4 + h.val, by omega⟩ * (L2e : EReal)) (fun j => vd (ix3 0 j ⟨64 * (h.val % 2) + d.val, by omega⟩)) := by
  unfold unit1
  rw [attend_apply, sink1_apply]
  simp only [score1_apply]

/-! ## Masks and stored rows -/

theorem mask_first : ∀ (r : Fin 128) (j : Fin 256),
    IntOp.andi (IntOp.cmpi .sge (BitVec.ofNat 32 j.val) (IntOp.maxsi (BitVec.ofNat 32 r.val) 128#32))
      (IntOp.cmpi .sle (BitVec.ofNat 32 j.val) (IntOp.addi (BitVec.ofNat 32 r.val) 128#32))
      = BitVec.ofBool (decide ((r.val ≤ j.val ∧ j.val ≤ r.val + 128) ∧ 128 ≤ j.val)) := by decide +kernel
theorem mask_later : ∀ (r : Fin 128) (j : Fin 256),
    IntOp.andi (IntOp.cmpi .sge (BitVec.ofNat 32 j.val) (IntOp.maxsi (BitVec.ofNat 32 r.val) 0#32))
      (IntOp.cmpi .sle (BitVec.ofNat 32 j.val) (IntOp.addi (BitVec.ofNat 32 r.val) 128#32))
      = BitVec.ofBool (decide (r.val ≤ j.val ∧ j.val ≤ r.val + 128)) := by decide +kernel
theorem mask_row : ∀ ρ : Fin 512, IntOp.andi (BitVec.ofNat 32 ρ.val) 127#32 = BitVec.ofNat 32 (ρ.val % 128) := by decide +kernel

theorem pay5_apply (ρ : Fin 512) (j : Fin 256) : k0_pay5 (F := Ideal) (ix3 0 ρ j)
    = if (ρ.val % 128 ≤ j.val ∧ j.val ≤ ρ.val % 128 + 128) ∧ 128 ≤ j.val then 0 else ⊥ := by
  pointwise [k0_pay5]
  rw [mask_row, low_bits]
  refine Eq.trans (congrArg (fun c => Scalar.select c (0 : EReal) ⊥) (mask_first ⟨ρ.val % 128, by omega⟩ j)) ?_
  by_cases h : (ρ.val % 128 ≤ j.val ∧ j.val ≤ ρ.val % 128 + 128) ∧ 128 ≤ j.val
  · rw [if_pos h, decide_eq_true h]; rfl
  · rw [if_neg h, decide_eq_false h]; rfl

theorem pay9_apply (ρ : Fin 512) (j : Fin 256) :
    k0_pay9 (F := Ideal) k0_pay6 (iota .tc S512x256 32 [1] iota_S512x256_d1_w32) k0_pay7 (ix3 0 ρ j)
    = if ρ.val % 128 ≤ j.val ∧ j.val ≤ ρ.val % 128 + 128 then 0 else ⊥ := by
  pointwise [k0_pay9, k0_pay6, k0_pay7]
  rw [mask_row, low_bits]
  refine Eq.trans (congrArg (fun c => Scalar.select c (0 : EReal) ⊥) (mask_later ⟨ρ.val % 128, by omega⟩ j)) ?_
  by_cases h : ρ.val % 128 ≤ j.val ∧ j.val ≤ ρ.val % 128 + 128
  · rw [if_pos h, decide_eq_true h]; rfl
  · rw [if_neg h, decide_eq_false h]; rfl

/-- The two key heads' columns, each twice. -/
theorem pay15_apply (x : Vec Ideal S512x128 .f32) (r : Fin 512) (l : Fin 128) : k0_pay15 x (ix3 0 r l) = x (ix2 r ⟨l.val % 64, by omega⟩) := by
  pointwise [k0_pay15, k0_pay11, k0_pay12, k0_pay13]
  rw [select_lt _ 64 (by omega) (by decide)]
  split
  · exact congrArg (fun a => x (ix2 r a)) (Fin.ext (by show l.val = l.val % 64; omega))
  · exact congrArg (fun a => x (ix2 r a)) (Fin.ext (by show (l.val + 128 - 64) % 128 = l.val % 64; omega))

theorem pay16_apply (x : Vec Ideal S512x128 .f32) (r : Fin 512) (l : Fin 128) : k0_pay16 (k0_pay14 x) (ix3 0 r l) = x (ix2 r ⟨64 + l.val % 64, by omega⟩) := by
  pointwise [k0_pay16, k0_pay14, k0_pay11, k0_pay12, k0_pay13]
  rw [select_lt _ 64 (by omega) (by decide)]
  split
  · exact congrArg (fun a => x (ix2 r a)) (Fin.ext (by show (l.val + 128 - 64) % 128 = 64 + l.val % 64; omega))
  · exact congrArg (fun a => x (ix2 r a)) (Fin.ext (by show l.val = 64 + l.val % 64; omega))

theorem pay10_apply (x : Vec Ideal S512x512 .f32) (r l : Fin 512) : k0_pay10 x (ix2 r l) = x (ix2 r l) := by
  pointwise [k0_pay10]
theorem pay3_apply (g : Fin 2) (r l : Fin 128) : k0_pay3 (F := Ideal) (ix3 g r l) = 0 := by
  pointwise [k0_pay3]
theorem pay2_apply (r : Fin 16) (l : Fin 512) : k0_pay2 (F := Ideal) (ix2 r l) = 0 := by
  pointwise [k0_pay2]
theorem pay131_apply (x : Vec Ideal S16x512 .f32) (r : Fin 16) (l : Fin 512) : k0_pay131 x (ix2 r l) = x (ix2 r l) := by
  pointwise [k0_pay131]
theorem pay132_apply (x : Vec Ideal S2x128x128 .bf16) (g : Fin 2) (r l : Fin 128) : k0_pay132 x (ix3 g r l) = x (ix3 g r l) := by
  pointwise [k0_pay132]
theorem pay1_apply (x : Vec Ideal S2x128x128 .bf16) (g : Fin 2) (r l : Fin 128) : k0_pay1 x (ix3 g r l) = x (ix3 g r l) := by
  pointwise [k0_pay1]
theorem pay129_apply (x : Vec Ideal S128x128 .f32) (r l : Fin 128) : k0_pay129 x (ix3 0 r l) = x (ix2 l r) := by
  pointwise [k0_pay129]
theorem pay130_apply (x : Vec Ideal S128x128 .f32) (r l : Fin 128) : k0_pay130 x (ix3 0 r l) = x (ix2 l r) := by
  pointwise [k0_pay130]

end Cert.MixIdeal.Rows
end
-- ==== Proof.MixRef.lean ====
module

public import proofs.«01_k».proof.Proof.Gen.MixRefIdeal.Run
public import proofs.«01_k».proof.Proof.MixAttn
public import Idealize.ShloMosaic.Lib.Pointwise
public import Idealize.ShloMosaic.Lib.WordCmp

/-! The reference's mixing part, entry by entry: the attention over a block and the block before it, the pooled groups, and
the gated sum of the two branches. -/

@[expose] public section

set_option maxRecDepth 16384
set_option maxHeartbeats 1000000

noncomputable section

namespace Cert.MixRefIdeal.Rows

open Cert.MixRefIdeal Cert.MixRefIdeal.Gen Cert.MixRefIdeal.Value Idealize.ShloMosaic Idealize.ShloMosaic.TcCoe Idealize.SL.Sem
open Cert.MixIdeal.Rows (top withSink rattn)

/-! ## Reductions along the last of six axes -/

section Reduce

variable {n0 n1 n2 n3 n4 n5 : ℕ}

theorem fiber (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro w
    refine ⟨i 5, ?_⟩
    funext x; apply Fin.ext
    match x with
    | ⟨0, _⟩ => exact (congrArg Fin.val (congrFun w 0)).symm
    | ⟨1, _⟩ => exact (congrArg Fin.val (congrFun w 1)).symm
    | ⟨2, _⟩ => exact (congrArg Fin.val (congrFun w 2)).symm
    | ⟨3, _⟩ => exact (congrArg Fin.val (congrFun w 3)).symm
    | ⟨4, _⟩ => exact (congrArg Fin.val (congrFun w 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem sum_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal)
    (a : Fin n0) (b : Fin n1) (c : Fin n2) (d : Fin n3) (e : Fin n4) :
    Ideal.hostReduceAdd h v z (ix5 a b c d e) = z + ∑ k : Fin n5, v (ix6 a b c d e k) :=
  congrArg (z + ·) (Finset.sum_filter_eq_sum_of_fiber _ (fun k : Fin n5 => ix6 a b c d e k) (fun _ _ w => congrFun w 5) (fiber h a b c d e) v)

theorem max_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal)
    (a : Fin n0) (b : Fin n1) (c : Fin n2) (d : Fin n3) (e : Fin n4) :
    Finset.fold max z v (Finset.univ.filter fun i => h.drop i = ix5 a b c d e) = Finset.fold max z (fun k : Fin n5 => v (ix6 a b c d e k)) Finset.univ :=
  Finset.fold_filter_eq_fold_of_fiber max _ (fun k : Fin n5 => ix6 a b c d e k) (fun _ _ w => congrFun w 5) (fiber h a b c d e) z v

end Reduce

/-! ## Attention -/

/-- Keys (or values) cut into blocks and heads. -/
def blocks (k : FVec Ideal S8x4096x128 .f32) : FVec Ideal S8x32x128x2x64 .f32 :=
  shapeCast S8x32x128x2x64 (shapeCast S8x4096x2x64 k shapeCasts_S8x4096x128_S8x4096x2x64) shapeCasts_S8x4096x2x64_S8x32x128x2x64

/-- Each block behind the block before it. -/
def paired (k : FVec Ideal S8x32x128x2x64 .f32) : FVec Ideal S8x32x256x2x64 .f32 :=
 concatenate S8x32x256x2x64 2 [⟨S8x32x128x2x64, (concatenate S8x32x128x2x64 1 [⟨S8x1x128x2x64, (broadcastInDim S8x1x128x2x64 ![] bcast_S_S8x1x128x2x64 (constant S_ .f32 0x00000000#32))⟩, ⟨S8x31x128x2x64, (extractStridedSlice S8x31x128x2x64 ![0, 0, 0, 0, 0] k slices_S8x32x128x2x64_S8x31x128x2x64_0_0_0_0_0)⟩] concatenates_S8x1x128x2x64_S8x31x128x2x64_S8x32x128x2x64_d1)⟩, ⟨S8x32x128x2x64, k⟩] concatenates_S8x32x128x2x64_S8x32x128x2x64_S8x32x256x2x64_d2

/-- The rows of a sequence below `z` rows of zeros. -/
def below (z : ℕ) {n : ℕ} (x : Fin 4096 → Fin n → EReal) (p : ℕ) (l : Fin n) : EReal :=
  if h : z ≤ p ∧ p - z < 4096 then x ⟨p - z, h.2⟩ l else 0

theorem paired_apply (k : FVec Ideal S8x4096x128 .f32) (b : Fin 8) (n : Fin 32) (j : Fin 256) (g : Fin 2) (d : Fin 64) :
    paired (blocks k) (ix5 b n j g d) = below 128 (fun s l => k (ix3 b s l)) (n.val * 128 + j.val) ⟨g.val * 64 + d.val, by omega⟩ := by
  pointwise [paired, blocks]
  unfold below
  by_cases hj : j.val < 128
  · rw [dif_pos hj]
    by_cases hn : n.val < 1
    · rw [dif_pos hn, dif_neg (by omega)]
    · rw [dif_neg hn, dif_pos (by omega)]
      refine congrArg k (congrArg (fun s => ix3 b s _) (Fin.ext ?_))
      show (n.val - 1) * 128 + j.val = n.val * 128 + j.val - 128
      omega
  · rw [dif_neg hj, dif_pos (by omega)]
    refine congrArg k (congrArg (fun s => ix3 b s _) (Fin.ext ?_))
    show n.val * 128 + (j.val - 128) = n.val * 128 + j.val - 128
    omega

/-- The scaled products of queries and keys. -/
def products (q : FVec Ideal S8x4096x512 .f32) (kk : FVec Ideal S8x32x256x2x64 .f32) : FVec Ideal S8x32x2x4x128x256 .f32 :=
 (mulf (transpose S8x32x2x4x128x256 [0, 1, 2, 5, 4, 3] (Host.dotGeneral dot_S8x32x256x2x64_S8x32x128x2x4x64_S8x32x2x256x128x4_4_5_2_24_013_013 none kk (shapeCast S8x32x128x2x4x64 (shapeCast S8x4096x8x64 q shapeCasts_S8x4096x512_S8x4096x8x64) shapeCasts_S8x4096x8x64_S8x32x128x2x4x64)) transposes_S8x32x2x256x128x4_S8x32x2x4x128x256_0_1_2_5_4_3) (broadcastInDim S8x32x2x4x128x256 ![] bcast_S_S8x32x2x4x128x256 (constant S_ .f32 0x3E000000#32)))

theorem products_apply (q : FVec Ideal S8x4096x512 .f32) (kk : FVec Ideal S8x32x256x2x64 .f32) (b : Fin 8) (n : Fin 32) (g : Fin 2) (h : Fin 4)
    (i : Fin 128) (j : Fin 256) : products q kk (ix6 b n g h i j)
      = (∑ d : Fin 64, kk (ix5 b n j g d) * q (ix3 b ⟨n.val * 128 + i.val, by omega⟩ ⟨g.val * 256 + h.val * 64 + d.val, by omega⟩)) * Ideal.ofBits .f32 0x3E000000#32 := by
  pointwise [products]

/-- How far back a key is: `d` of a query and a key of the pair of blocks, `e` the key. -/
def maskOf (d : IVec S128x256 32) (e : IVec S1x256 32) : IVec S8x32x2x4x128x256 1 :=
  (broadcastInDim S8x32x2x4x128x256 ![0, 1, 2, 3, 4, 5] bcast_S1x32x1x1x128x256_S8x32x2x4x128x256_0_1_2_3_4_5 (broadcastInDim S1x32x1x1x128x256 ![1, 4, 5] bcast_S32x128x256_S1x32x1x1x128x256_1_4_5 (andi (broadcastInDim S32x128x256 ![0, 1, 2] bcast_S1x128x256_S32x128x256_0_1_2 (broadcastInDim S1x128x256 ![1, 2] bcast_S128x256_S1x128x256_1_2 (andi (cmpi .sge d (broadcastInDim S128x256 ![] bcast_S_S128x256 (constantI S_ 32 0#32))) (cmpi .sle d (broadcastInDim S128x256 ![] bcast_S_S128x256 (constantI S_ 32 128#32)))))) (broadcastInDim S32x128x256 ![0, 1, 2] bcast_S32x1x256_S32x128x256_0_1_2 (cmpi .sge (addi (broadcastInDim S32x1x256 ![0, 1, 2] bcast_S32x1x1_S32x1x256_0_1_2 (subi (muli (broadcastInDim S32x1x1 ![0] bcast_S32_S32x1x1_0 (iotaInDim S32 32 0)) (broadcastInDim S32x1x1 ![] bcast_S_S32x1x1 (constantI S_ 32 128#32))) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 e))) (broadcastInDim S32x1x256 ![] bcast_S_S32x1x256 (constantI S_ 32 0#32)))))))

/-- Which keys a query sees. -/
def sees (n i j : ℕ) : Prop := i ≤ j ∧ j ≤ i + 128 ∧ 128 ≤ n * 128 + j

instance (n i j : ℕ) : Decidable (sees n i j) := by unfold sees; infer_instance

theorem maskOf_apply (d : IVec S128x256 32) (e : IVec S1x256 32) (b : Fin 8) (n : Fin 32) (g : Fin 2) (h : Fin 4) (i : Fin 128) (j : Fin 256) :
    maskOf d e (ix6 b n g h i j) = IntOp.andi (IntOp.andi (IntOp.cmpi .sge (d (ix2 i j)) 0#32) (IntOp.cmpi .sle (d (ix2 i j)) 128#32))
      (IntOp.cmpi .sge (IntOp.addi (IntOp.subi (IntOp.muli (BitVec.ofNat 32 n.val) 128#32) 128#32) (e (ix2 0 j))) 0#32) := by
  pointwise [maskOf]

/-- The distances and the keys. -/
def dist : IVec S128x256 32 := subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))
def keys : IVec S1x256 32 := broadcastInDim S1x256 ![1] bcast_S256_S1x256_1 (iotaInDim S256 32 0)

theorem dist_apply (i : Fin 128) (j : Fin 256) : dist (ix2 i j) = IntOp.subi (IntOp.addi (BitVec.ofNat 32 i.val) 128#32) (BitVec.ofNat 32 j.val) := by
  pointwise [dist]
theorem keys_apply (j : Fin 256) : keys (ix2 0 j) = BitVec.ofNat 32 j.val := by
  pointwise [keys]

theorem near : ∀ (i : Fin 128) (j : Fin 256),
    IntOp.andi (IntOp.cmpi .sge (IntOp.subi (IntOp.addi (BitVec.ofNat 32 i.val) 128#32) (BitVec.ofNat 32 j.val)) 0#32)
      (IntOp.cmpi .sle (IntOp.subi (IntOp.addi (BitVec.ofNat 32 i.val) 128#32) (BitVec.ofNat 32 j.val)) 128#32)
      = BitVec.ofBool (decide (i.val ≤ j.val ∧ j.val ≤ i.val + 128)) := by decide +kernel
theorem inside : ∀ (n : Fin 32) (j : Fin 256),
    IntOp.cmpi .sge (IntOp.addi (IntOp.subi (IntOp.muli (BitVec.ofNat 32 n.val) 128#32) 128#32) (BitVec.ofNat 32 j.val)) 0#32
      = BitVec.ofBool (decide (128 ≤ n.val * 128 + j.val)) := by decide +kernel

theorem mask_apply (b : Fin 8) (n : Fin 32) (g : Fin 2) (h : Fin 4) (i : Fin 128) (j : Fin 256) :
    maskOf dist keys (ix6 b n g h i j) = BitVec.ofBool (decide (sees n.val i.val j.val)) := by
  rw [maskOf_apply, dist_apply, keys_apply, near, inside, WordCmp.andi_ofBool]
  refine congrArg BitVec.ofBool ?_
  rw [← Bool.decide_and]
  exact decide_eq_decide.mpr and_assoc

/-- One logit of a query row `i` of block `n`. -/
def logitAt (q : Fin 512 → EReal) (k : Fin 4096 → Fin 128 → EReal) (n i : ℕ) (h : Fin 8) (j : Fin 256) : EReal :=
  if sees n i j.val then (∑ d : Fin 64, below 128 k (n * 128 + j.val) ⟨h.val / 4 * 64 + d.val, by omega⟩ * q ⟨h.val * 64 + d.val, by omega⟩)
    * Ideal.ofBits .f32 0x3E000000#32 else ⊥

end Cert.MixRefIdeal.Rows
end
-- ==== Proof.MixRefAttn.lean ====
module

public import proofs.«01_k».proof.Proof.MixRef

/-! The reference's attention, entry by entry: the softmax over a block and the block before it, with the sink. -/

@[expose] public section

set_option maxRecDepth 16384
set_option maxHeartbeats 1000000

noncomputable section

namespace Cert.MixRefIdeal.Rows

open Cert.MixRefIdeal Cert.MixRefIdeal.Gen Cert.MixRefIdeal.Value Idealize.ShloMosaic Idealize.ShloMosaic.TcCoe Idealize.SL.Sem
open Cert.MixIdeal.Rows (top withSink rattn)

/-- The masked logits, with the sinks behind them. -/
def logits (mk : IVec S8x32x2x4x128x256 1) (x : FVec Ideal S8x32x2x4x128x256 .f32) (sk : FVec Ideal S1x8 .f32) : FVec Ideal S8x32x2x4x128x257 .f32 :=
  concatenate S8x32x2x4x128x257 5 [⟨S8x32x2x4x128x256, (select mk x (broadcastInDim S8x32x2x4x128x256 ![] bcast_S_S8x32x2x4x128x256 (id (constant S_ .f32 0xFF800000#32))))⟩, ⟨S8x32x2x4x128x1, (broadcastInDim S8x32x2x4x128x1 ![2, 3, 4, 5] bcast_S2x4x1x1_S8x32x2x4x128x1_2_3_4_5 (shapeCast S2x4x1x1 (shapeCast S8 (sk) shapeCasts_S1x8_S8) shapeCasts_S8_S2x4x1x1))⟩] concatenates_S8x32x2x4x128x256_S8x32x2x4x128x1_S8x32x2x4x128x257_d5

theorem inf_bits : Ideal.ofBits .f32 0xFF800000#32 = ⊥ := by
  simp [Ideal.ofBits, Ideal.ieee]

theorem logits_apply (x : FVec Ideal S8x32x2x4x128x256 .f32) (sk : FVec Ideal S1x8 .f32) (b : Fin 8) (n : Fin 32) (g : Fin 2) (h : Fin 4) (i : Fin 128)
    (j : Fin 257) : logits (maskOf dist keys) x sk (ix6 b n g h i j)
      = withSink (fun j => if sees n.val i.val j.val then x (ix6 b n g h i j) else ⊥) (sk (ix2 0 ⟨g.val * 4 + h.val, by omega⟩)) j := by
  have hc : ∀ y, (id (constant S_ .f32 0xFF800000#32) : FVec Ideal S_ .f32) y = ⊥ := fun y => inf_bits
  unfold withSink
  generalize hm : maskOf dist keys = mk
  pointwise [logits]
  rw [← hm]
  split
  · rw [hc, mask_apply]
    by_cases hs : sees n.val i.val j.val
    · rw [if_pos hs, decide_eq_true hs]; rfl
    · rw [if_neg hs, decide_eq_false hs]; rfl
  · rfl

/-- One number per row of logits, along the row. -/
def spread (M : FVec Ideal S8x32x2x4x128 .f32) : FVec Ideal S8x32x2x4x128x257 .f32 :=
  broadcastInDim S8x32x2x4x128x257 ![0, 1, 2, 3, 4, 5] bcast_S8x32x2x4x128x1_S8x32x2x4x128x257_0_1_2_3_4_5 (broadcastInDim S8x32x2x4x128x1 ![0, 1, 2, 3, 4] bcast_S8x32x2x4x128_S8x32x2x4x128x1_0_1_2_3_4 M)

theorem spread_apply (M : FVec Ideal S8x32x2x4x128 .f32) (b : Fin 8) (n : Fin 32) (g : Fin 2) (h : Fin 4) (i : Fin 128) (j : Fin 257) :
    spread M (ix6 b n g h i j) = M (ix5 b n g h i) := by
  pointwise [spread]

/-- At least minus infinity. -/
def atLeast (M : FVec Ideal S8x32x2x4x128 .f32) : FVec Ideal S8x32x2x4x128 .f32 :=
  maximumf (broadcastInDim S8x32x2x4x128 ![] bcast_S_S8x32x2x4x128 (constant S_ .f32 0xFF800000#32)) M

theorem atLeast_apply (M : FVec Ideal S8x32x2x4x128 .f32) (b : Fin 8) (n : Fin 32) (g : Fin 2) (h : Fin 4) (i : Fin 128) :
    atLeast M (ix5 b n g h i) = max ⊥ (M (ix5 b n g h i)) := by
  pointwise [atLeast]
  rw [inf_bits]

/-- The rows' largest logits. -/
def tops (x : FVec Ideal S8x32x2x4x128x257 .f32) : FVec Ideal S8x32x2x4x128 .f32 :=
  atLeast (Host.reduce FloatOps.maximumf x (constant S_ .f32 0xFF800000#32) reducesTo_S8x32x2x4x128x257_S8x32x2x4x128_d5 h_S_)

theorem fold_apply (x : FVec Ideal S8x32x2x4x128x257 .f32) (b : Fin 8) (n : Fin 32) (g : Fin 2) (h : Fin 4) (i : Fin 128) :
    Host.reduce FloatOps.maximumf x (constant S_ .f32 0xFF800000#32) reducesTo_S8x32x2x4x128x257_S8x32x2x4x128_d5 h_S_ (ix5 b n g h i)
      = top fun k => x (ix6 b n g h i k) := by
  rw [Host.reduce_eq_fold]
  refine (max_last (n0 := 8) (n1 := 32) (n2 := 2) (n3 := 4) (n4 := 128) (n5 := 257) reducesTo_S8x32x2x4x128x257_S8x32x2x4x128_d5 x _ b n g h i).trans ?_
  unfold top
  exact congrArg (fun z => Finset.fold max z _ _) inf_bits

theorem tops_apply (x : FVec Ideal S8x32x2x4x128x257 .f32) (b : Fin 8) (n : Fin 32) (g : Fin 2) (h : Fin 4) (i : Fin 128) :
    tops x (ix5 b n g h i) = max ⊥ (top fun k => x (ix6 b n g h i k)) := by
  unfold tops
  rw [atLeast_apply, fold_apply]

/-- The exponentials of the differences; of the logits less the largest. -/
def lessExp (x M : FVec Ideal S8x32x2x4x128x257 .f32) : FVec Ideal S8x32x2x4x128x257 .f32 := Host.exp (subf x M)
def exps (x : FVec Ideal S8x32x2x4x128x257 .f32) : FVec Ideal S8x32x2x4x128x257 .f32 := lessExp x (spread (tops x))

theorem lessExp_apply (x M : FVec Ideal S8x32x2x4x128x257 .f32) (b : Fin 8) (n : Fin 32) (g : Fin 2) (h : Fin 4) (i : Fin 128) (j : Fin 257) :
    lessExp x M (ix6 b n g h i j) = Ideal.exp (x (ix6 b n g h i j) - M (ix6 b n g h i j)) := by
  pointwise [lessExp]

theorem exps_apply (x : FVec Ideal S8x32x2x4x128x257 .f32) (b : Fin 8) (n : Fin 32) (g : Fin 2) (h : Fin 4) (i : Fin 128) (j : Fin 257) :
    exps x (ix6 b n g h i j) = Ideal.exp (x (ix6 b n g h i j) - max ⊥ (top fun k => x (ix6 b n g h i k))) := by
  unfold exps
  rw [lessExp_apply, spread_apply, tops_apply]

/-- The weighted values, in rows. -/
def heads (V : FVec Ideal S8x32x256x2x64 .f32) (p : FVec Ideal S8x32x2x4x128x257 .f32) : FVec Ideal S8x4096x512 .f32 :=
  (shapeCast S8x4096x512 (transpose S8x32x128x2x4x64 [0, 1, 5, 2, 4, 3] (Host.dotGeneral dot_S8x32x256x2x64_S8x32x2x4x128x256_S8x32x2x64x4x128_2_5_4_34_013_012 none V (extractStridedSlice S8x32x2x4x128x256 ![0, 0, 0, 0, 0, 0] (Host.divf (p) (broadcastInDim S8x32x2x4x128x257 ![0, 1, 2, 3, 4, 5] bcast_S8x32x2x4x128x1_S8x32x2x4x128x257_0_1_2_3_4_5 (broadcastInDim S8x32x2x4x128x1 ![0, 1, 2, 3, 4] bcast_S8x32x2x4x128_S8x32x2x4x128x1_0_1_2_3_4 (Host.reduceAdd (p) (constant S_ .f32 0x00000000#32) reducesTo_S8x32x2x4x128x257_S8x32x2x4x128_d5 h_S_)))) slices_S8x32x2x4x128x257_S8x32x2x4x128x256_0_0_0_0_0_0)) transposes_S8x32x2x64x4x128_S8x32x128x2x4x64_0_1_5_2_4_3) shapeCasts_S8x32x128x2x4x64_S8x4096x512)

theorem heads_apply (V : FVec Ideal S8x32x256x2x64 .f32) (p : FVec Ideal S8x32x2x4x128x257 .f32) (b : Fin 8) (s : Fin 4096) (c : Fin 512) :
    heads V p (ix3 b s c) = ∑ j : Fin 256, V (ix5 b ⟨s.val / 128, by omega⟩ j ⟨c.val / 256, by omega⟩ ⟨c.val % 64, by omega⟩)
      * Ideal.div (p (ix6 b ⟨s.val / 128, by omega⟩ ⟨c.val / 256, by omega⟩ ⟨c.val / 64 % 4, by omega⟩ ⟨s.val % 128, by omega⟩ ⟨j.val, by omega⟩))
        (0 + ∑ k : Fin 257, p (ix6 b ⟨s.val / 128, by omega⟩ ⟨c.val / 256, by omega⟩ ⟨c.val / 64 % 4, by omega⟩ ⟨s.val % 128, by omega⟩ k)) := by
  have hs : ∀ (b : Fin 8) (n : Fin 32) (g : Fin 2) (h : Fin 4) (i : Fin 128),
      Host.reduceAdd p (constant S_ .f32 0x00000000#32) reducesTo_S8x32x2x4x128x257_S8x32x2x4x128_d5 h_S_ (ix5 b n g h i)
        = 0 + ∑ k : Fin 257, p (ix6 b n g h i k) := fun b n g h i => by
    refine Eq.trans (sum_last (n0 := 8) (n1 := 32) (n2 := 2) (n3 := 4) (n4 := 128) (n5 := 257) reducesTo_S8x32x2x4x128x257_S8x32x2x4x128_d5 p _ b n g h i) ?_
    refine congrArg (· + _) ?_
    show Ideal.ofBits .f32 0x00000000#32 = 0
    simp [Ideal.ofBits, Ideal.ieee]
  simp only [← hs]
  unfold heads
  generalize Host.reduceAdd p (constant S_ .f32 0x00000000#32) reducesTo_S8x32x2x4x128x257_S8x32x2x4x128_d5 h_S_ = D
  pointwise

/-- The attention branch. -/
def attention (q : FVec Ideal S8x4096x512 .f32) (k v : FVec Ideal S8x4096x128 .f32) (sk : FVec Ideal S1x8 .f32) : FVec Ideal S8x4096x512 .f32 :=
  heads (paired (blocks v)) (exps (logits (maskOf dist keys) (products q (paired (blocks k))) sk))

theorem attention_apply (q : FVec Ideal S8x4096x512 .f32) (k v : FVec Ideal S8x4096x128 .f32) (sk : FVec Ideal S1x8 .f32)
    (b : Fin 8) (n : Fin 32) (i : Fin 128) (h : Fin 8) (d : Fin 64) :
    attention q k v sk (ix3 b ⟨n.val * 128 + i.val, by omega⟩ ⟨h.val * 64 + d.val, by omega⟩)
      = rattn (logitAt (fun c => q (ix3 b ⟨n.val * 128 + i.val, by omega⟩ c)) (fun s l => k (ix3 b s l)) n.val i.val h) (sk (ix2 0 h))
          (fun j => below 128 (fun s l => v (ix3 b s l)) (n.val * 128 + j.val) ⟨h.val / 4 * 64 + d.val, by omega⟩) := by
  unfold attention
  rw [heads_apply]
  have e1 : (⟨(n.val * 128 + i.val) / 128, by omega⟩ : Fin 32) = n := Fin.ext (by show (n.val * 128 + i.val) / 128 = n.val; omega)
  have e2 : (⟨(n.val * 128 + i.val) % 128, by omega⟩ : Fin 128) = i := Fin.ext (by show (n.val * 128 + i.val) % 128 = i.val; omega)
  have e3 : (⟨(h.val * 64 + d.val) / 256, by omega⟩ : Fin 2) = ⟨h.val / 4, by omega⟩ := Fin.ext (by show (h.val * 64 + d.val) / 256 = h.val / 4; omega)
  have e4 : (⟨(h.val * 64 + d.val) / 64 % 4, by omega⟩ : Fin 4) = ⟨h.val % 4, by omega⟩ := Fin.ext (by show (h.val * 64 + d.val) / 64 % 4 = h.val % 4; omega)
  have e5 : (⟨(h.val * 64 + d.val) % 64, by omega⟩ : Fin 64) = d := Fin.ext (by show (h.val * 64 + d.val) % 64 = d.val; omega)
  simp only [e1, e2, e3, e4, e5, exps_apply, logits_apply, paired_apply, products_apply]
  unfold rattn
  have e6 : (⟨h.val / 4 * 4 + h.val % 4, by omega⟩ : Fin 8) = h := Fin.ext (by show h.val / 4 * 4 + h.val % 4 = h.val; omega)
  have e7 : ∀ x : Fin 64, (⟨h.val / 4 * 256 + h.val % 4 * 64 + x.val, by omega⟩ : Fin 512) = ⟨h.val * 64 + x.val, by omega⟩ := fun x =>
    Fin.ext (by show h.val / 4 * 256 + h.val % 4 * 64 + x.val = h.val * 64 + x.val; omega)
  simp only [e6, e7]
  rfl

end Cert.MixRefIdeal.Rows
end
-- ==== Proof.MixRefPool.lean ====
module

public import proofs.«01_k».proof.Proof.MixRef
public import proofs.«01_k».proof.Proof.Scalars

/-! The reference's pooled branch and the gated sum of both branches, entry by entry. -/

@[expose] public section

set_option maxRecDepth 16384
set_option maxHeartbeats 1000000

noncomputable section

namespace Cert.MixRefIdeal.Rows

open Cert.MixRefIdeal Cert.MixRefIdeal.Gen Cert.MixRefIdeal.Value Idealize.ShloMosaic Idealize.ShloMosaic.TcCoe Idealize.SL.Sem
open Cert.Scalars (one_bits)

/-! ## The pooling groups -/

/-- The rows below fifteen rows of zeros, and the positions. -/
def padded (u : FVec Ideal S8x4096x512 .f32) : FVec Ideal S8x4111x512 .f32 :=
  concatenate S8x4111x512 1 [⟨S8x15x512, (broadcastInDim S8x15x512 ![] bcast_S_S8x15x512 (constant (F := Ideal) S_ .f32 0x00000000#32))⟩, ⟨S8x4096x512, u⟩] concatenates_S8x15x512_S8x4096x512_S8x4111x512_d1

theorem padded_apply (u : FVec Ideal S8x4096x512 .f32) (b : Fin 8) (p : Fin 4111) (l : Fin 512) :
    padded u (ix3 b p l) = below 15 (fun s l => u (ix3 b s l)) p.val l := by
  pointwise [padded]
  unfold below
  by_cases h : p.val < 15
  · rw [dif_pos h, dif_neg (by omega)]
  · rw [dif_neg h, dif_pos (by omega)]

/-- The means over the last 2, 4, 8 and 16 rows, less the row itself. -/
def mean0 (e : FVec Ideal S8x4111x512 .f32) (p : IVec S4096 32) : FVec Ideal S8x4096x128 .f32 :=
  subf (Host.divf (addf (extractStridedSlice S8x4096x128 ![0, 15, 0] e slices_S8x4111x512_S8x4096x128_0_15_0) (extractStridedSlice S8x4096x128 ![0, 14, 0] e slices_S8x4111x512_S8x4096x128_0_14_0)) (broadcastInDim S8x4096x128 ![0, 1, 2] bcast_S1x4096x1_S8x4096x128_0_1_2 (broadcastInDim S1x4096x1 ![1] bcast_S4096_S1x4096x1_1 (sitofp .f32 (minsi (addi p (broadcastInDim S4096 ![] bcast_S_S4096 (constantI S_ 32 1#32))) (broadcastInDim S4096 ![] bcast_S_S4096 (constantI S_ 32 2#32))))))) (extractStridedSlice S8x4096x128 ![0, 15, 0] e slices_S8x4111x512_S8x4096x128_0_15_0)
def mean1 (e : FVec Ideal S8x4111x512 .f32) (p : IVec S4096 32) : FVec Ideal S8x4096x128 .f32 :=
  subf (Host.divf (addf (addf (addf (extractStridedSlice S8x4096x128 ![0, 15, 128] e slices_S8x4111x512_S8x4096x128_0_15_128) (extractStridedSlice S8x4096x128 ![0, 14, 128] e slices_S8x4111x512_S8x4096x128_0_14_128)) (extractStridedSlice S8x4096x128 ![0, 13, 128] e slices_S8x4111x512_S8x4096x128_0_13_128)) (extractStridedSlice S8x4096x128 ![0, 12, 128] e slices_S8x4111x512_S8x4096x128_0_12_128)) (broadcastInDim S8x4096x128 ![0, 1, 2] bcast_S1x4096x1_S8x4096x128_0_1_2 (broadcastInDim S1x4096x1 ![1] bcast_S4096_S1x4096x1_1 (sitofp .f32 (minsi (addi p (broadcastInDim S4096 ![] bcast_S_S4096 (constantI S_ 32 1#32))) (broadcastInDim S4096 ![] bcast_S_S4096 (constantI S_ 32 4#32))))))) (extractStridedSlice S8x4096x128 ![0, 15, 128] e slices_S8x4111x512_S8x4096x128_0_15_128)
def mean2 (e : FVec Ideal S8x4111x512 .f32) (p : IVec S4096 32) : FVec Ideal S8x4096x128 .f32 :=
  subf (Host.divf (addf (addf (addf (addf (addf (addf (addf (extractStridedSlice S8x4096x128 ![0, 15, 256] e slices_S8x4111x512_S8x4096x128_0_15_256) (extractStridedSlice S8x4096x128 ![0, 14, 256] e slices_S8x4111x512_S8x4096x128_0_14_256)) (extractStridedSlice S8x4096x128 ![0, 13, 256] e slices_S8x4111x512_S8x4096x128_0_13_256)) (extractStridedSlice S8x4096x128 ![0, 12, 256] e slices_S8x4111x512_S8x4096x128_0_12_256)) (extractStridedSlice S8x4096x128 ![0, 11, 256] e slices_S8x4111x512_S8x4096x128_0_11_256)) (extractStridedSlice S8x4096x128 ![0, 10, 256] e slices_S8x4111x512_S8x4096x128_0_10_256)) (extractStridedSlice S8x4096x128 ![0, 9, 256] e slices_S8x4111x512_S8x4096x128_0_9_256)) (extractStridedSlice S8x4096x128 ![0, 8, 256] e slices_S8x4111x512_S8x4096x128_0_8_256)) (broadcastInDim S8x4096x128 ![0, 1, 2] bcast_S1x4096x1_S8x4096x128_0_1_2 (broadcastInDim S1x4096x1 ![1] bcast_S4096_S1x4096x1_1 (sitofp .f32 (minsi (addi p (broadcastInDim S4096 ![] bcast_S_S4096 (constantI S_ 32 1#32))) (broadcastInDim S4096 ![] bcast_S_S4096 (constantI S_ 32 8#32))))))) (extractStridedSlice S8x4096x128 ![0, 15, 256] e slices_S8x4111x512_S8x4096x128_0_15_256)
def mean3 (e : FVec Ideal S8x4111x512 .f32) (p : IVec S4096 32) : FVec Ideal S8x4096x128 .f32 :=
  subf (Host.divf (addf (addf (addf (addf (addf (addf (addf (addf (addf (addf (addf (addf (addf (addf (addf (extractStridedSlice S8x4096x128 ![0, 15, 384] e slices_S8x4111x512_S8x4096x128_0_15_384) (extractStridedSlice S8x4096x128 ![0, 14, 384] e slices_S8x4111x512_S8x4096x128_0_14_384)) (extractStridedSlice S8x4096x128 ![0, 13, 384] e slices_S8x4111x512_S8x4096x128_0_13_384)) (extractStridedSlice S8x4096x128 ![0, 12, 384] e slices_S8x4111x512_S8x4096x128_0_12_384)) (extractStridedSlice S8x4096x128 ![0, 11, 384] e slices_S8x4111x512_S8x4096x128_0_11_384)) (extractStridedSlice S8x4096x128 ![0, 10, 384] e slices_S8x4111x512_S8x4096x128_0_10_384)) (extractStridedSlice S8x4096x128 ![0, 9, 384] e slices_S8x4111x512_S8x4096x128_0_9_384)) (extractStridedSlice S8x4096x128 ![0, 8, 384] e slices_S8x4111x512_S8x4096x128_0_8_384)) (extractStridedSlice S8x4096x128 ![0, 7, 384] e slices_S8x4111x512_S8x4096x128_0_7_384)) (extractStridedSlice S8x4096x128 ![0, 6, 384] e slices_S8x4111x512_S8x4096x128_0_6_384)) (extractStridedSlice S8x4096x128 ![0, 5, 384] e slices_S8x4111x512_S8x4096x128_0_5_384)) (extractStridedSlice S8x4096x128 ![0, 4, 384] e slices_S8x4111x512_S8x4096x128_0_4_384)) (extractStridedSlice S8x4096x128 ![0, 3, 384] e slices_S8x4111x512_S8x4096x128_0_3_384)) (extractStridedSlice S8x4096x128 ![0, 2, 384] e slices_S8x4111x512_S8x4096x128_0_2_384)) (extractStridedSlice S8x4096x128 ![0, 1, 384] e slices_S8x4111x512_S8x4096x128_0_1_384)) (extractStridedSlice S8x4096x128 ![0, 0, 384] e slices_S8x4111x512_S8x4096x128_0_0_384)) (broadcastInDim S8x4096x128 ![0, 1, 2] bcast_S1x4096x1_S8x4096x128_0_1_2 (broadcastInDim S1x4096x1 ![1] bcast_S4096_S1x4096x1_1 (sitofp .f32 (minsi (addi p (broadcastInDim S4096 ![] bcast_S_S4096 (constantI S_ 32 1#32))) (broadcastInDim S4096 ![] bcast_S_S4096 (constantI S_ 32 16#32))))))) (extractStridedSlice S8x4096x128 ![0, 15, 384] e slices_S8x4111x512_S8x4096x128_0_15_384)

/-- How many rows a window of `w` rows has at a position. -/
def count (s w : ℕ) : EReal := FloatOps.sitofp (F := Ideal) FTy.f32 (IntOp.minsi (IntOp.addi (BitVec.ofNat 32 s) 1#32) (BitVec.ofNat 32 w))

theorem mean0_apply (e : FVec Ideal S8x4111x512 .f32) (b : Fin 8) (s : Fin 4096) (l : Fin 128) :
    mean0 e (iotaInDim S4096 32 0) (ix3 b s l) = Ideal.div (e (ix3 b ⟨15 + s.val, by omega⟩ ⟨l.val, by omega⟩) + e (ix3 b ⟨14 + s.val, by omega⟩ ⟨l.val, by omega⟩)) (count s.val 2) - e (ix3 b ⟨15 + s.val, by omega⟩ ⟨l.val, by omega⟩) := by
  pointwise [mean0, count]

theorem mean1_apply (e : FVec Ideal S8x4111x512 .f32) (b : Fin 8) (s : Fin 4096) (l : Fin 128) :
    mean1 e (iotaInDim S4096 32 0) (ix3 b s l) = Ideal.div (((e (ix3 b ⟨15 + s.val, by omega⟩ ⟨128 + l.val, by omega⟩) + e (ix3 b ⟨14 + s.val, by omega⟩ ⟨128 + l.val, by omega⟩)) + e (ix3 b ⟨13 + s.val, by omega⟩ ⟨128 + l.val, by omega⟩)) + e (ix3 b ⟨12 + s.val, by omega⟩ ⟨128 + l.val, by omega⟩)) (count s.val 4) - e (ix3 b ⟨15 + s.val, by omega⟩ ⟨128 + l.val, by omega⟩) := by
  pointwise [mean1, count]

theorem mean2_apply (e : FVec Ideal S8x4111x512 .f32) (b : Fin 8) (s : Fin 4096) (l : Fin 128) :
    mean2 e (iotaInDim S4096 32 0) (ix3 b s l) = Ideal.div (((((((e (ix3 b ⟨15 + s.val, by omega⟩ ⟨256 + l.val, by omega⟩) + e (ix3 b ⟨14 + s.val, by omega⟩ ⟨256 + l.val, by omega⟩)) + e (ix3 b ⟨13 + s.val, by omega⟩ ⟨256 + l.val, by omega⟩)) + e (ix3 b ⟨12 + s.val, by omega⟩ ⟨256 + l.val, by omega⟩)) + e (ix3 b ⟨11 + s.val, by omega⟩ ⟨256 + l.val, by omega⟩)) + e (ix3 b ⟨10 + s.val, by omega⟩ ⟨256 + l.val, by omega⟩)) + e (ix3 b ⟨9 + s.val, by omega⟩ ⟨256 + l.val, by omega⟩)) + e (ix3 b ⟨8 + s.val, by omega⟩ ⟨256 + l.val, by omega⟩)) (count s.val 8) - e (ix3 b ⟨15 + s.val, by omega⟩ ⟨256 + l.val, by omega⟩) := by
  pointwise [mean2, count]

theorem mean3_apply (e : FVec Ideal S8x4111x512 .f32) (b : Fin 8) (s : Fin 4096) (l : Fin 128) :
    mean3 e (iotaInDim S4096 32 0) (ix3 b s l) = Ideal.div (((((((((((((((e (ix3 b ⟨15 + s.val, by omega⟩ ⟨384 + l.val, by omega⟩) + e (ix3 b ⟨14 + s.val, by omega⟩ ⟨384 + l.val, by omega⟩)) + e (ix3 b ⟨13 + s.val, by omega⟩ ⟨384 + l.val, by omega⟩)) + e (ix3 b ⟨12 + s.val, by omega⟩ ⟨384 + l.val, by omega⟩)) + e (ix3 b ⟨11 + s.val, by omega⟩ ⟨384 + l.val, by omega⟩)) + e (ix3 b ⟨10 + s.val, by omega⟩ ⟨384 + l.val, by omega⟩)) + e (ix3 b ⟨9 + s.val, by omega⟩ ⟨384 + l.val, by omega⟩)) + e (ix3 b ⟨8 + s.val, by omega⟩ ⟨384 + l.val, by omega⟩)) + e (ix3 b ⟨7 + s.val, by omega⟩ ⟨384 + l.val, by omega⟩)) + e (ix3 b ⟨6 + s.val, by omega⟩ ⟨384 + l.val, by omega⟩)) + e (ix3 b ⟨5 + s.val, by omega⟩ ⟨384 + l.val, by omega⟩)) + e (ix3 b ⟨4 + s.val, by omega⟩ ⟨384 + l.val, by omega⟩)) + e (ix3 b ⟨3 + s.val, by omega⟩ ⟨384 + l.val, by omega⟩)) + e (ix3 b ⟨2 + s.val, by omega⟩ ⟨384 + l.val, by omega⟩)) + e (ix3 b ⟨1 + s.val, by omega⟩ ⟨384 + l.val, by omega⟩)) + e (ix3 b ⟨s.val, by omega⟩ ⟨384 + l.val, by omega⟩)) (count s.val 16) - e (ix3 b ⟨15 + s.val, by omega⟩ ⟨384 + l.val, by omega⟩) := by
  pointwise [mean3, count]

/-- The groups side by side. -/
def means (e : FVec Ideal S8x4111x512 .f32) (p : IVec S4096 32) : FVec Ideal S8x4096x4x128 .f32 :=
  concatenate S8x4096x4x128 2 [⟨S8x4096x1x128, broadcastInDim S8x4096x1x128 ![0, 1, 3] bcast_S8x4096x128_S8x4096x1x128_0_1_3 (mean0 e p)⟩, ⟨S8x4096x1x128, broadcastInDim S8x4096x1x128 ![0, 1, 3] bcast_S8x4096x128_S8x4096x1x128_0_1_3 (mean1 e p)⟩, ⟨S8x4096x1x128, broadcastInDim S8x4096x1x128 ![0, 1, 3] bcast_S8x4096x128_S8x4096x1x128_0_1_3 (mean2 e p)⟩, ⟨S8x4096x1x128, broadcastInDim S8x4096x1x128 ![0, 1, 3] bcast_S8x4096x128_S8x4096x1x128_0_1_3 (mean3 e p)⟩] concatenates_S8x4096x1x128_S8x4096x1x128_S8x4096x1x128_S8x4096x1x128_S8x4096x4x128_d2

theorem means_apply (e : FVec Ideal S8x4111x512 .f32) (p : IVec S4096 32) (b : Fin 8) (s : Fin 4096) (g : Fin 4) (l : Fin 128) :
    means e p (ix4 b s g l) = if g.val < 1 then mean0 e p (ix3 b s l) else if g.val - 1 < 1 then mean1 e p (ix3 b s l)
      else if g.val - 1 - 1 < 1 then mean2 e p (ix3 b s l) else mean3 e p (ix3 b s l) := by
  unfold means
  generalize mean0 e p = m0, mean1 e p = m1, mean2 e p = m2, mean3 e p = m3
  pointwise
  simp only [dite_eq_ite]

/-- The pooled branch before its projection. -/
def pooled (wp : FVec Ideal S1x4x128x128 .f32) (d : FVec Ideal S8x4096x4x128 .f32) (ps : FVec Ideal S1x512 .f32) : FVec Ideal S8x4096x512 .f32 :=
  mulf (shapeCast _ (transpose S8x4096x4x128 [2, 3, 0, 1] (Host.dotGeneral dot_S4x128x128_S8x4096x4x128_S4x128x8x4096_1_3_2_01_0_2 none (shapeCast _ wp shapeCasts_S1x4x128x128_S4x128x128) d) transposes_S4x128x8x4096_S8x4096x4x128_2_3_0_1) shapeCasts_S8x4096x4x128_S8x4096x512) (broadcastInDim S8x4096x512 ![0, 1, 2] bcast_S1x1x512_S8x4096x512_0_1_2 (broadcastInDim S1x1x512 ![2] bcast_S512_S1x1x512_2 (shapeCast _ ps shapeCasts_S1x512_S512)))

theorem pooled_apply (wp : FVec Ideal S1x4x128x128 .f32) (d : FVec Ideal S8x4096x4x128 .f32) (ps : FVec Ideal S1x512 .f32) (b : Fin 8) (s : Fin 4096) (c : Fin 512) :
    pooled wp d ps (ix3 b s c) = (∑ k : Fin 128, wp (ix4 0 ⟨c.val / 128, by omega⟩ k ⟨c.val % 128, by omega⟩) * d (ix4 b s ⟨c.val / 128, by omega⟩ k)) * ps (ix2 0 c) := by
  pointwise [pooled]

/-- A gate. -/
def gate (g : FVec Ideal S8x4096x2048 .f32) : FVec Ideal S8x4096x2048 .f32 :=
  Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf g)))

theorem gate_apply (g : FVec Ideal S8x4096x2048 .f32) (b : Fin 8) (s : Fin 4096) (c : Fin 2048) : gate g (ix3 b s c) = Ideal.logistic (g (ix3 b s c)) := by
  pointwise [gate]
  rfl

/-- The gated sum of the two branches through the output projection, on top of the residual. -/
def result (x : FVec Ideal S8x4096x1024 .f32) (g : FVec Ideal S8x4096x2048 .f32) (a o : FVec Ideal S8x4096x512 .f32) (wbp wba : FVec Ideal S1x512x1024 .f32)
    (wout : FVec Ideal S1x1024x1024 .f32) : FVec Ideal S8x4096x1024 .f32 :=
  addf x (Host.dotGeneral dot_S8x4096x1024_S1024x1024_S8x4096x1024_2_0_01_1_n_n none (addf (mulf (extractStridedSlice S8x4096x1024 ![0, 0, 0] g slices_S8x4096x2048_S8x4096x1024_0_0_0) (Host.dotGeneral dot_S8x4096x512_S512x1024_S8x4096x1024_2_0_01_1_n_n none a (shapeCast _ wbp shapeCasts_S1x512x1024_S512x1024))) (mulf (extractStridedSlice S8x4096x1024 ![0, 0, 1024] g slices_S8x4096x2048_S8x4096x1024_0_0_1024) (Host.dotGeneral dot_S8x4096x512_S512x1024_S8x4096x1024_2_0_01_1_n_n none o (shapeCast _ wba shapeCasts_S1x512x1024_S512x1024)))) (shapeCast _ wout shapeCasts_S1x1024x1024_S1024x1024))

theorem result_apply (x : FVec Ideal S8x4096x1024 .f32) (g : FVec Ideal S8x4096x2048 .f32) (a o : FVec Ideal S8x4096x512 .f32) (wbp wba : FVec Ideal S1x512x1024 .f32)
    (wout : FVec Ideal S1x1024x1024 .f32) (b : Fin 8) (s : Fin 4096) (l : Fin 1024) :
    result x g a o wbp wba wout (ix3 b s l) = x (ix3 b s l) + ∑ k : Fin 1024,
      (g (ix3 b s ⟨k.val, by omega⟩) * (∑ c : Fin 512, a (ix3 b s c) * wbp (ix3 0 c k))
        + g (ix3 b s ⟨1024 + k.val, by omega⟩) * ∑ c : Fin 512, o (ix3 b s c) * wba (ix3 0 c k)) * wout (ix3 0 k l) := by
  pointwise [result]

/-- The last block's keys (or values) of each sequence, transposed. -/
def state (k : FVec Ideal S8x4096x128 .f32) : FVec Ideal S8x128x128 .f32 :=
  shapeCast _ (transpose S8x2x64x128 [0, 2, 3, 1] (extractStridedSlice S8x128x2x64 ![0, 3968, 0, 0] (shapeCast S8x4096x2x64 k shapeCasts_S8x4096x128_S8x4096x2x64) slices_S8x4096x2x64_S8x128x2x64_0_3968_0_0) transposes_S8x128x2x64_S8x2x64x128_0_2_3_1) shapeCasts_S8x2x64x128_S8x128x128

theorem state_apply (k : FVec Ideal S8x4096x128 .f32) (b : Fin 8) (l i : Fin 128) : state k (ix3 b l i) = k (ix3 b ⟨3968 + i.val, by omega⟩ l) := by
  pointwise [state]

/-! ## The branch at one entry -/

/-- The mean of the last `w` rows of a column, less the row itself. -/
def meanAt (U : ℕ → EReal) (s w : ℕ) : EReal := Ideal.div (∑ k ∈ Finset.range w, U (16 + s - k)) (count s w) - U (16 + s)

/-- The pooled branch at a row and a column. -/
def poolAt (u : Fin 4096 → Fin 512 → EReal) (wp : Fin 4 → Fin 128 → Fin 128 → EReal) (ps : Fin 512 → EReal) (s : ℕ) (c : Fin 512) : EReal :=
  (∑ k : Fin 128, meanAt (fun p => below 16 u p ⟨c.val / 128 * 128 + k.val, by omega⟩) s (2 ^ (c.val / 128 + 1))
    * wp ⟨c.val / 128, by omega⟩ k ⟨c.val % 128, by omega⟩) * ps c

theorem below_succ (z : ℕ) {n : ℕ} (x : Fin 4096 → Fin n → EReal) (p : ℕ) (l : Fin n) : below z x p l = below (z + 1) x (p + 1) l := by
  unfold below
  by_cases h : z ≤ p ∧ p - z < 4096
  · rw [dif_pos h, dif_pos (by omega)]
    exact congrArg (fun s => x s l) (Fin.ext (by show p - z = p + 1 - (z + 1); omega))
  · rw [dif_neg h, dif_neg (by omega)]

theorem padded_row (u : FVec Ideal S8x4096x512 .f32) (b : Fin 8) (p : ℕ) (hp : p < 4111) (l l' : Fin 512) (p' : ℕ) (h : p + 1 = p') (hl : l = l') :
    padded u (ix3 b ⟨p, hp⟩ l) = below 16 (fun s l => u (ix3 b s l)) p' l' := by
  subst h; subst hl
  exact (padded_apply u b ⟨p, hp⟩ l).trans (below_succ _ _ _ _)

/-- The means of a group are those of its columns' windows. -/
theorem means_row (u : FVec Ideal S8x4096x512 .f32) (b : Fin 8) (s : Fin 4096) (g : Fin 4) (k : Fin 128) :
    means (padded u) (iotaInDim S4096 32 0) (ix4 b s g k)
      = meanAt (fun p => below 16 (fun s l => u (ix3 b s l)) p ⟨g.val * 128 + k.val, by omega⟩) s.val (2 ^ (g.val + 1)) := by
  have hs := s.isLt
  rw [means_apply]
  have alt : ∀ (P : ℕ) (Q : ℕ) (hP : P < 4111) (h : P + 1 = Q) (l l' : Fin 512), l = l' →
      padded u (ix3 b ⟨P, hP⟩ l) = below 16 (fun s l => u (ix3 b s l)) Q l' := fun P Q hP h l l' hl => padded_row u b P hP l l' Q h hl
  match g with
  | ⟨0, _⟩ =>
    refine Eq.trans (if_pos (show (0 : ℕ) < 1 by decide)) ((mean0_apply _ b s k).trans ?_)
    unfold meanAt
    simp only [show 2 ^ (0 + 1) = 2 by decide, Finset.sum_range_succ, Finset.sum_range_zero, zero_add]
    repeat' first
      | exact alt _ _ _ (by omega) _ _ (Fin.ext (by show _ = _ * _ + _; simp; try omega))
      | refine congrArg₂ (· - ·) ?_ ?_
      | refine congrArg₂ Ideal.div ?_ rfl
      | refine congrArg₂ (· + ·) ?_ ?_
  | ⟨1, _⟩ =>
    refine Eq.trans (if_neg (show ¬((1 : ℕ) < 1) by decide)) (Eq.trans (if_pos (show (1 : ℕ) - 1 < 1 by decide)) ((mean1_apply _ b s k).trans ?_))
    unfold meanAt
    simp only [show 2 ^ (1 + 1) = 4 by decide, Finset.sum_range_succ, Finset.sum_range_zero, zero_add]
    repeat' first
      | exact alt _ _ _ (by omega) _ _ (Fin.ext (by show _ = _ * _ + _; simp; try omega))
      | refine congrArg₂ (· - ·) ?_ ?_
      | refine congrArg₂ Ideal.div ?_ rfl
      | refine congrArg₂ (· + ·) ?_ ?_
  | ⟨2, _⟩ =>
    refine Eq.trans (if_neg (show ¬((2 : ℕ) < 1) by decide)) (Eq.trans (if_neg (show ¬((2 : ℕ) - 1 < 1) by decide)) (Eq.trans (if_pos (show (2 : ℕ) - 1 - 1 < 1 by decide)) ((mean2_apply _ b s k).trans ?_)))
    unfold meanAt
    simp only [show 2 ^ (2 + 1) = 8 by decide, Finset.sum_range_succ, Finset.sum_range_zero, zero_add]
    repeat' first
      | exact alt _ _ _ (by omega) _ _ (Fin.ext (by show _ = _ * _ + _; simp; try omega))
      | refine congrArg₂ (· - ·) ?_ ?_
      | refine congrArg₂ Ideal.div ?_ rfl
      | refine congrArg₂ (· + ·) ?_ ?_
  | ⟨3, _⟩ =>
    refine Eq.trans (if_neg (show ¬((3 : ℕ) < 1) by decide)) (Eq.trans (if_neg (show ¬((3 : ℕ) - 1 < 1) by decide)) (Eq.trans (if_neg (show ¬((3 : ℕ) - 1 - 1 < 1) by decide)) ((mean3_apply _ b s k).trans ?_)))
    unfold meanAt
    simp only [show 2 ^ (3 + 1) = 16 by decide, Finset.sum_range_succ, Finset.sum_range_zero, zero_add]
    repeat' first
      | exact alt _ _ _ (by omega) _ _ (Fin.ext (by show _ = _ * _ + _; simp; try omega))
      | refine congrArg₂ (· - ·) ?_ ?_
      | refine congrArg₂ Ideal.div ?_ rfl
      | refine congrArg₂ (· + ·) ?_ ?_

theorem pool_apply (u : FVec Ideal S8x4096x512 .f32) (wp : FVec Ideal S1x4x128x128 .f32) (ps : FVec Ideal S1x512 .f32) (b : Fin 8) (s : Fin 4096) (c : Fin 512) :
    pooled wp (means (padded u) (iotaInDim S4096 32 0)) ps (ix3 b s c)
      = poolAt (fun s l => u (ix3 b s l)) (fun g k o => wp (ix4 0 g k o)) (fun c => ps (ix2 0 c)) s.val c := by
  rw [pooled_apply]
  unfold poolAt
  refine congrArg (· * ps (ix2 0 c)) (Finset.sum_congr rfl fun k _ => ?_)
  rw [means_row]
  exact mul_comm _ _

end Cert.MixRefIdeal.Rows
end
-- ==== Proof.MixRefWhole.lean ====
module

public import proofs.«01_k».proof.Proof.MixRefAttn
public import proofs.«01_k».proof.Proof.MixRefPool

/-! The reference's mixing part whole: its three results, from its arguments, and their entries. -/

@[expose] public section

set_option maxRecDepth 16384
set_option maxHeartbeats 1000000

noncomputable section

namespace Cert.MixRefIdeal.Rows

open Cert.MixRefIdeal Cert.MixRefIdeal.Gen Cert.MixRefIdeal.Value Idealize.ShloMosaic Idealize.ShloMosaic.TcCoe Idealize.SL.Sem
open Idealize.ShloMosaic.StableHlo (launchContents)
open Cert.MixIdeal.Rows (top withSink rattn)

/-- The whole mixing part. -/
def mix (x : FVec Ideal S8x4096x1024 .f32) (u q : FVec Ideal S8x4096x512 .f32) (k v : FVec Ideal S8x4096x128 .f32) (gl : FVec Ideal S8x4096x2048 .f32)
    (wp : FVec Ideal S1x4x128x128 .f32) (ps : FVec Ideal S1x512 .f32) (sk : FVec Ideal S1x8 .f32) (wbp wba : FVec Ideal S1x512x1024 .f32)
    (wout : FVec Ideal S1x1024x1024 .f32) : FVec Ideal S8x4096x1024 .f32 :=
  result x (gate gl) (pooled wp (means (padded u) (iotaInDim S4096 32 0)) ps) (attention q k v sk) wbp wba wout

/-- The attention branch at a row and a column. -/
def attnAt (q : Fin 4096 → Fin 512 → EReal) (k v : Fin 4096 → Fin 128 → EReal) (sk : Fin 8 → EReal) (s : Fin 4096) (c : Fin 512) : EReal :=
  rattn (logitAt (q s) k (s.val / 128) (s.val % 128) ⟨c.val / 64, by omega⟩) (sk ⟨c.val / 64, by omega⟩)
    (fun j => below 128 v (s.val / 128 * 128 + j.val) ⟨c.val / 64 / 4 * 64 + c.val % 64, by omega⟩)

/-- The gated sum of the two branches at a row and a column. -/
def mixAt (u q : Fin 4096 → Fin 512 → EReal) (k v : Fin 4096 → Fin 128 → EReal) (gl : Fin 4096 → Fin 2048 → EReal)
    (wp : Fin 4 → Fin 128 → Fin 128 → EReal) (ps : Fin 512 → EReal) (sk : Fin 8 → EReal) (wbp wba : Fin 512 → Fin 1024 → EReal)
    (s : Fin 4096) (o : Fin 1024) : EReal :=
  Ideal.logistic (gl s ⟨o.val, by omega⟩) * (∑ c : Fin 512, poolAt u wp ps s.val c * wbp c o)
    + Ideal.logistic (gl s ⟨1024 + o.val, by omega⟩) * ∑ c : Fin 512, attnAt q k v sk s c * wba c o

theorem attention_entry (q : FVec Ideal S8x4096x512 .f32) (k v : FVec Ideal S8x4096x128 .f32) (sk : FVec Ideal S1x8 .f32)
    (b : Fin 8) (s : Fin 4096) (c : Fin 512) :
    attention q k v sk (ix3 b s c) = attnAt (fun s l => q (ix3 b s l)) (fun s l => k (ix3 b s l)) (fun s l => v (ix3 b s l)) (fun h => sk (ix2 0 h)) s c := by
  have h := attention_apply q k v sk b ⟨s.val / 128, by omega⟩ ⟨s.val % 128, by omega⟩ ⟨c.val / 64, by omega⟩ ⟨c.val % 64, by omega⟩
  have e1 : (⟨s.val / 128 * 128 + s.val % 128, by omega⟩ : Fin 4096) = s := Fin.ext (by show s.val / 128 * 128 + s.val % 128 = s.val; omega)
  have e2 : (⟨c.val / 64 * 64 + c.val % 64, by omega⟩ : Fin 512) = c := Fin.ext (by show c.val / 64 * 64 + c.val % 64 = c.val; omega)
  simp only [e1, e2] at h
  exact h

theorem mix_apply (x : FVec Ideal S8x4096x1024 .f32) (u q : FVec Ideal S8x4096x512 .f32) (k v : FVec Ideal S8x4096x128 .f32) (gl : FVec Ideal S8x4096x2048 .f32)
    (wp : FVec Ideal S1x4x128x128 .f32) (ps : FVec Ideal S1x512 .f32) (sk : FVec Ideal S1x8 .f32) (wbp wba : FVec Ideal S1x512x1024 .f32)
    (wout : FVec Ideal S1x1024x1024 .f32) (b : Fin 8) (s : Fin 4096) (l : Fin 1024) :
    mix x u q k v gl wp ps sk wbp wba wout (ix3 b s l) = x (ix3 b s l) + ∑ o : Fin 1024,
      mixAt (fun s l => u (ix3 b s l)) (fun s l => q (ix3 b s l)) (fun s l => k (ix3 b s l)) (fun s l => v (ix3 b s l)) (fun s l => gl (ix3 b s l))
        (fun g k o => wp (ix4 0 g k o)) (fun c => ps (ix2 0 c)) (fun h => sk (ix2 0 h)) (fun c o => wbp (ix3 0 c o)) (fun c o => wba (ix3 0 c o)) s o
        * wout (ix3 0 o l) := by
  unfold mix
  rw [result_apply]
  simp only [gate_apply, pool_apply, attention_entry]
  rfl

/-! ## The results -/

variable (m : (ℓ : Loc nD τ sig) → Buf (Elt Ideal) ℓ)

/-- The reference's run, its results named. -/
theorem run_named (ρ : Dev nD → PrngReg) :
    θ_run defs (onTc (τ := τ) (main (F := Ideal))) ⟨m, fun _ => 0, ρ⟩ fun r => ∀ c : Dev nD,
      (r.2.mem ((c.tc : Thread nD τ).loc main_v203) = shapeCast S32768x1024 (mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) shapeCasts_S8x4096x1024_S32768x1024
        ∧ r.2.mem ((c.tc : Thread nD τ).loc main_v205) = state (m ((c.tc : Thread nD τ).loc main_arg3))
        ∧ r.2.mem ((c.tc : Thread nD τ).loc main_v207) = state (m ((c.tc : Thread nD τ).loc main_arg4)))
      ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) := by
  refine (θ_run defs _ _).mono (fun r h c => ?_) (Cert.MixRefIdeal.Value.run (F := Ideal) m ρ)
  obtain ⟨h1, h2, h3, ha⟩ := h c
  exact ⟨⟨h1, h2, h3⟩, ha⟩

end Cert.MixRefIdeal.Rows
end
-- ==== Proof.MixPool.lean ====
module

public import proofs.«01_k».proof.Proof.MixUnit
public import proofs.«01_k».proof.Proof.MixRefWhole

/-! The kernel's pooling groups, its projections and its gated sum, entry by entry. A window of 2, 4, 8 or 16 rows is summed by
doubling, over rows rolled down the buffer; the rows reached never wrap round. -/

@[expose] public section

set_option maxRecDepth 16384
set_option maxHeartbeats 4000000

noncomputable section

namespace Cert.MixIdeal.Rows

open Idealize.ShloMosaic Idealize.ShloMosaic.TcCoe
open Cert.MixIdeal Cert.MixIdeal.Gen Cert.MixRefIdeal.Rows
open Cert.Scalars (half_bits logistic_eq)

/-! ## How many rows a window has -/

/-- The kernel's count of a window's rows, from the tile's number in its sequence and the row's in the tile. -/
theorem count_eq (i r w : ℕ) :
    (FloatOps.sitofp (F := Ideal) FTy.f32 (IntOp.minsi (IntOp.addi (IntOp.addi (Scalar.muli (BitVec.ofNat 32 i) 512#32) (BitVec.ofNat 32 r)) 1#32) (BitVec.ofNat 32 w)) : EReal)
      = MixRefIdeal.Rows.count (512 * i + r) w := by
  unfold MixRefIdeal.Rows.count
  have e : IntOp.addi (Scalar.muli (BitVec.ofNat 32 i) 512#32) (BitVec.ofNat 32 r) = BitVec.ofNat 32 (512 * i + r) := by
    show BitVec.ofNat 32 i * BitVec.ofNat 32 512 + BitVec.ofNat 32 r = _
    rw [← BitVec.ofNat_mul, ← BitVec.ofNat_add, Nat.mul_comm]
  rw [e]

theorem count_pos : ∀ (s : Fin 4096) (g : Fin 4), (IntOp.minsi (IntOp.addi (BitVec.ofNat 32 s.val) 1#32) (BitVec.ofNat 32 (2 ^ (g.val + 1)))).toInt ≠ 0 := by
  decide +kernel

theorem count_ne (s : ℕ) (hs : s < 4096) (g : Fin 4) : MixRefIdeal.Rows.count s (2 ^ (g.val + 1)) ≠ 0 := by
  have h := count_pos ⟨s, hs⟩ g
  intro hc
  refine h ?_
  have h2 : (((IntOp.minsi (IntOp.addi (BitVec.ofNat 32 s) 1#32) (BitVec.ofNat 32 (2 ^ (g.val + 1)))).toInt : ℝ) : EReal) = ((0 : ℝ) : EReal) := hc
  exact_mod_cast EReal.coe_injective h2

/-- Multiplying by the reciprocal of a count is dividing by it. -/
theorem mul_recip (a y : EReal) (h : y ≠ 0) : a * Ideal.div 1 y = Ideal.div a y := by
  unfold Ideal.div
  rw [if_neg h, if_neg h, one_mul]

/-! ## The groups -/

theorem pool0_apply (L : Loads Ideal) (U : Fin 128 → ℕ → EReal) (i : ℕ) (hi : i < 8) (hL : L.i = BitVec.ofNat 32 i)
    (hx : ∀ (ρ : Fin 528) (x : Fin 128), L.xe 0 (ix2 ρ x) = U x (512 * i + ρ.val)) (r : Fin 512) (o : Fin 128) :
    pool0 L (ix2 r o) = (∑ x : Fin 128, meanAt (U x) (512 * i + r.val) 2 * L.wp 0 (ix3 0 x o)) * L.ps 0 (ix2 0 o) := by
  pointwise [pool0, k0_pay32, k0_pay31, k0_pay25]
  simp only [hx, hL]
  refine congrArg (· * _) (Finset.sum_congr rfl fun x _ => congrArg (· * _) ?_)
  refine Eq.trans (congrArg (fun c => _ * Ideal.div 1 c - _) (count_eq i r.val 2)) ?_
  have hc : MixRefIdeal.Rows.count (512 * i + r.val) 2 ≠ 0 := count_ne _ (by omega) 0
  rw [mul_recip _ _ hc]
  unfold meanAt
  simp only [Finset.sum_range_succ, Finset.sum_range_zero, zero_add, add_assoc]
  repeat' first
    | exact congrArg (U x) (by omega)
    | refine congrArg₂ (· - ·) ?_ ?_
    | refine congrArg₂ Ideal.div ?_ rfl
    | refine congrArg₂ (· + ·) ?_ ?_

theorem pool1_apply (L : Loads Ideal) (U : Fin 128 → ℕ → EReal) (i : ℕ) (hi : i < 8) (hL : L.i = BitVec.ofNat 32 i)
    (hx : ∀ (ρ : Fin 528) (x : Fin 128), L.xe 1 (ix2 ρ x) = U x (512 * i + ρ.val)) (r : Fin 512) (o : Fin 128) :
    pool1 L (ix2 r o) = (∑ x : Fin 128, meanAt (U x) (512 * i + r.val) 4 * L.wp 1 (ix3 0 x o)) * L.ps 1 (ix2 0 o) := by
  pointwise [pool1, k0_pay45, k0_pay46, k0_pay25]
  simp only [hx, hL]
  refine congrArg (· * _) (Finset.sum_congr rfl fun x _ => congrArg (· * _) ?_)
  refine Eq.trans (congrArg (fun c => _ * Ideal.div 1 c - _) (count_eq i r.val 4)) ?_
  have hc : MixRefIdeal.Rows.count (512 * i + r.val) 4 ≠ 0 := count_ne _ (by omega) 1
  rw [mul_recip _ _ hc]
  unfold meanAt
  simp only [Finset.sum_range_succ, Finset.sum_range_zero, zero_add, add_assoc]
  repeat' first
    | exact congrArg (U x) (by omega)
    | refine congrArg₂ (· - ·) ?_ ?_
    | refine congrArg₂ Ideal.div ?_ rfl
    | refine congrArg₂ (· + ·) ?_ ?_

theorem pool2_apply (L : Loads Ideal) (U : Fin 128 → ℕ → EReal) (i : ℕ) (hi : i < 8) (hL : L.i = BitVec.ofNat 32 i)
    (hx : ∀ (ρ : Fin 528) (x : Fin 128), L.xe 2 (ix2 ρ x) = U x (512 * i + ρ.val)) (r : Fin 512) (o : Fin 128) :
    pool2 L (ix2 r o) = (∑ x : Fin 128, meanAt (U x) (512 * i + r.val) 8 * L.wp 2 (ix3 0 x o)) * L.ps 2 (ix2 0 o) := by
  pointwise [pool2, k0_pay54, k0_pay25]
  simp only [hx, hL]
  refine congrArg (· * _) (Finset.sum_congr rfl fun x _ => congrArg (· * _) ?_)
  refine Eq.trans (congrArg (fun c => _ * Ideal.div 1 c - _) (count_eq i r.val 8)) ?_
  have hc : MixRefIdeal.Rows.count (512 * i + r.val) 8 ≠ 0 := count_ne _ (by omega) 2
  rw [mul_recip _ _ hc]
  unfold meanAt
  simp only [Finset.sum_range_succ, Finset.sum_range_zero, zero_add, add_assoc]
  repeat' first
    | exact congrArg (U x) (by omega)
    | refine congrArg₂ (· - ·) ?_ ?_
    | refine congrArg₂ Ideal.div ?_ rfl
    | refine congrArg₂ (· + ·) ?_ ?_

/-- A buffer plus itself rolled down. -/
def doubled (x : FVec Ideal S528x128 .f32) (k : BitVec 32) : FVec Ideal S528x128 .f32 := addf x (dynamicRotate 0 k none x rotates_S528x128_d0)

theorem doubled_one (x : FVec Ideal S528x128 .f32) (ρ : Fin 528) (l : Fin 128) :
    doubled x 1#32 (ix2 ρ l) = x (ix2 ρ l) + x (ix2 ⟨(ρ.val + 528 - 1) % 528, by omega⟩ l) := by
  pointwise [doubled]
theorem doubled_two (x : FVec Ideal S528x128 .f32) (ρ : Fin 528) (l : Fin 128) :
    doubled x 2#32 (ix2 ρ l) = x (ix2 ρ l) + x (ix2 ⟨(ρ.val + 528 - 2) % 528, by omega⟩ l) := by
  pointwise [doubled]
theorem doubled_four (x : FVec Ideal S528x128 .f32) (ρ : Fin 528) (l : Fin 128) :
    doubled x 4#32 (ix2 ρ l) = x (ix2 ρ l) + x (ix2 ⟨(ρ.val + 528 - 4) % 528, by omega⟩ l) := by
  pointwise [doubled]
theorem doubled_eight (x : FVec Ideal S528x128 .f32) (ρ : Fin 528) (l : Fin 128) :
    doubled x 8#32 (ix2 ρ l) = x (ix2 ρ l) + x (ix2 ⟨(ρ.val + 528 - 8) % 528, by omega⟩ l) := by
  pointwise [doubled]

/-- The last group's means and projection, from its windows' sums. -/
def group3 (n : IVec S512x1 32) (s x : FVec Ideal S528x128 .f32) (w : Vec Ideal S1x128x128 .bf16) (p : Vec Ideal S1x128 .f32) : FVec Ideal S512x128 .bf16 :=
  k0_pay67 (matmul (F := Ideal) dot_S512x128_S128x128_S512x128_1_0_0_1_n_n none
    (truncf .bf16 (subf (mulf (extractStridedSlice S512x128 ![16, 0] s slices_S528x128_o16_0_S512x128)
      (broadcastTo S512x128 (divf (broadcast S512x1 (Scalar.ofBits (F := Ideal) .f32 0x3F800000#32) : FVec Ideal S512x1 .f32) (sitofp .f32 (minsi n (broadcast S512x1 16#32)))) broadcasts_S512x1_S512x128))
      (extractStridedSlice S512x128 ![16, 0] x slices_S528x128_o16_0_S512x128)) bitsLt_bf16_f32)
    (shapeCast S128x128 w shapeCasts_S1x128x128_S128x128 : FVec Ideal S128x128 .bf16) (constant S512x128 .f32 0x00000000#32)) p

theorem group3_apply (L : Loads Ideal) (s x : FVec Ideal S528x128 .f32) (w : Vec Ideal S1x128x128 .bf16) (p : Vec Ideal S1x128 .f32) (r : Fin 512) (o : Fin 128) :
    group3 (k0_pay25 L.i) s x w p (ix2 r o) = (∑ l : Fin 128, (s (ix2 ⟨16 + r.val, by omega⟩ l)
      * Ideal.div 1 (FloatOps.sitofp (F := Ideal) FTy.f32 (IntOp.minsi (IntOp.addi (IntOp.addi (Scalar.muli L.i 512#32) (BitVec.ofNat 32 r.val)) 1#32) 16#32))
      - x (ix2 ⟨16 + r.val, by omega⟩ l)) * w (ix3 0 l o)) * p (ix2 0 o) := by
  pointwise [group3, k0_pay67, k0_pay25]

theorem pool3_apply (L : Loads Ideal) (U : Fin 128 → ℕ → EReal) (i : ℕ) (hi : i < 8) (hL : L.i = BitVec.ofNat 32 i)
    (hx : ∀ (ρ : Fin 528) (x : Fin 128), L.xe 3 (ix2 ρ x) = U x (512 * i + ρ.val)) (r : Fin 512) (o : Fin 128) :
    pool3 L (ix2 r o) = (∑ x : Fin 128, meanAt (U x) (512 * i + r.val) 16 * L.wp 3 (ix3 0 x o)) * L.ps 3 (ix2 0 o) := by
  have e : pool3 L = group3 (k0_pay25 L.i) (doubled (doubled (doubled (doubled (L.xe 3) 1#32) 2#32) 4#32) 8#32) (L.xe 3) (L.wp 3) (L.ps 3) := rfl
  rw [e, group3_apply]
  simp only [doubled_one, doubled_two, doubled_four, doubled_eight, hx, hL]
  refine congrArg (· * _) (Finset.sum_congr rfl fun x _ => congrArg (· * _) ?_)
  refine Eq.trans (congrArg (fun c => _ * Ideal.div 1 c - _) (count_eq i r.val 16)) ?_
  have hc : MixRefIdeal.Rows.count (512 * i + r.val) 16 ≠ 0 := count_ne _ (by omega) 3
  rw [mul_recip _ _ hc]
  unfold meanAt
  simp only [Finset.sum_range_succ, Finset.sum_range_zero, zero_add, add_assoc]
  repeat' first
    | exact congrArg (U x) (by omega)
    | refine congrArg₂ (· - ·) ?_ ?_
    | refine congrArg₂ Ideal.div ?_ rfl
    | refine congrArg₂ (· + ·) ?_ ?_

/-! ## The projections -/

theorem branch_row (L : Loads Ideal) (h : Fin 2) (r o : Fin 512) :
    branch L h (ix2 r o) = ∑ x : Fin 512, (if h : x.val < 128 then pool0 L (ix2 r ⟨x.val, h⟩) else if h : x.val - 128 < 128 then pool1 L (ix2 r ⟨x.val - 128, h⟩)
      else if h : x.val - 128 - 128 < 128 then pool2 L (ix2 r ⟨x.val - 128 - 128, h⟩) else pool3 L (ix2 r ⟨x.val - 128 - 128 - 128, by omega⟩)) * L.wbp h (ix2 x o) := by
  unfold branch
  generalize pool0 L = p0, pool1 L = p1, pool2 L = p2, pool3 L = p3
  pointwise [k0_pay75]

theorem merge_apply (o : Vec Ideal S256x512 .f32) (wba : Vec Ideal S512x1024 .bf16) (pa : Vec Ideal S256x1024 .f32) (gl : Vec Ideal S256x2048 .f32)
    (r : Fin 256) (k : Fin 1024) :
    merge o wba pa gl (ix2 r k) = Ideal.logistic (gl (ix2 r ⟨k.val, by omega⟩)) * pa (ix2 r k)
      + Ideal.logistic (gl (ix2 r ⟨1024 + k.val, by omega⟩)) * ∑ x : Fin 512, o (ix2 r x) * wba (ix2 x k) := by
  rw [← logistic_eq, ← logistic_eq]
  pointwise [merge, k0_pay99, k0_pay100]
  rw [half_bits]

theorem out_apply (x : Vec Ideal S512x256 .f32) (a : Vec Ideal S512x1024 .bf16) (w : Vec Ideal S1024x256 .bf16) (r : Fin 512) (o : Fin 256) :
    k0_pay30 x a w (ix2 r o) = x (ix2 r o) + ∑ k : Fin 1024, a (ix2 r k) * w (ix2 k o) := by
  pointwise [k0_pay30]
theorem out1_apply (x : Vec Ideal S512x256 .f32) (a : Vec Ideal S512x1024 .bf16) (w : Vec Ideal S1024x256 .bf16) (r : Fin 512) (o : Fin 256) :
    k0_pay44 x a w (ix2 r o) = x (ix2 r o) + ∑ k : Fin 1024, a (ix2 r k) * w (ix2 k o) := by
  pointwise [k0_pay44]
theorem out2_apply (x : Vec Ideal S512x256 .f32) (a : Vec Ideal S512x1024 .bf16) (w : Vec Ideal S1024x256 .bf16) (r : Fin 512) (o : Fin 256) :
    k0_pay53 x a w (ix2 r o) = x (ix2 r o) + ∑ k : Fin 1024, a (ix2 r k) * w (ix2 k o) := by
  pointwise [k0_pay53]
theorem out3_apply (x : Vec Ideal S512x256 .f32) (a : Vec Ideal S512x1024 .bf16) (w : Vec Ideal S1024x256 .bf16) (r : Fin 512) (o : Fin 256) :
    k0_pay65 x a w (ix2 r o) = x (ix2 r o) + ∑ k : Fin 1024, a (ix2 r k) * w (ix2 k o) := by
  pointwise [k0_pay65]

end Cert.MixIdeal.Rows
end
-- ==== Proof.MixMixed.lean ====
module

public import proofs.«01_k».proof.Proof.MixPool

/-! The gated mix of a tile: when what the tile loads are a sequence's rows, the 512 rows it leaves are the reference's. -/

@[expose] public section

set_option maxRecDepth 16384
set_option maxHeartbeats 1000000

noncomputable section

namespace Cert.MixIdeal.Rows

open Idealize.ShloMosaic Idealize.ShloMosaic.TcCoe
open Cert.MixIdeal Cert.MixIdeal.Gen Cert.MixRefIdeal.Rows

/-! ## Stored pieces that agree with a function -/

section Pieces

variable {S : Shape} {e : EltTy}

/-- The canon of pieces stored over others, where the first ones reach and agree. -/
theorem canon_agree : ∀ (L L' : List (View.Piece (Elt Ideal) S e)) (y : S.Idx) (v : Elt Ideal e),
    (∃ p ∈ L, y ∈ p.1.set) → View.AllAt L y v → View.canon (L ++ L') y = v
  | [], _, _, _, hc, _ => by obtain ⟨p, hp, _⟩ := hc; exact absurd hp List.not_mem_nil
  | p :: L, L', y, v, hc, h => by
    rw [List.cons_append]
    by_cases hm : y ∈ p.1.set
    · obtain ⟨x, rfl⟩ := p.1.exists_idx_of_mem hm
      exact (View.canon_cons_emb (Val := Elt Ideal) p.1 p.2 (L ++ L') x).trans (h p List.mem_cons_self x rfl)
    · rw [View.canon_cons_of_not_mem _ _ hm]
      refine canon_agree L L' y v ?_ fun q hq => h q (List.mem_cons_of_mem _ hq)
      obtain ⟨q, hq, hyq⟩ := hc
      rcases List.mem_cons.mp hq with rfl | hq'
      · exact absurd hyq hm
      · exact ⟨q, hq', hyq⟩

/-- An index in the first piece. -/
theorem here {off size : Fin S.rank → ℕ} {inb : ∀ a, off a + size a ≤ S.size a} {w : (Rect.unit off size inb).shape.Idx → Elt Ideal e}
    {L : List (View.Piece (Elt Ideal) S e)} {y : S.Idx} (h : ∀ a, off a ≤ y a ∧ (y a : ℕ) < off a + size a) :
    ∃ p ∈ (⟨Rect.unit off size inb, w⟩ : View.Piece (Elt Ideal) S e) :: L, y ∈ p.1.set := by
  refine ⟨⟨Rect.unit off size inb, w⟩, ?_, ?_⟩
  · exact List.mem_cons.mpr (Or.inl rfl)
  · exact (Rect.mem_set_unit (inb := inb)).mpr h

/-- An index in a later piece. -/
theorem later {p : View.Piece (Elt Ideal) S e} {L : List (View.Piece (Elt Ideal) S e)} {y : S.Idx} (h : ∃ q ∈ L, y ∈ q.1.set) :
    ∃ q ∈ p :: L, y ∈ q.1.set := by
  obtain ⟨q, hq, hy⟩ := h
  exact ⟨q, List.mem_cons_of_mem _ hq, hy⟩

end Pieces

/-! ## A sequence, and a tile of it -/

/-- One sequence's rows, and the layer's weights. -/
structure Data where
  u : Fin 4096 → Fin 512 → EReal
  q : Fin 4096 → Fin 512 → EReal
  k : Fin 4096 → Fin 128 → EReal
  v : Fin 4096 → Fin 128 → EReal
  gl : Fin 4096 → Fin 2048 → EReal
  wp : Fin 4 → Fin 128 → Fin 128 → EReal
  ps : Fin 512 → EReal
  sk : Fin 8 → EReal
  wbp : Fin 512 → Fin 1024 → EReal
  wba : Fin 512 → Fin 1024 → EReal

/-- The reference's gated mix of the sequence. -/
def Data.mix (D : Data) (s : Fin 4096) (o : Fin 1024) : EReal := mixAt D.u D.q D.k D.v D.gl D.wp D.ps D.sk D.wbp D.wba s o

/-- The numbers whose products are logits are real. -/
structure Data.Real (D : Data) : Prop where
  q : ∀ s c, ∃ r : ℝ, D.q s c = r
  k : ∀ s l, ∃ r : ℝ, D.k s l = r
  sk : ∀ h, ∃ r : ℝ, D.sk h = r

/-- What a tile loads is the sequence's `i`-th tile. -/
structure Reads (L : Loads Ideal) (i : ℕ) (D : Data) : Prop where
  lt : i < 8
  tile : L.i = BitVec.ofNat 32 i
  sk : ∀ h, L.sk h = D.sk h
  q : ∀ (nb : Fin 4) (r : Fin 128) (c : Fin 512), L.q nb (ix2 r c) = D.q ⟨512 * i + 128 * nb.val + r.val, by omega⟩ c
  kd0 : ∀ (g : Fin 2) (j : Fin 256) (l : Fin 128), L.kd0 g (ix3 0 j l) = below 128 D.k (512 * i + j.val) ⟨64 * g.val + l.val % 64, by omega⟩
  kd : ∀ (g : Fin 2) (nb : Fin 4) (j : Fin 256) (l : Fin 128), 1 ≤ nb.val →
    L.kd g nb (ix3 0 j l) = below 128 D.k (512 * i + 128 * nb.val + j.val) ⟨64 * g.val + l.val % 64, by omega⟩
  vd0 : ∀ (g : Fin 2) (j : Fin 256) (l : Fin 128), L.vd0 g (ix3 0 j l) = below 128 D.v (512 * i + j.val) ⟨64 * g.val + l.val % 64, by omega⟩
  vd : ∀ (g : Fin 2) (nb : Fin 4) (j : Fin 256) (l : Fin 128), 1 ≤ nb.val →
    L.vd g nb (ix3 0 j l) = below 128 D.v (512 * i + 128 * nb.val + j.val) ⟨64 * g.val + l.val % 64, by omega⟩
  bs : ∀ (nb : Fin 4) (ρ : Fin 512) (j : Fin 256), L.bs nb (ix3 0 ρ j) = if sees (4 * i + nb.val) (ρ.val % 128) j.val then 0 else ⊥
  xe : ∀ (g : Fin 4) (ρ : Fin 528) (x : Fin 128), L.xe g (ix2 ρ x) = below 16 D.u (512 * i + ρ.val) ⟨128 * g.val + x.val, by omega⟩
  wp : ∀ (g : Fin 4) (x o : Fin 128), L.wp g (ix3 0 x o) = D.wp g x o
  ps : ∀ (g : Fin 4) (o : Fin 128), L.ps g (ix2 0 o) = D.ps ⟨128 * g.val + o.val, by omega⟩
  wbp : ∀ (h : Fin 2) (c o : Fin 512), L.wbp h (ix2 c o) = D.wbp c ⟨512 * h.val + o.val, by omega⟩
  wba : ∀ (c : Fin 512) (o : Fin 1024), L.wba (ix2 c o) = D.wba c o
  gl : ∀ (h : Fin 2) (r : Fin 256) (c : Fin 2048), L.gl h (ix2 r c) = D.gl ⟨512 * i + 256 * h.val + r.val, by omega⟩ c

/-! ## A row's logits -/

theorem eighth_bits : Ideal.ofBits .f32 0x3E000000#32 = ((1 / 8 : ℝ) : EReal) := by
  simp [Ideal.ofBits, Ideal.ieee, -EReal.coe_mul]
  norm_num

theorem scale_eq : (Real.log 256)⁻¹ = L2e * (1 / 8) := by
  unfold L2e
  rw [show (256 : ℝ) = 2 ^ 8 by norm_num, Real.log_pow, mul_inv]
  push_cast
  ring

theorem below_real {n : ℕ} (z : ℕ) (x : Fin 4096 → Fin n → EReal) (hx : ∀ s l, ∃ r : ℝ, x s l = r) (p : ℕ) (l : Fin n) : ∃ r : ℝ, below z x p l = r := by
  unfold below
  by_cases h : z ≤ p ∧ p - z < 4096
  · rw [dif_pos h]; exact hx _ _
  · rw [dif_neg h]; exact ⟨0, rfl⟩

/-- The sum a logit is of, over the reals. -/
theorem logit_sum (q k : Fin 64 → EReal) (hq : ∀ d, ∃ r : ℝ, q d = r) (hk : ∀ d, ∃ r : ℝ, k d = r) :
    ∃ r : ℝ, (∑ d, k d * q d) * Ideal.ofBits .f32 0x3E000000#32 = r ∧ (∑ d, q d * (((Real.log 256)⁻¹ : ℝ) : EReal) * k d) = ((L2e * r : ℝ) : EReal) := by
  choose q' hq' using hq
  choose k' hk' using hk
  refine ⟨(∑ d, k' d * q' d) * (1 / 8), ?_, ?_⟩
  · simp only [hq', hk', eighth_bits, EReal.coe_mul, coe_sum]
  · simp only [hq', hk', ← EReal.coe_mul, ← coe_sum]
    refine congrArg _ ?_
    rw [scale_eq, Finset.sum_mul, Finset.mul_sum]
    exact Finset.sum_congr rfl fun d _ => by ring

theorem score_eq (q : Fin 512 → EReal) (k : Fin 4096 → Fin 128 → EReal) (hq : ∀ c, ∃ r : ℝ, q c = r) (hk : ∀ s l, ∃ r : ℝ, k s l = r)
    (n i : ℕ) (h : Fin 8) (j : Fin 256) (kd : Fin 128 → EReal) (bias : EReal) (c o : ℕ) (hc : c ≤ 448) (ho : o ≤ 64)
    (hkd : ∀ d : Fin 64, kd ⟨o + d.val, by omega⟩ = below 128 k (n * 128 + j.val) ⟨h.val / 4 * 64 + d.val, by omega⟩)
    (hb : bias = if sees n i j.val then 0 else ⊥) (hch : c = h.val * 64) :
    scoreAt q kd bias c o hc ho = (L2e : EReal) * logitAt q k n i h j ∧ logitAt q k n i h j ≠ ⊤ := by
  subst hch
  obtain ⟨r, h1, h2⟩ := logit_sum (fun d => q ⟨h.val * 64 + d.val, by omega⟩)
    (fun d => below 128 k (n * 128 + j.val) ⟨h.val / 4 * 64 + d.val, by omega⟩) (fun d => hq _) (fun d => below_real _ _ hk _ _)
  unfold scoreAt logitAt
  simp only [hkd]
  rw [hb]
  by_cases hs : sees n i j.val
  · rw [if_pos hs, if_pos hs, add_zero]
    refine ⟨?_, ?_⟩
    · refine h2.trans ?_
      rw [EReal.coe_mul]
      exact congrArg _ h1.symm
    · intro ht
      exact EReal.coe_ne_top r (h1.symm.trans ht)
  · rw [if_neg hs, if_neg hs]
    refine ⟨?_, bot_ne_top⟩
    rw [EReal.add_bot, EReal.coe_mul_bot_of_pos L2e_pos]

/-! ## A block's attention -/

section Tile

variable {L : Loads Ideal} {i : ℕ} {D : Data}

theorem row_eq (hD : D.Real) (s : Fin 4096) (h : Fin 8) (d : ℕ) (hd : d < 64) (C : Fin 512) (hC : C.val = 64 * h.val + d)
    (sc : Fin 256 → EReal) (z : EReal) (vd : Fin 256 → EReal)
    (hs : ∀ j, sc j = (L2e : EReal) * logitAt (D.q s) D.k (s.val / 128) (s.val % 128) h j ∧ logitAt (D.q s) D.k (s.val / 128) (s.val % 128) h j ≠ ⊤)
    (hz : z = D.sk h * (L2e : EReal)) (hv : ∀ j, vd j = below 128 D.v (s.val / 128 * 128 + j.val) ⟨h.val / 4 * 64 + d, by omega⟩) :
    kattn sc z vd = attnAt D.q D.k D.v D.sk s C := by
  obtain ⟨r, hr⟩ := hD.sk h
  rw [show sc = fun j => (L2e : EReal) * logitAt (D.q s) D.k (s.val / 128) (s.val % 128) h j from funext fun j => (hs j).1, hz, mul_comm (D.sk h), funext hv,
    attn_eq _ _ _ (fun j => (hs j).2) (by rw [hr]; exact EReal.coe_ne_top r) (by rw [hr]; exact EReal.coe_ne_bot r)]
  unfold attnAt
  have e1 : C.val / 64 = h.val := by omega
  have e2 : C.val % 64 = d := by omega
  simp only [e1, e2, Fin.eta]

theorem unit0_at (H : Reads L i D) (hD : D.Real) (kd vd : Vec Ideal S1x256x128 .bf16) (nb : Fin 4)
    (hk : ∀ (j : Fin 256) (l : Fin 128), kd (ix3 0 j l) = below 128 D.k (512 * i + 128 * nb.val + j.val) ⟨64 * 0 + l.val % 64, by omega⟩)
    (hv : ∀ (j : Fin 256) (l : Fin 128), vd (ix3 0 j l) = below 128 D.v (512 * i + 128 * nb.val + j.val) ⟨64 * 0 + l.val % 64, by omega⟩)
    (r : Fin 128) (c : Fin 256) (s : Fin 4096) (C : Fin 512) (hs : s.val = 512 * i + 128 * nb.val + r.val) (hC : C.val = c.val) :
    unit0 L kd vd nb (ix2 r c) = attnAt D.q D.k D.v D.sk s C := by
  have hi := H.lt
  have ec : c = ⟨64 * (⟨c.val / 64, by omega⟩ : Fin 4).val + (⟨c.val % 64, by omega⟩ : Fin 64).val, by dsimp only; omega⟩ := Fin.ext (by dsimp only; omega)
  have en : s.val / 128 = 4 * i + nb.val := by omega
  have er : s.val % 128 = r.val := by omega
  rw [ec, unit0_apply]
  refine row_eq hD s ⟨c.val / 64, by omega⟩ (c.val % 64) (by omega) C (by dsimp only; omega) _ _ _ (fun j => ?_) ?_ (fun j => ?_)
  · rw [show (fun c => L.q nb (ix2 r c)) = D.q s from funext fun c => (H.q nb r c).trans (congrArg (fun s => D.q s c) (Fin.ext hs.symm))]
    refine score_eq (D.q s) D.k (hD.q s) hD.k (s.val / 128) (s.val % 128) ⟨c.val / 64, by omega⟩ j _ _ _ _ _ _ (fun d => ?_) ?_ ?_
    · rw [hk]
      refine congrArg₂ (below 128 D.k) ?_ (Fin.ext ?_)
      · rw [en]; omega
      · dsimp only; omega
    · rw [H.bs, en, er]
      refine if_congr (Iff.of_eq (congrArg (fun r => sees _ r _) ?_)) rfl rfl
      dsimp only; omega
    · dsimp only; omega
  · rw [H.sk]; exact congrArg (fun h => D.sk h * _) (Fin.ext (by dsimp only; omega))
  · rw [hv]
    refine congrArg₂ (below 128 D.v) ?_ (Fin.ext ?_)
    · rw [en]; omega
    · dsimp only; omega

theorem unit1_at (H : Reads L i D) (hD : D.Real) (kd vd : Vec Ideal S1x256x128 .bf16) (nb : Fin 4)
    (hk : ∀ (j : Fin 256) (l : Fin 128), kd (ix3 0 j l) = below 128 D.k (512 * i + 128 * nb.val + j.val) ⟨64 * 1 + l.val % 64, by omega⟩)
    (hv : ∀ (j : Fin 256) (l : Fin 128), vd (ix3 0 j l) = below 128 D.v (512 * i + 128 * nb.val + j.val) ⟨64 * 1 + l.val % 64, by omega⟩)
    (r : Fin 128) (c : Fin 256) (s : Fin 4096) (C : Fin 512) (hs : s.val = 512 * i + 128 * nb.val + r.val) (hC : C.val = 256 + c.val) :
    unit1 L kd vd nb (ix2 r c) = attnAt D.q D.k D.v D.sk s C := by
  have hi := H.lt
  have ec : c = ⟨64 * (⟨c.val / 64, by omega⟩ : Fin 4).val + (⟨c.val % 64, by omega⟩ : Fin 64).val, by dsimp only; omega⟩ := Fin.ext (by dsimp only; omega)
  have en : s.val / 128 = 4 * i + nb.val := by omega
  have er : s.val % 128 = r.val := by omega
  rw [ec, unit1_apply]
  refine row_eq hD s ⟨4 + c.val / 64, by omega⟩ (c.val % 64) (by omega) C (by dsimp only; omega) _ _ _ (fun j => ?_) ?_ (fun j => ?_)
  · rw [show (fun c => L.q nb (ix2 r c)) = D.q s from funext fun c => (H.q nb r c).trans (congrArg (fun s => D.q s c) (Fin.ext hs.symm))]
    refine score_eq (D.q s) D.k (hD.q s) hD.k (s.val / 128) (s.val % 128) ⟨4 + c.val / 64, by omega⟩ j _ _ _ _ _ _ (fun d => ?_) ?_ ?_
    · rw [hk]
      refine congrArg₂ (below 128 D.k) ?_ (Fin.ext ?_)
      · rw [en]; omega
      · dsimp only; omega
    · rw [H.bs, en, er]
      refine if_congr (Iff.of_eq (congrArg (fun r => sees _ r _) ?_)) rfl rfl
      dsimp only; omega
    · dsimp only; omega
  · rw [H.sk]
  · rw [hv]
    refine congrArg₂ (below 128 D.v) ?_ (Fin.ext ?_)
    · rw [en]; omega
    · dsimp only; omega

theorem attends (H : Reads L i D) (hD : D.Real) (R C : Fin 512) : View.AllAt (heads8 L) (ix2 R C) (attnAt D.q D.k D.v D.sk ⟨512 * i + R.val, by have := H.lt; omega⟩ C) := by
  have hi := H.lt
  have k0 : ∀ (g : Fin 2) (j : Fin 256) (l : Fin 128), L.kd0 g (ix3 0 j l) = below 128 D.k (512 * i + 128 * (0 : Fin 4).val + j.val) ⟨64 * g.val + l.val % 64, by omega⟩ := H.kd0
  have v0 : ∀ (g : Fin 2) (j : Fin 256) (l : Fin 128), L.vd0 g (ix3 0 j l) = below 128 D.v (512 * i + 128 * (0 : Fin 4).val + j.val) ⟨64 * g.val + l.val % 64, by omega⟩ := H.vd0
  unfold heads8 heads5 heads4
  refine View.allAt_cons_unit _ _ _ _ _ (fun x hx => ?_) (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))))))
  all_goals
    obtain ⟨r, c, rfl⟩ : ∃ (r : Fin 128) (c : Fin 256), x = ix2 r c := ⟨_, _, eq_ix2 x⟩
  · have h0 : R.val = 384 + r.val := hx 0
    have h1 : C.val = 256 + c.val := hx 1
    exact unit1_at H hD _ _ 3 (fun j l => H.kd 1 3 j l (by decide)) (fun j l => H.vd 1 3 j l (by decide)) r c _ C (by show 512 * i + R.val = 512 * i + 384 + r.val; omega) h1
  · have h0 : R.val = 384 + r.val := hx 0
    have h1 : C.val = 0 + c.val := hx 1
    exact unit0_at H hD _ _ 3 (fun j l => H.kd 0 3 j l (by decide)) (fun j l => H.vd 0 3 j l (by decide)) r c _ C (by show 512 * i + R.val = 512 * i + 384 + r.val; omega) (by omega)
  · have h0 : R.val = 256 + r.val := hx 0
    have h1 : C.val = 256 + c.val := hx 1
    exact unit1_at H hD _ _ 2 (fun j l => H.kd 1 2 j l (by decide)) (fun j l => H.vd 1 2 j l (by decide)) r c _ C (by show 512 * i + R.val = 512 * i + 256 + r.val; omega) h1
  · have h0 : R.val = 256 + r.val := hx 0
    have h1 : C.val = 0 + c.val := hx 1
    exact unit0_at H hD _ _ 2 (fun j l => H.kd 0 2 j l (by decide)) (fun j l => H.vd 0 2 j l (by decide)) r c _ C (by show 512 * i + R.val = 512 * i + 256 + r.val; omega) (by omega)
  · have h0 : R.val = 128 + r.val := hx 0
    have h1 : C.val = 256 + c.val := hx 1
    exact unit1_at H hD _ _ 1 (fun j l => H.kd 1 1 j l (by decide)) (fun j l => H.vd 1 1 j l (by decide)) r c _ C (by show 512 * i + R.val = 512 * i + 128 + r.val; omega) h1
  · have h0 : R.val = 128 + r.val := hx 0
    have h1 : C.val = 0 + c.val := hx 1
    exact unit0_at H hD _ _ 1 (fun j l => H.kd 0 1 j l (by decide)) (fun j l => H.vd 0 1 j l (by decide)) r c _ C (by show 512 * i + R.val = 512 * i + 128 + r.val; omega) (by omega)
  · have h0 : R.val = 0 + r.val := hx 0
    have h1 : C.val = 256 + c.val := hx 1
    exact unit1_at H hD _ _ 0 (fun j l => k0 1 j l) (fun j l => v0 1 j l) r c _ C (by show 512 * i + R.val = 512 * i + 0 + r.val; omega) h1
  · have h0 : R.val = 0 + r.val := hx 0
    have h1 : C.val = 0 + c.val := hx 1
    exact unit0_at H hD _ _ 0 (fun j l => k0 0 j l) (fun j l => v0 0 j l) r c _ C (by show 512 * i + R.val = 512 * i + 0 + r.val; omega) (by omega)

theorem tiled8 (L : Loads Ideal) (y : S512x512.Idx) : ∃ p ∈ heads8 L, y ∈ p.1.set := View.cover_of_tiled (heads8 L) S128x256.size rfl y

theorem attends5 (H : Reads L i D) (hD : D.Real) (R C : Fin 512) : View.AllAt (heads5 L) (ix2 R C) (attnAt D.q D.k D.v D.sk ⟨512 * i + R.val, by have := H.lt; omega⟩ C) :=
  fun p hp => attends H hD R C p (List.mem_cons_of_mem _ (List.mem_cons_of_mem _ (List.mem_cons_of_mem _ hp)))

/-- The first 256 rows are there once five blocks are. -/
theorem tiled5 (L : Loads Ideal) (R C : Fin 512) (h : R.val < 256) : ∃ p ∈ heads5 L, ix2 R C ∈ p.1.set := by
  unfold heads5 heads4
  refine later ?_
  by_cases h1 : R.val < 128 <;> by_cases h2 : C.val < 256
  · exact later (later (later (here fun a => match a with
      | ⟨0, _⟩ => (by show 0 ≤ R.val ∧ R.val < 0 + 128; omega)
      | ⟨1, _⟩ => (by show 0 ≤ C.val ∧ C.val < 0 + 256; omega))))
  · exact later (later (here fun a => match a with
      | ⟨0, _⟩ => (by show 0 ≤ R.val ∧ R.val < 0 + 128; omega)
      | ⟨1, _⟩ => (by show 256 ≤ C.val ∧ C.val < 256 + 256; omega)))
  · exact later (here fun a => match a with
      | ⟨0, _⟩ => (by show 128 ≤ R.val ∧ R.val < 128 + 128; omega)
      | ⟨1, _⟩ => (by show 0 ≤ C.val ∧ C.val < 0 + 256; omega))
  · exact here fun a => match a with
      | ⟨0, _⟩ => (by show 128 ≤ R.val ∧ R.val < 128 + 128; omega)
      | ⟨1, _⟩ => (by show 256 ≤ C.val ∧ C.val < 256 + 256; omega)

/-! ## The pooled branch -/

theorem branch_at (H : Reads L i D) (h : Fin 2) (r o : Fin 512) :
    branch L h (ix2 r o) = ∑ c : Fin 512, poolAt D.u D.wp D.ps (512 * i + r.val) c * D.wbp c ⟨512 * h.val + o.val, by omega⟩ := by
  rw [branch_row]
  refine Finset.sum_congr rfl fun c _ => congrArg₂ (· * ·) ?_ (H.wbp h c o)
  unfold poolAt
  have alt : ∀ (g : Fin 4) (x : Fin 128) (P : FVec Ideal S512x128 .bf16), c.val = 128 * g.val + x.val →
      P (ix2 r x) = (∑ y : Fin 128, meanAt (fun p => below 16 D.u p ⟨128 * g.val + y.val, by omega⟩) (512 * i + r.val) (2 ^ (g.val + 1)) * L.wp g (ix3 0 y x)) * L.ps g (ix2 0 x) →
      P (ix2 r x) = (∑ k : Fin 128, meanAt (fun p => below 16 D.u p ⟨c.val / 128 * 128 + k.val, by omega⟩) (512 * i + r.val) (2 ^ (c.val / 128 + 1))
        * D.wp ⟨c.val / 128, by omega⟩ k ⟨c.val % 128, by omega⟩) * D.ps c := by
    intro g x P hc hP
    rw [hP, H.ps]
    have e1 : c.val / 128 = g.val := by omega
    have e2 : c.val % 128 = x.val := by omega
    have e3 : (⟨128 * g.val + x.val, by omega⟩ : Fin 512) = c := Fin.ext hc.symm
    simp only [e1, e2, e3, H.wp, Fin.eta, mul_comm g.val 128]
  split
  · exact alt 0 _ (pool0 L) (by dsimp only; omega) (pool0_apply L _ i H.lt H.tile (H.xe 0) r _)
  · split
    · exact alt 1 _ (pool1 L) (by dsimp only; omega) (pool1_apply L _ i H.lt H.tile (H.xe 1) r _)
    · split
      · exact alt 2 _ (pool2 L) (by dsimp only; omega) (pool2_apply L _ i H.lt H.tile (H.xe 2) r _)
      · exact alt 3 _ (pool3 L) (by dsimp only; omega) (pool3_apply L _ i H.lt H.tile (H.xe 3) r _)

theorem projects (H : Reads L i D) (R : Fin 512) (o : Fin 1024) :
    View.canon (branches L) (ix2 R o) = ∑ c : Fin 512, poolAt D.u D.wp D.ps (512 * i + R.val) c * D.wbp c o := by
  refine View.canon_eq_of_allAt _ _ _ (View.cover_of_tiled (branches L) S512x512.size rfl _) ?_
  unfold branches
  refine View.allAt_cons_unit _ _ _ _ _ (fun x hx => ?_) (View.allAt_cons_unit _ _ _ _ _ (fun x hx => ?_) (View.allAt_nil _ _))
  all_goals
    obtain ⟨r, c, rfl⟩ : ∃ (r c : Fin 512), x = ix2 r c := ⟨_, _, eq_ix2 x⟩
  · have h0 : R.val = 0 + r.val := hx 0
    have h1 : o.val = 512 + c.val := hx 1
    have e0 : r = R := Fin.ext (by omega)
    have e1 : (⟨512 * (1 : Fin 2).val + c.val, by show 512 * 1 + c.val < 1024; omega⟩ : Fin 1024) = o := Fin.ext (by show 512 * 1 + c.val = o.val; omega)
    rw [branch_at H, e0, e1]
  · have h0 : R.val = 0 + r.val := hx 0
    have h1 : o.val = 0 + c.val := hx 1
    have e0 : r = R := Fin.ext (by omega)
    have e1 : (⟨512 * (0 : Fin 2).val + c.val, by show 512 * 0 + c.val < 1024; omega⟩ : Fin 1024) = o := Fin.ext (by show 512 * 0 + c.val = o.val; omega)
    rw [branch_at H, e0, e1]

/-! ## The gated mix -/

theorem low_wide (X : Vec Ideal S512x1024 .f32) (r : Fin 256) (c : Fin 1024) (R : Fin 512) (h : R.val = 256 + r.val) :
    X ((Rect.unit (s := S512x1024) ![256, 0] S256x1024.size inb_S512x1024_S256x1024_256_0).toLoadRect.idx (ix2 r c)) = X (ix2 R c) := by
  refine congrArg X (funext fun a => Fin.ext ?_)
  match a with
  | ⟨0, _⟩ => exact (Rect.idx_unit_val (s := S512x1024) ![256, 0] S256x1024.size inb_S512x1024_S256x1024_256_0 (ix2 r c) 0).trans h.symm
  | ⟨1, _⟩ => exact (Rect.idx_unit_val (s := S512x1024) ![256, 0] S256x1024.size inb_S512x1024_S256x1024_256_0 (ix2 r c) 1).trans (Nat.zero_add _)
theorem high_wide (X : Vec Ideal S512x1024 .f32) (r : Fin 256) (c : Fin 1024) (R : Fin 512) (h : R.val = 0 + r.val) :
    X ((Rect.unit (s := S512x1024) ![0, 0] S256x1024.size inb_S512x1024_S256x1024_0_0).toLoadRect.idx (ix2 r c)) = X (ix2 R c) := by
  refine congrArg X (funext fun a => Fin.ext ?_)
  match a with
  | ⟨0, _⟩ => exact (Rect.idx_unit_val (s := S512x1024) ![0, 0] S256x1024.size inb_S512x1024_S256x1024_0_0 (ix2 r c) 0).trans h.symm
  | ⟨1, _⟩ => exact (Rect.idx_unit_val (s := S512x1024) ![0, 0] S256x1024.size inb_S512x1024_S256x1024_0_0 (ix2 r c) 1).trans (Nat.zero_add _)
theorem low_narrow (X : Vec Ideal S512x512 .f32) (r : Fin 256) (c : Fin 512) (R : Fin 512) (h : R.val = 256 + r.val) :
    X ((Rect.unit (s := S512x512) ![256, 0] S256x512.size inb_S512x512_S256x512_256_0).toLoadRect.idx (ix2 r c)) = X (ix2 R c) := by
  refine congrArg X (funext fun a => Fin.ext ?_)
  match a with
  | ⟨0, _⟩ => exact (Rect.idx_unit_val (s := S512x512) ![256, 0] S256x512.size inb_S512x512_S256x512_256_0 (ix2 r c) 0).trans h.symm
  | ⟨1, _⟩ => exact (Rect.idx_unit_val (s := S512x512) ![256, 0] S256x512.size inb_S512x512_S256x512_256_0 (ix2 r c) 1).trans (Nat.zero_add _)
theorem high_narrow (X : Vec Ideal S512x512 .f32) (r : Fin 256) (c : Fin 512) (R : Fin 512) (h : R.val = 0 + r.val) :
    X ((Rect.unit (s := S512x512) ![0, 0] S256x512.size inb_S512x512_S256x512_0_0).toLoadRect.idx (ix2 r c)) = X (ix2 R c) := by
  refine congrArg X (funext fun a => Fin.ext ?_)
  match a with
  | ⟨0, _⟩ => exact (Rect.idx_unit_val (s := S512x512) ![0, 0] S256x512.size inb_S512x512_S256x512_0_0 (ix2 r c) 0).trans h.symm
  | ⟨1, _⟩ => exact (Rect.idx_unit_val (s := S512x512) ![0, 0] S256x512.size inb_S512x512_S256x512_0_0 (ix2 r c) 1).trans (Nat.zero_add _)

theorem mixes (H : Reads L i D) (hD : D.Real) (R : Fin 512) (o : Fin 1024) :
    View.AllAt (mixed L) (ix2 R o) (D.mix ⟨512 * i + R.val, by have := H.lt; omega⟩ o) := by
  have hi := H.lt
  unfold mixed
  refine View.allAt_cons_unit _ _ _ _ _ (fun x hx => ?_) (View.allAt_cons_unit _ _ _ _ _ (fun x hx => ?_) (View.allAt_nil _ _))
  all_goals
    obtain ⟨r, c, rfl⟩ : ∃ (r : Fin 256) (c : Fin 1024), x = ix2 r c := ⟨_, _, eq_ix2 x⟩
  · have h0 : R.val = 256 + r.val := hx 0
    have h1 : o.val = 0 + c.val := hx 1
    have e1 : c = o := Fin.ext (by omega)
    subst e1
    have es : (⟨512 * i + 256 * (1 : Fin 2).val + r.val, by show 512 * i + 256 * 1 + r.val < 4096; omega⟩ : Fin 4096) = ⟨512 * i + R.val, by omega⟩ :=
      Fin.ext (by show 512 * i + 256 * 1 + r.val = 512 * i + R.val; omega)
    rw [merge_apply, H.gl, H.gl, es]
    unfold Data.mix mixAt
    refine congrArg₂ (· + ·) (congrArg _ ?_) (congrArg _ (Finset.sum_congr rfl fun y _ => congrArg₂ (· * ·) ?_ (H.wba y c)))
    · rw [View.readCov_eq_canon' scM0_5.view (branches L)]
      exact (low_wide (View.canon (branches L)) r c R h0).trans (projects H R c)
    · rw [View.readCov_eq_canon' scM0_3.view (heads8 L)]
      exact (low_narrow (View.canon (heads8 L)) r y R h0).trans (View.canon_eq_of_allAt _ _ _ (tiled8 L _) (attends H hD R y))
  · have h0 : R.val = 0 + r.val := hx 0
    have h1 : o.val = 0 + c.val := hx 1
    have e1 : c = o := Fin.ext (by omega)
    subst e1
    have es : (⟨512 * i + 256 * (0 : Fin 2).val + r.val, by show 512 * i + 256 * 0 + r.val < 4096; omega⟩ : Fin 4096) = ⟨512 * i + R.val, by omega⟩ :=
      Fin.ext (by show 512 * i + 256 * 0 + r.val = 512 * i + R.val; omega)
    rw [merge_apply, H.gl, H.gl, es]
    unfold Data.mix mixAt
    refine congrArg₂ (· + ·) (congrArg _ ?_) (congrArg _ (Finset.sum_congr rfl fun y _ => congrArg₂ (· * ·) ?_ (H.wba y c)))
    · rw [View.readCov_eq_canon' scM0_5.view (branches L)]
      exact (high_wide (View.canon (branches L)) r c R h0).trans (projects H R c)
    · rw [View.readCov_eq_canon' scM0_3.view (heads5 L)]
      exact (high_narrow (View.canon (heads5 L)) r y R h0).trans (View.canon_eq_of_allAt _ _ _ (tiled5 L R y (by omega)) (attends5 H hD R y))

end Tile

end Cert.MixIdeal.Rows
end
-- ==== Proof.MixLeft.lean ====
/- What each kind of grid point of the mixing kernel leaves in its buffers, as lists of stored pieces over what the point loads:
   the first point, a tile that continues its sequence, a sequence's last tile, a later sequence's first tile. -/
module

public import proofs.«01_k».proof.Proof.MixTile

@[expose] public section

set_option maxRecDepth 16384
set_option maxHeartbeats 1000000

noncomputable section

namespace Cert.MixIdeal.Rows

open Idealize.ShloMosaic Idealize.ShloMosaic.TcCoe
open Cert.MixIdeal Cert.MixIdeal.Gen

variable {F : FTy → Type} [FloatOps F] [Named F]
variable (m : (ℓ : Loc nD τ sig) → Buf (Elt F) ℓ)

/-- The tile before, finished: its rows of the residual plus the gated mix through the output projection, four column blocks. -/
def outs (c : Dev nD) (t : Fin cfg0.N) (mx : Vec F S512x1024 .bf16) : List (View.Piece (Elt F) S512x1024 .f32) :=
  [⟨Rect.unit (s := S512x1024) ![0, 768] S512x256.size inb_S512x1024_S512x256_0_768,
    k0_pay65 (View.readAt (Elt F) (ms0_11 t).view (Rect.unit (s := S512x1024) ![0, 768] S512x256.size inb_S512x1024_S512x256_0_768).toLoadRect ((hs0_11 t).unread (iblk m c 11 t))) mx
      (View.readAt (Elt F) (ms0_10 t).view (Rect.unit (s := S1024x1024) ![0, 768] S1024x256.size inb_S1024x1024_S1024x256_0_768).toLoadRect ((hs0_10 t).unread (iblk m c 10 t)))⟩,
   ⟨Rect.unit (s := S512x1024) ![0, 512] S512x256.size inb_S512x1024_S512x256_0_512,
    k0_pay53 (View.readAt (Elt F) (ms0_11 t).view (Rect.unit (s := S512x1024) ![0, 512] S512x256.size inb_S512x1024_S512x256_0_512).toLoadRect ((hs0_11 t).unread (iblk m c 11 t))) mx
      (View.readAt (Elt F) (ms0_10 t).view (Rect.unit (s := S1024x1024) ![0, 512] S1024x256.size inb_S1024x1024_S1024x256_0_512).toLoadRect ((hs0_10 t).unread (iblk m c 10 t)))⟩,
   ⟨Rect.unit (s := S512x1024) ![0, 256] S512x256.size inb_S512x1024_S512x256_0_256,
    k0_pay44 (View.readAt (Elt F) (ms0_11 t).view (Rect.unit (s := S512x1024) ![0, 256] S512x256.size inb_S512x1024_S512x256_0_256).toLoadRect ((hs0_11 t).unread (iblk m c 11 t))) mx
      (View.readAt (Elt F) (ms0_10 t).view (Rect.unit (s := S1024x1024) ![0, 256] S1024x256.size inb_S1024x1024_S1024x256_0_256).toLoadRect ((hs0_10 t).unread (iblk m c 10 t)))⟩,
   ⟨Rect.unit (s := S512x1024) ![0, 0] S512x256.size inb_S512x1024_S512x256_0_0,
    k0_pay30 (View.readAt (Elt F) (ms0_11 t).view (Rect.unit (s := S512x1024) ![0, 0] S512x256.size inb_S512x1024_S512x256_0_0).toLoadRect ((hs0_11 t).unread (iblk m c 11 t))) mx
      (View.readAt (Elt F) (ms0_10 t).view (Rect.unit (s := S1024x1024) ![0, 0] S1024x256.size inb_S1024x1024_S1024x256_0_0).toLoadRect ((hs0_10 t).unread (iblk m c 10 t)))⟩]

/-- The gated mix, loaded back from what the point before left. -/
def mixLoad (xs6 : Vec F S512x1024 .bf16) : Vec F S512x1024 .bf16 :=
  View.readAt (Elt F) scM0_6.view (Rect.unit (s := S512x1024) ![0, 0] S512x1024.size inb_S512x1024_S512x1024_0_0).toLoadRect
    ((Memref.isWhole_whole _).unread xs6)

/-- A buffer whose last rows were copied to its top. -/
def topU (L : List (View.Piece (Elt F) S528x512 .f32)) : List (View.Piece (Elt F) S528x512 .f32) :=
  ⟨Rect.unit (s := S528x512) ![0, 0] S16x512.size inb_S528x512_S16x512_0_0,
    k0_pay131 (scM0_0.view.readCov L (Rect.unit (s := S528x512) ![512, 0] S16x512.size inb_S528x512_S16x512_512_0).toLoadRect)⟩ :: L
def topK (L : List (View.Piece (Elt F) S2x640x128 .bf16)) : List (View.Piece (Elt F) S2x640x128 .bf16) :=
  ⟨Rect.unit (s := S2x640x128) ![0, 0, 0] S2x128x128.size inb_S2x640x128_S2x128x128_0_0_0,
    k0_pay132 (scM0_1.view.readCov L (Rect.unit (s := S2x640x128) ![0, 512, 0] S2x128x128.size inb_S2x640x128_S2x128x128_0_512_0).toLoadRect)⟩ :: L
def topV (L : List (View.Piece (Elt F) S2x640x128 .bf16)) : List (View.Piece (Elt F) S2x640x128 .bf16) :=
  ⟨Rect.unit (s := S2x640x128) ![0, 0, 0] S2x128x128.size inb_S2x640x128_S2x128x128_0_0_0,
    k0_pay1 (scM0_2.view.readCov L (Rect.unit (s := S2x640x128) ![0, 512, 0] S2x128x128.size inb_S2x640x128_S2x128x128_0_512_0).toLoadRect)⟩ :: L

/-- A sequence's last 128 rows of keys (or values), transposed. -/
def kts (c : Dev nD) (t : Fin cfg0.N) : List (View.Piece (Elt F) S1x128x128 .f32) :=
  [⟨Rect.unit (s := S1x128x128) ![0, 0, 0] S1x128x128.size inb_S1x128x128_S1x128x128_0_0_0,
    k0_pay129 (View.readAt (Elt F) (ms0_3 t).view (Rect.unit (s := S512x128) ![384, 0] S128x128.size inb_S512x128_S128x128_384_0).toLoadRect ((hs0_3 t).unread (iblk m c 3 t)))⟩]
def vts (c : Dev nD) (t : Fin cfg0.N) : List (View.Piece (Elt F) S1x128x128 .f32) :=
  [⟨Rect.unit (s := S1x128x128) ![0, 0, 0] S1x128x128.size inb_S1x128x128_S1x128x128_0_0_0,
    k0_pay130 (View.readAt (Elt F) (ms0_4 t).view (Rect.unit (s := S512x128) ![384, 0] S128x128.size inb_S512x128_S128x128_384_0).toLoadRect ((hs0_4 t).unread (iblk m c 4 t)))⟩]

/-! ## The first point -/

theorem uext_A (c : Dev nD) (t : Fin cfg0.N) (h : t.val = 0) : (leftA m c t h).uext = View.canon (topU (ufresh m c t)) := by
  unfold leftA
  dsimp only
  rw [View.read_writes_junk_eq_canon]
  refine congrArg View.canon ?_
  unfold runA
  frame_open
  rfl

theorem kdup_A (c : Dev nD) (t : Fin cfg0.N) (h : t.val = 0) : (leftA m c t h).kdup = View.canon (topK (kfresh m c t)) := by
  unfold leftA
  dsimp only
  rw [View.read_writes_junk_eq_canon]
  refine congrArg View.canon ?_
  unfold runA
  frame_open
  rfl

theorem vdup_A (c : Dev nD) (t : Fin cfg0.N) (h : t.val = 0) : (leftA m c t h).vdup = View.canon (topV (vfresh m c t)) := by
  unfold leftA
  dsimp only
  rw [View.read_writes_junk_eq_canon]
  refine congrArg View.canon ?_
  unfold runA
  frame_open
  rfl

theorem bias_A (c : Dev nD) (t : Fin cfg0.N) (h : t.val = 0) : (leftA m c t h).bias = View.canon (masks) := by
  unfold leftA
  dsimp only
  rw [View.read_writes_junk_eq_canon]
  refine congrArg View.canon ?_
  unfold runA
  frame_open
  rfl

theorem mixed_A (c : Dev nD) (t : Fin cfg0.N) (h : t.val = 0) : (leftA m c t h).mixed = View.canon (mixed (freshLoads m c t) ++
    [⟨Rect.unit (s := S512x1024) ![0, 0] S512x1024.size inb_S512x1024_S512x1024_0_0, k0_pay8⟩]) := by
  unfold leftA
  dsimp only
  rw [View.read_writes_junk_eq_canon]
  refine congrArg View.canon ?_
  unfold runA
  conv_rhs =>
    unfold mixed heads8 heads5 heads4 branches branch pool0 pool1 pool2 pool3 unit0 unit1 sink0 sink1 freshLoads loads
    dsimp only [List.cons_append, List.nil_append]
  frame_open
  rfl

/-! ## A tile inside its sequence -/

theorem x1_B (c : Dev nD) (t : Fin cfg0.N) (h1 : ¬t.val % 8 = 0) (h2 : ¬t.val % 8 = 7) (p : Left F) : (leftB m c t h1 h2 p).x1 = View.canon (outs m c t (mixLoad p.mixed)) := by
  unfold leftB
  dsimp only
  rw [View.read_writes_junk_eq_canon]
  refine congrArg View.canon ?_
  unfold runB
  frame_open
  rfl

theorem uext_B (c : Dev nD) (t : Fin cfg0.N) (h1 : ¬t.val % 8 = 0) (h2 : ¬t.val % 8 = 7) (p : Left F) : (leftB m c t h1 h2 p).uext = View.canon (topU (ubuf m c t)) := by
  unfold leftB
  dsimp only
  rw [View.read_writes_junk_eq_canon]
  refine congrArg View.canon ?_
  unfold runB
  frame_open
  rfl

theorem kdup_B (c : Dev nD) (t : Fin cfg0.N) (h1 : ¬t.val % 8 = 0) (h2 : ¬t.val % 8 = 7) (p : Left F) : (leftB m c t h1 h2 p).kdup = View.canon (topK (dbuf (kload m c t))) := by
  unfold leftB
  dsimp only
  rw [View.read_writes_junk_eq_canon]
  refine congrArg View.canon ?_
  unfold runB
  frame_open
  rfl

theorem vdup_B (c : Dev nD) (t : Fin cfg0.N) (h1 : ¬t.val % 8 = 0) (h2 : ¬t.val % 8 = 7) (p : Left F) : (leftB m c t h1 h2 p).vdup = View.canon (topV (dbuf (vload m c t))) := by
  unfold leftB
  dsimp only
  rw [View.read_writes_junk_eq_canon]
  refine congrArg View.canon ?_
  unfold runB
  frame_open
  rfl

theorem mixed_B (c : Dev nD) (t : Fin cfg0.N) (h1 : ¬t.val % 8 = 0) (h2 : ¬t.val % 8 = 7) (p : Left F) : (leftB m c t h1 h2 p).mixed = View.canon (mixed (keptLoads m c t p.uext p.kdup p.vdup p.bias)) := by
  unfold leftB
  dsimp only
  rw [View.read_writes_junk_eq_canon]
  refine congrArg View.canon ?_
  unfold runB
  conv_rhs =>
    unfold mixed heads8 heads5 heads4 branches branch pool0 pool1 pool2 pool3 unit0 unit1 sink0 sink1 keptLoads loads
    dsimp only
  frame_open
  rfl

/-! ## A sequence's last tile -/

theorem x1_C (c : Dev nD) (t : Fin cfg0.N) (h : t.val % 8 = 7) (p : Left F) : (leftC m c t h p).x1 = View.canon (outs m c t (mixLoad p.mixed)) := by
  unfold leftC
  dsimp only
  rw [View.read_writes_junk_eq_canon]
  refine congrArg View.canon ?_
  unfold runC
  frame_open
  rfl

theorem kt_C (c : Dev nD) (t : Fin cfg0.N) (h : t.val % 8 = 7) (p : Left F) : (leftC m c t h p).kt = View.canon (kts m c t) := by
  unfold leftC
  dsimp only
  rw [View.read_writes_junk_eq_canon]
  refine congrArg View.canon ?_
  unfold runC
  frame_open
  rfl

theorem vt_C (c : Dev nD) (t : Fin cfg0.N) (h : t.val % 8 = 7) (p : Left F) : (leftC m c t h p).vt = View.canon (vts m c t) := by
  unfold leftC
  dsimp only
  rw [View.read_writes_junk_eq_canon]
  refine congrArg View.canon ?_
  unfold runC
  frame_open
  rfl

theorem uext_C (c : Dev nD) (t : Fin cfg0.N) (h : t.val % 8 = 7) (p : Left F) : (leftC m c t h p).uext = View.canon (topU (ubuf m c t)) := by
  unfold leftC
  dsimp only
  rw [View.read_writes_junk_eq_canon]
  refine congrArg View.canon ?_
  unfold runC
  frame_open
  rfl

theorem kdup_C (c : Dev nD) (t : Fin cfg0.N) (h : t.val % 8 = 7) (p : Left F) : (leftC m c t h p).kdup = View.canon (topK (dbuf (kload m c t))) := by
  unfold leftC
  dsimp only
  rw [View.read_writes_junk_eq_canon]
  refine congrArg View.canon ?_
  unfold runC
  frame_open
  rfl

theorem vdup_C (c : Dev nD) (t : Fin cfg0.N) (h : t.val % 8 = 7) (p : Left F) : (leftC m c t h p).vdup = View.canon (topV (dbuf (vload m c t))) := by
  unfold leftC
  dsimp only
  rw [View.read_writes_junk_eq_canon]
  refine congrArg View.canon ?_
  unfold runC
  frame_open
  rfl

theorem mixed_C (c : Dev nD) (t : Fin cfg0.N) (h : t.val % 8 = 7) (p : Left F) : (leftC m c t h p).mixed = View.canon (mixed (keptLoads m c t p.uext p.kdup p.vdup p.bias)) := by
  unfold leftC
  dsimp only
  rw [View.read_writes_junk_eq_canon]
  refine congrArg View.canon ?_
  unfold runC
  conv_rhs =>
    unfold mixed heads8 heads5 heads4 branches branch pool0 pool1 pool2 pool3 unit0 unit1 sink0 sink1 keptLoads loads
    dsimp only
  frame_open
  rfl

/-! ## A later sequence's first tile -/

theorem x1_D (c : Dev nD) (t : Fin cfg0.N) (h : t.val % 8 = 0) (hz : ¬t.val = 0) (p : Left F) : (leftD m c t h hz p).x1 = View.canon (outs m c t (mixLoad p.mixed)) := by
  unfold leftD
  dsimp only
  rw [View.read_writes_junk_eq_canon]
  refine congrArg View.canon ?_
  unfold runD
  frame_open
  rfl

theorem uext_D (c : Dev nD) (t : Fin cfg0.N) (h : t.val % 8 = 0) (hz : ¬t.val = 0) (p : Left F) : (leftD m c t h hz p).uext = View.canon (topU (ufresh m c t)) := by
  unfold leftD
  dsimp only
  rw [View.read_writes_junk_eq_canon]
  refine congrArg View.canon ?_
  unfold runD
  frame_open
  rfl

theorem kdup_D (c : Dev nD) (t : Fin cfg0.N) (h : t.val % 8 = 0) (hz : ¬t.val = 0) (p : Left F) : (leftD m c t h hz p).kdup = View.canon (topK (kfresh m c t)) := by
  unfold leftD
  dsimp only
  rw [View.read_writes_junk_eq_canon]
  refine congrArg View.canon ?_
  unfold runD
  frame_open
  rfl

theorem vdup_D (c : Dev nD) (t : Fin cfg0.N) (h : t.val % 8 = 0) (hz : ¬t.val = 0) (p : Left F) : (leftD m c t h hz p).vdup = View.canon (topV (vfresh m c t)) := by
  unfold leftD
  dsimp only
  rw [View.read_writes_junk_eq_canon]
  refine congrArg View.canon ?_
  unfold runD
  frame_open
  rfl

theorem bias_D (c : Dev nD) (t : Fin cfg0.N) (h : t.val % 8 = 0) (hz : ¬t.val = 0) (p : Left F) : (leftD m c t h hz p).bias = View.canon (masks) := by
  unfold leftD
  dsimp only
  rw [View.read_writes_junk_eq_canon]
  refine congrArg View.canon ?_
  unfold runD
  frame_open
  rfl

theorem mixed_D (c : Dev nD) (t : Fin cfg0.N) (h : t.val % 8 = 0) (hz : ¬t.val = 0) (p : Left F) : (leftD m c t h hz p).mixed = View.canon (mixed (freshLoads m c t)) := by
  unfold leftD
  dsimp only
  rw [View.read_writes_junk_eq_canon]
  refine congrArg View.canon ?_
  unfold runD
  conv_rhs =>
    unfold mixed heads8 heads5 heads4 branches branch pool0 pool1 pool2 pool3 unit0 unit1 sink0 sink1 freshLoads loads
    dsimp only
  frame_open
  rfl

end Cert.MixIdeal.Rows

end
-- ==== Proof.MixBlk.lean ====
module

public import proofs.«01_k».proof.Proof.MixMixed
public import proofs.«01_k».proof.Proof.MixLeft

/-! The blocks of the mixing kernel's grid points as entries of the arguments: point `t` reads rows `512 t …` of the
flattened inputs, the weights whole, and rows `512 (t - 1) …` of the residual. -/

@[expose] public section

set_option maxRecDepth 16384
set_option maxHeartbeats 1000000

noncomputable section

namespace Cert.MixIdeal.Rows

open Idealize.ShloMosaic Idealize.ShloMosaic.TcCoe
open Cert.MixIdeal Cert.MixIdeal.Gen Cert.MixRefIdeal.Rows

variable (m : (ℓ : Loc nD τ sig) → Buf (Elt Ideal) ℓ)

/-! ## The arguments -/

/-- The twelve arguments on a device. -/
abbrev aX (c : Dev nD) : FVec Ideal S8x4096x1024 .f32 := m ((c : Thread nD τ).loc main_arg0)
abbrev aU (c : Dev nD) : FVec Ideal S8x4096x512 .f32 := m ((c : Thread nD τ).loc main_arg1)
abbrev aQ (c : Dev nD) : FVec Ideal S8x4096x512 .f32 := m ((c : Thread nD τ).loc main_arg2)
abbrev aK (c : Dev nD) : FVec Ideal S8x4096x128 .f32 := m ((c : Thread nD τ).loc main_arg3)
abbrev aV (c : Dev nD) : FVec Ideal S8x4096x128 .f32 := m ((c : Thread nD τ).loc main_arg4)
abbrev aGl (c : Dev nD) : FVec Ideal S8x4096x2048 .f32 := m ((c : Thread nD τ).loc main_arg5)
abbrev aWp (c : Dev nD) : FVec Ideal S1x4x128x128 .f32 := m ((c : Thread nD τ).loc main_arg6)
abbrev aPs (c : Dev nD) : FVec Ideal S1x512 .f32 := m ((c : Thread nD τ).loc main_arg7)
abbrev aSk (c : Dev nD) : FVec Ideal S1x8 .f32 := m ((c : Thread nD τ).loc main_arg8)
abbrev aWbp (c : Dev nD) : FVec Ideal S1x512x1024 .f32 := m ((c : Thread nD τ).loc main_arg9)
abbrev aWba (c : Dev nD) : FVec Ideal S1x512x1024 .f32 := m ((c : Thread nD τ).loc main_arg10)
abbrev aWout (c : Dev nD) : FVec Ideal S1x1024x1024 .f32 := m ((c : Thread nD τ).loc main_arg11)

/-- Sequence `b` of the arguments. -/
def seqData (c : Dev nD) (b : Fin 8) : Data where
  u s l := aU m c (ix3 b s l)
  q s l := aQ m c (ix3 b s l)
  k s l := aK m c (ix3 b s l)
  v s l := aV m c (ix3 b s l)
  gl s l := aGl m c (ix3 b s l)
  wp g k o := aWp m c (ix4 0 g k o)
  ps k := aPs m c (ix2 0 k)
  sk h := aSk m c (ix2 0 h)
  wbp k o := aWbp m c (ix3 0 k o)
  wba k o := aWba m c (ix3 0 k o)

/-! ## Where the blocks lie -/

theorem idx_rows : ∀ t : Fin cfg0.N, t.val < 64 → win0_1.index t = ![t.val, 0] ∧ win0_2.index t = ![t.val, 0] ∧ win0_3.index t = ![t.val, 0]
    ∧ win0_4.index t = ![t.val, 0] ∧ win0_5.index t = ![t.val, 0] :=
  (by decide +kernel : ∀ t : Fin grid0.N, t.val < 64 → win0_1.index t = ![t.val, 0] ∧ win0_2.index t = ![t.val, 0] ∧ win0_3.index t = ![t.val, 0]
    ∧ win0_4.index t = ![t.val, 0] ∧ win0_5.index t = ![t.val, 0])

theorem idx_whole : ∀ t : Fin cfg0.N, win0_0.index t = ![0] ∧ win0_6.index t = ![0, 0, 0] ∧ win0_7.index t = ![0, 0]
    ∧ win0_8.index t = ![0, 0] ∧ win0_9.index t = ![0, 0] ∧ win0_10.index t = ![0, 0] :=
  (by decide +kernel : ∀ t : Fin grid0.N, win0_0.index t = ![0] ∧ win0_6.index t = ![0, 0, 0] ∧ win0_7.index t = ![0, 0]
    ∧ win0_8.index t = ![0, 0] ∧ win0_9.index t = ![0, 0] ∧ win0_10.index t = ![0, 0])

theorem idx_late : ∀ t : Fin cfg0.N, win0_11.index t = ![t.val - 1, 0] ∧ win0_12.index t = ![t.val - 1, 0]
    ∧ win0_13.index t = ![min t.val 63 / 8, 0, 0] ∧ win0_14.index t = ![min t.val 63 / 8, 0, 0] :=
  (by decide +kernel : ∀ t : Fin grid0.N, win0_11.index t = ![t.val - 1, 0] ∧ win0_12.index t = ![t.val - 1, 0]
    ∧ win0_13.index t = ![min t.val 63 / 8, 0, 0] ∧ win0_14.index t = ![min t.val 63 / 8, 0, 0])

theorem t_lt (t : Fin cfg0.N) : t.val < 65 := lt_of_lt_of_eq t.isLt Gen.N_0

/-! ## What the host prepares -/

theorem host_x (c : Dev nD) : V m c main_v0 = (shapeCast S32768x1024 (aX m c) shapeCasts_S8x4096x1024_S32768x1024 : Vec Ideal _ _) := by
  show StableHlo.after hostOps0 (fun b => m (c, b)) (Proc.tc.devRef main_v0) = _
  simp only [hostOps0, StableHlo.TRef.unary, StableHlo.TRef.toBuf, StableHlo.TRef.ofBuf, cast_eq]
  after_results_simp
  rfl

theorem host_u (c : Dev nD) : V m c main_v1 = (shapeCast S32768x512 (aU m c) shapeCasts_S8x4096x512_S32768x512 : Vec Ideal _ _) := by
  show StableHlo.after hostOps0 (fun b => m (c, b)) (Proc.tc.devRef main_v1) = _
  simp only [hostOps0, StableHlo.TRef.unary, StableHlo.TRef.toBuf, StableHlo.TRef.ofBuf, cast_eq]
  after_results_simp
  rfl

theorem host_q (c : Dev nD) : V m c main_v2 = (shapeCast S32768x512 (aQ m c) shapeCasts_S8x4096x512_S32768x512 : Vec Ideal _ _) := by
  show StableHlo.after hostOps0 (fun b => m (c, b)) (Proc.tc.devRef main_v2) = _
  simp only [hostOps0, StableHlo.TRef.unary, StableHlo.TRef.toBuf, StableHlo.TRef.ofBuf, cast_eq]
  after_results_simp
  rfl

theorem host_k (c : Dev nD) : V m c main_v3 = (shapeCast S32768x128 (aK m c) shapeCasts_S8x4096x128_S32768x128 : Vec Ideal _ _) := by
  show StableHlo.after hostOps0 (fun b => m (c, b)) (Proc.tc.devRef main_v3) = _
  simp only [hostOps0, StableHlo.TRef.unary, StableHlo.TRef.toBuf, StableHlo.TRef.ofBuf, cast_eq]
  after_results_simp
  rfl

theorem host_v (c : Dev nD) : V m c main_v4 = (shapeCast S32768x128 (aV m c) shapeCasts_S8x4096x128_S32768x128 : Vec Ideal _ _) := by
  show StableHlo.after hostOps0 (fun b => m (c, b)) (Proc.tc.devRef main_v4) = _
  simp only [hostOps0, StableHlo.TRef.unary, StableHlo.TRef.toBuf, StableHlo.TRef.ofBuf, cast_eq]
  after_results_simp
  rfl

theorem host_gl (c : Dev nD) : V m c main_v5 = (shapeCast S32768x2048 (aGl m c) shapeCasts_S8x4096x2048_S32768x2048 : Vec Ideal _ _) := by
  show StableHlo.after hostOps0 (fun b => m (c, b)) (Proc.tc.devRef main_v5) = _
  simp only [hostOps0, StableHlo.TRef.unary, StableHlo.TRef.toBuf, StableHlo.TRef.ofBuf, cast_eq]
  after_results_simp
  rfl

theorem host_sk (c : Dev nD) : V m c main_v6 = (shapeCast S8 (aSk m c) shapeCasts_S1x8_S8 : Vec Ideal _ _) := by
  show StableHlo.after hostOps0 (fun b => m (c, b)) (Proc.tc.devRef main_v6) = _
  simp only [hostOps0, StableHlo.TRef.unary, StableHlo.TRef.toBuf, StableHlo.TRef.ofBuf, cast_eq]
  after_results_simp
  rfl

theorem host_wp (c : Dev nD) : V m c main_v8 = (truncf .bf16 (shapeCast S4x128x128 (aWp m c) shapeCasts_S1x4x128x128_S4x128x128 : FVec Ideal S4x128x128 .f32) bitsLt_bf16_f32 : Vec Ideal _ _) := by
  show StableHlo.after hostOps0 (fun b => m (c, b)) (Proc.tc.devRef main_v8) = _
  simp only [hostOps0, StableHlo.TRef.unary, StableHlo.TRef.toBuf, StableHlo.TRef.ofBuf, cast_eq]
  after_results_simp
  rfl

theorem host_ps (c : Dev nD) : V m c main_v10 = (shapeCast S1x512 (shapeCast S512 (aPs m c) shapeCasts_S1x512_S512 : FVec Ideal S512 .f32) shapeCasts_S512_S1x512 : Vec Ideal _ _) := by
  show StableHlo.after hostOps0 (fun b => m (c, b)) (Proc.tc.devRef main_v10) = _
  simp only [hostOps0, StableHlo.TRef.unary, StableHlo.TRef.toBuf, StableHlo.TRef.ofBuf, cast_eq]
  after_results_simp
  rfl

theorem host_wbp (c : Dev nD) : V m c main_v12 = (truncf .bf16 (shapeCast S512x1024 (aWbp m c) shapeCasts_S1x512x1024_S512x1024 : FVec Ideal S512x1024 .f32) bitsLt_bf16_f32 : Vec Ideal _ _) := by
  show StableHlo.after hostOps0 (fun b => m (c, b)) (Proc.tc.devRef main_v12) = _
  simp only [hostOps0, StableHlo.TRef.unary, StableHlo.TRef.toBuf, StableHlo.TRef.ofBuf, cast_eq]
  after_results_simp
  rfl

theorem host_wba (c : Dev nD) : V m c main_v14 = (truncf .bf16 (shapeCast S512x1024 (aWba m c) shapeCasts_S1x512x1024_S512x1024 : FVec Ideal S512x1024 .f32) bitsLt_bf16_f32 : Vec Ideal _ _) := by
  show StableHlo.after hostOps0 (fun b => m (c, b)) (Proc.tc.devRef main_v14) = _
  simp only [hostOps0, StableHlo.TRef.unary, StableHlo.TRef.toBuf, StableHlo.TRef.ofBuf, cast_eq]
  after_results_simp
  rfl

theorem host_wout (c : Dev nD) : V m c main_v16 = (truncf .bf16 (shapeCast S1024x1024 (aWout m c) shapeCasts_S1x1024x1024_S1024x1024 : FVec Ideal S1024x1024 .f32) bitsLt_bf16_f32 : Vec Ideal _ _) := by
  show StableHlo.after hostOps0 (fun b => m (c, b)) (Proc.tc.devRef main_v16) = _
  simp only [hostOps0, StableHlo.TRef.unary, StableHlo.TRef.toBuf, StableHlo.TRef.ofBuf, cast_eq]
  after_results_simp
  rfl

/-! ## The blocks -/

theorem place1 (c : Dev nD) (t : Fin cfg0.N) (h : t.val < 64) (r : Fin 512) (l : Fin 512) :
    (iblk m c 1 t : S512x512.Idx → EReal) (ix2 r l) = (V m c main_v1 : _) (ix2 (⟨t.val * 512 + r.val, by omega⟩ : Fin 32768) l) := by
  blk_ext [iblk, (idx_rows t h).1]

theorem blk1 (c : Dev nD) (t : Fin cfg0.N) (h : t.val < 64) (r : Fin 512) (l : Fin 512) :
    (iblk m c 1 t : S512x512.Idx → EReal) (ix2 r l) = aU m c (ix3 ⟨t.val / 8, by omega⟩ ⟨512 * (t.val % 8) + r.val, by omega⟩ l) := by
  rw [place1 m c t h, host_u]
  pointwise
  refine congrArg (aU m c) (congrArg₂ (fun a b => ix3 a b l) (Fin.ext ?_) (Fin.ext ?_))
  · show (t.val * 512 + r.val) / 4096 = t.val / 8
    omega
  · show (t.val * 512 + r.val) % 4096 = 512 * (t.val % 8) + r.val
    omega

theorem place2 (c : Dev nD) (t : Fin cfg0.N) (h : t.val < 64) (r : Fin 512) (l : Fin 512) :
    (iblk m c 2 t : S512x512.Idx → EReal) (ix2 r l) = (V m c main_v2 : _) (ix2 (⟨t.val * 512 + r.val, by omega⟩ : Fin 32768) l) := by
  blk_ext [iblk, (idx_rows t h).2.1]

theorem blk2 (c : Dev nD) (t : Fin cfg0.N) (h : t.val < 64) (r : Fin 512) (l : Fin 512) :
    (iblk m c 2 t : S512x512.Idx → EReal) (ix2 r l) = aQ m c (ix3 ⟨t.val / 8, by omega⟩ ⟨512 * (t.val % 8) + r.val, by omega⟩ l) := by
  rw [place2 m c t h, host_q]
  pointwise
  refine congrArg (aQ m c) (congrArg₂ (fun a b => ix3 a b l) (Fin.ext ?_) (Fin.ext ?_))
  · show (t.val * 512 + r.val) / 4096 = t.val / 8
    omega
  · show (t.val * 512 + r.val) % 4096 = 512 * (t.val % 8) + r.val
    omega

theorem place3 (c : Dev nD) (t : Fin cfg0.N) (h : t.val < 64) (r : Fin 512) (l : Fin 128) :
    (iblk m c 3 t : S512x128.Idx → EReal) (ix2 r l) = (V m c main_v3 : _) (ix2 (⟨t.val * 512 + r.val, by omega⟩ : Fin 32768) l) := by
  blk_ext [iblk, (idx_rows t h).2.2.1]

theorem blk3 (c : Dev nD) (t : Fin cfg0.N) (h : t.val < 64) (r : Fin 512) (l : Fin 128) :
    (iblk m c 3 t : S512x128.Idx → EReal) (ix2 r l) = aK m c (ix3 ⟨t.val / 8, by omega⟩ ⟨512 * (t.val % 8) + r.val, by omega⟩ l) := by
  rw [place3 m c t h, host_k]
  pointwise
  refine congrArg (aK m c) (congrArg₂ (fun a b => ix3 a b l) (Fin.ext ?_) (Fin.ext ?_))
  · show (t.val * 512 + r.val) / 4096 = t.val / 8
    omega
  · show (t.val * 512 + r.val) % 4096 = 512 * (t.val % 8) + r.val
    omega

theorem place4 (c : Dev nD) (t : Fin cfg0.N) (h : t.val < 64) (r : Fin 512) (l : Fin 128) :
    (iblk m c 4 t : S512x128.Idx → EReal) (ix2 r l) = (V m c main_v4 : _) (ix2 (⟨t.val * 512 + r.val, by omega⟩ : Fin 32768) l) := by
  blk_ext [iblk, (idx_rows t h).2.2.2.1]

theorem blk4 (c : Dev nD) (t : Fin cfg0.N) (h : t.val < 64) (r : Fin 512) (l : Fin 128) :
    (iblk m c 4 t : S512x128.Idx → EReal) (ix2 r l) = aV m c (ix3 ⟨t.val / 8, by omega⟩ ⟨512 * (t.val % 8) + r.val, by omega⟩ l) := by
  rw [place4 m c t h, host_v]
  pointwise
  refine congrArg (aV m c) (congrArg₂ (fun a b => ix3 a b l) (Fin.ext ?_) (Fin.ext ?_))
  · show (t.val * 512 + r.val) / 4096 = t.val / 8
    omega
  · show (t.val * 512 + r.val) % 4096 = 512 * (t.val % 8) + r.val
    omega

theorem place5 (c : Dev nD) (t : Fin cfg0.N) (h : t.val < 64) (r : Fin 512) (l : Fin 2048) :
    (iblk m c 5 t : S512x2048.Idx → EReal) (ix2 r l) = (V m c main_v5 : _) (ix2 (⟨t.val * 512 + r.val, by omega⟩ : Fin 32768) l) := by
  blk_ext [iblk, (idx_rows t h).2.2.2.2]

theorem blk5 (c : Dev nD) (t : Fin cfg0.N) (h : t.val < 64) (r : Fin 512) (l : Fin 2048) :
    (iblk m c 5 t : S512x2048.Idx → EReal) (ix2 r l) = aGl m c (ix3 ⟨t.val / 8, by omega⟩ ⟨512 * (t.val % 8) + r.val, by omega⟩ l) := by
  rw [place5 m c t h, host_gl]
  pointwise
  refine congrArg (aGl m c) (congrArg₂ (fun a b => ix3 a b l) (Fin.ext ?_) (Fin.ext ?_))
  · show (t.val * 512 + r.val) / 4096 = t.val / 8
    omega
  · show (t.val * 512 + r.val) % 4096 = 512 * (t.val % 8) + r.val
    omega

theorem place11 (c : Dev nD) (t : Fin cfg0.N) (r : Fin 512) (l : Fin 1024) :
    (iblk m c 11 t : S512x1024.Idx → EReal) (ix2 r l) = (V m c main_v0 : _) (ix2 (⟨(t.val - 1) * 512 + r.val, by have := t_lt t; omega⟩ : Fin 32768) l) := by
  have h := t_lt t
  blk_ext [iblk, (idx_late t).1]

theorem blk11 (c : Dev nD) (t : Fin cfg0.N) (r : Fin 512) (l : Fin 1024) :
    (iblk m c 11 t : S512x1024.Idx → EReal) (ix2 r l) = aX m c (ix3 ⟨(t.val - 1) / 8, by have := t_lt t; omega⟩ ⟨512 * ((t.val - 1) % 8) + r.val, by omega⟩ l) := by
  have h := t_lt t
  rw [place11 m c t, host_x]
  pointwise
  refine congrArg (aX m c) (congrArg₂ (fun a b => ix3 a b l) (Fin.ext ?_) (Fin.ext ?_))
  · show ((t.val - 1) * 512 + r.val) / 4096 = (t.val - 1) / 8
    omega
  · show ((t.val - 1) * 512 + r.val) % 4096 = 512 * ((t.val - 1) % 8) + r.val
    omega

theorem place0 (c : Dev nD) (t : Fin cfg0.N) (h : Fin 8) :
    (iblk m c 0 t : S8.Idx → EReal) (ix1 h) = (V m c main_v6 : _) (ix1 h) := by
  have ht := t_lt t
  blk_ext [iblk, (idx_whole t).1]

theorem blk0 (c : Dev nD) (t : Fin cfg0.N) (h : Fin 8) :
    (iblk m c 0 t : S8.Idx → EReal) (ix1 h) = aSk m c (ix2 0 h) := by
  rw [place0, host_sk]
  pointwise

theorem place6 (c : Dev nD) (t : Fin cfg0.N) (g : Fin 4) (k o : Fin 128) :
    (iblk m c 6 t : S4x128x128.Idx → EReal) (ix3 g k o) = (V m c main_v8 : _) (ix3 g k o) := by
  have h := t_lt t
  blk_ext [iblk, (idx_whole t).2.1]

theorem blk6 (c : Dev nD) (t : Fin cfg0.N) (g : Fin 4) (k o : Fin 128) :
    (iblk m c 6 t : S4x128x128.Idx → EReal) (ix3 g k o) = aWp m c (ix4 0 g k o) := by
  rw [place6, host_wp]
  pointwise

theorem place7 (c : Dev nD) (t : Fin cfg0.N) (k : Fin 512) :
    (iblk m c 7 t : S1x512.Idx → EReal) (ix2 0 k) = (V m c main_v10 : _) (ix2 0 k) := by
  have h := t_lt t
  blk_ext [iblk, (idx_whole t).2.2.1]

theorem blk7 (c : Dev nD) (t : Fin cfg0.N) (k : Fin 512) :
    (iblk m c 7 t : S1x512.Idx → EReal) (ix2 0 k) = aPs m c (ix2 0 k) := by
  rw [place7, host_ps]
  pointwise

theorem place8 (c : Dev nD) (t : Fin cfg0.N) (k : Fin 512) (o : Fin 1024) :
    (iblk m c 8 t : S512x1024.Idx → EReal) (ix2 k o) = (V m c main_v12 : _) (ix2 k o) := by
  have h := t_lt t
  blk_ext [iblk, (idx_whole t).2.2.2.1]

theorem blk8 (c : Dev nD) (t : Fin cfg0.N) (k : Fin 512) (o : Fin 1024) :
    (iblk m c 8 t : S512x1024.Idx → EReal) (ix2 k o) = aWbp m c (ix3 0 k o) := by
  rw [place8, host_wbp]
  pointwise

theorem place9 (c : Dev nD) (t : Fin cfg0.N) (k : Fin 512) (o : Fin 1024) :
    (iblk m c 9 t : S512x1024.Idx → EReal) (ix2 k o) = (V m c main_v14 : _) (ix2 k o) := by
  have h := t_lt t
  blk_ext [iblk, (idx_whole t).2.2.2.2.1]

theorem blk9 (c : Dev nD) (t : Fin cfg0.N) (k : Fin 512) (o : Fin 1024) :
    (iblk m c 9 t : S512x1024.Idx → EReal) (ix2 k o) = aWba m c (ix3 0 k o) := by
  rw [place9, host_wba]
  pointwise

theorem place10 (c : Dev nD) (t : Fin cfg0.N) (k : Fin 1024) (o : Fin 1024) :
    (iblk m c 10 t : S1024x1024.Idx → EReal) (ix2 k o) = (V m c main_v16 : _) (ix2 k o) := by
  have h := t_lt t
  blk_ext [iblk, (idx_whole t).2.2.2.2.2]

theorem blk10 (c : Dev nD) (t : Fin cfg0.N) (k : Fin 1024) (o : Fin 1024) :
    (iblk m c 10 t : S1024x1024.Idx → EReal) (ix2 k o) = aWout m c (ix3 0 k o) := by
  rw [place10, host_wout]
  pointwise

end Cert.MixIdeal.Rows
end
-- ==== Proof.MixBuf.lean ====
module

public import proofs.«01_k».proof.Proof.MixBlk

/-! What the mixing kernel's buffers hold: the tile's rows below the last rows of the tile before, or below zeros at a
sequence's start, so a tile's loads are the sequence's rows. -/

@[expose] public section

set_option maxRecDepth 16384
set_option maxHeartbeats 1000000

noncomputable section

namespace Cert.MixIdeal.Rows

open Idealize.ShloMosaic Idealize.ShloMosaic.TcCoe
open Cert.MixIdeal Cert.MixIdeal.Gen Cert.MixRefIdeal.Rows

/-! ## Loads -/

section Loads

variable {S : Shape} {e : EltTy} {sp : Space}

/-- A rectangle's entry, named by where it lies. -/
theorem idx_at {α : Type} (X : S.Idx → α) (off size : Fin S.rank → ℕ) (inb) (w : (Rect.unit off size inb).shape.Idx) (y : S.Idx)
    (h : ∀ a, (y a).val = off a + (w a).val) : X ((Rect.unit off size inb).toLoadRect.idx w) = X y :=
  congrArg X (funext fun a => Fin.ext ((Rect.idx_unit_val off size inb w a).trans (h a).symm))

theorem readAt_at (v : View sig .tc sp S e) (f : v.ty.Contents (Elt Ideal)) (off size : Fin S.rank → ℕ) (inb)
    (w : (Rect.unit off size inb).shape.Idx) (y : S.Idx) (h : ∀ a, (y a).val = off a + (w a).val) :
    View.readAt (Elt Ideal) v (Rect.unit off size inb).toLoadRect f w = View.read (Elt Ideal) v f y := by
  rw [View.readAt_eq_ld]
  exact idx_at (View.read (Elt Ideal) v f) off size inb w y h

theorem load_at (M : Memref sig .tc sp S e) (hM : M.IsWhole) (X : S.Idx → Elt Ideal e) (off size : Fin S.rank → ℕ) (inb)
    (w : (Rect.unit off size inb).shape.Idx) (y : S.Idx) (h : ∀ a, (y a).val = off a + (w a).val) :
    View.readAt (Elt Ideal) M.view (Rect.unit off size inb).toLoadRect (hM.unread X) w = X y :=
  (readAt_at M.view _ off size inb w y h).trans (congrFun (hM.read_unread X) y)

theorem readCov_at (v : View sig .tc sp S e) (L : List (View.Piece (Elt Ideal) S e)) (off size : Fin S.rank → ℕ) (inb)
    (w : (Rect.unit off size inb).shape.Idx) (y : S.Idx) (h : ∀ a, (y a).val = off a + (w a).val) :
    v.readCov L (Rect.unit off size inb).toLoadRect w = View.canon L y := by
  rw [View.readCov_eq_canon' v L]
  exact idx_at (View.canon L) off size inb w y h

/-- Pieces stored over old contents. -/
theorem read_agree (v : View sig .tc sp S e) (f : v.ty.Contents (Elt Ideal)) : ∀ (L : List (View.Piece (Elt Ideal) S e)) (y : S.Idx) (z : Elt Ideal e),
    View.AllAt L y z → ((∃ p ∈ L, y ∈ p.1.set) ∨ View.read (Elt Ideal) v f y = z) → View.read (Elt Ideal) v (v.writes (Elt Ideal) f L) y = z
  | [], y, z, _, hc => by
    rcases hc with ⟨p, hp, _⟩ | h
    · exact absurd hp List.not_mem_nil
    · exact h
  | p :: L, y, z, h, hc => by
    by_cases hm : y ∈ p.1.set
    · obtain ⟨x, rfl⟩ := p.1.exists_idx_of_mem hm
      exact (View.read_writes_cons_hit v f p.1 p.2 L x _ rfl).trans (h p List.mem_cons_self x rfl)
    · refine (View.read_writes_cons_miss v f p L y hm).trans (read_agree v f L y z (fun q hq => h q (List.mem_cons_of_mem _ hq)) ?_)
      rcases hc with ⟨q, hq, hyq⟩ | h'
      · rcases List.mem_cons.mp hq with rfl | hq'
        · exact absurd hyq hm
        · exact Or.inl ⟨q, hq', hyq⟩
      · exact Or.inr h'

end Loads

theorem below_eq (z : ℕ) {n : ℕ} (x : Fin 4096 → Fin n → EReal) (p : ℕ) (l l' : Fin n) (s : Fin 4096) (hp : p = z + s.val) (hl : l.val = l'.val) :
    below z x p l = x s l' := by
  obtain rfl : l = l' := Fin.ext hl
  unfold below
  rw [dif_pos ⟨by omega, by omega⟩]
  exact congrArg (fun a => x a l) (Fin.ext (by show p - z = s.val; omega))

theorem below_zero (z : ℕ) {n : ℕ} (x : Fin 4096 → Fin n → EReal) (p : ℕ) (l : Fin n) (hp : p < z) : below z x p l = 0 :=
  dif_neg fun h => by omega

/-! ## The keys' (or values') buffer -/

section Keys

variable (x : Vec Ideal S512x128 .f32) (z : Fin 4096 → Fin 128 → EReal) (i : ℕ) (hi : i < 8)
variable (hx : ∀ (r : Fin 512) (l : Fin 128) (hr : 512 * i + r.val < 4096), x (ix2 r l) = z ⟨512 * i + r.val, hr⟩ l)
include hi hx

/-- The stored rows agree with the sequence's. -/
theorem dbuf_agrees (rest : List (View.Piece (Elt Ideal) S2x640x128 .bf16)) (g : Fin 2) (P : Fin 640) (l : Fin 128)
    (h : View.AllAt rest (ix3 g P l) (below 128 z (512 * i + P.val) ⟨64 * g.val + l.val % 64, by omega⟩)) :
    View.AllAt (dbuf x ++ rest) (ix3 g P l) (below 128 z (512 * i + P.val) ⟨64 * g.val + l.val % 64, by omega⟩) := by
  refine View.allAt_cons_unit _ _ _ _ _ (fun w hw => ?_) (View.allAt_cons_unit _ _ _ _ _ (fun w hw => ?_) h)
  · obtain ⟨a, r, d, rfl⟩ : ∃ (a : Fin 1) (r : Fin 512) (d : Fin 128), w = ix3 a r d := ⟨_, _, _, eq_ix3 w⟩
    have h0 : g.val = 1 + a.val := hw 0
    have h1 : P.val = 128 + r.val := hw 1
    have h2 : l.val = 0 + d.val := hw 2
    obtain rfl : a = 0 := Subsingleton.elim _ _
    refine (pay16_apply x r d).trans ((hx r _ (by omega)).trans (below_eq 128 z _ _ _ _ ?_ ?_).symm)
    · show 512 * i + P.val = 128 + (512 * i + r.val)
      omega
    · show 64 * g.val + l.val % 64 = 64 + d.val % 64
      have h0' : g.val = 1 := h0
      omega
  · obtain ⟨a, r, d, rfl⟩ : ∃ (a : Fin 1) (r : Fin 512) (d : Fin 128), w = ix3 a r d := ⟨_, _, _, eq_ix3 w⟩
    have h0 : g.val = 0 + a.val := hw 0
    have h1 : P.val = 128 + r.val := hw 1
    have h2 : l.val = 0 + d.val := hw 2
    obtain rfl : a = 0 := Subsingleton.elim _ _
    refine (pay15_apply x r d).trans ((hx r _ (by omega)).trans (below_eq 128 z _ _ _ _ ?_ ?_).symm)
    · show 512 * i + P.val = 128 + (512 * i + r.val)
      omega
    · show 64 * g.val + l.val % 64 = d.val % 64
      have h0' : g.val = 0 := h0
      omega

omit hi hx in
theorem dbuf_covers (rest : List (View.Piece (Elt Ideal) S2x640x128 .bf16)) (g : Fin 2) (P : Fin 640) (l : Fin 128) (h : 128 ≤ P.val) :
    ∃ p ∈ dbuf x ++ rest, (ix3 g P l : S2x640x128.Idx) ∈ p.1.set := by
  have hP := P.isLt
  have hl := l.isLt
  by_cases h0 : g.val = 0
  · refine later (here fun a => ?_)
    match a with
    | ⟨0, _⟩ => exact (show 0 ≤ g.val ∧ g.val < 0 + 1 by omega)
    | ⟨1, _⟩ => exact (show 128 ≤ P.val ∧ P.val < 128 + 512 by omega)
    | ⟨2, _⟩ => exact (show 0 ≤ l.val ∧ l.val < 0 + 128 by omega)
  · refine here fun a => ?_
    match a with
    | ⟨0, _⟩ => exact (show 1 ≤ g.val ∧ g.val < 1 + 1 by omega)
    | ⟨1, _⟩ => exact (show 128 ≤ P.val ∧ P.val < 128 + 512 by omega)
    | ⟨2, _⟩ => exact (show 0 ≤ l.val ∧ l.val < 0 + 128 by omega)

/-- Below the top, whatever is under the stored rows. -/
theorem canon_dbuf (rest : List (View.Piece (Elt Ideal) S2x640x128 .bf16)) (g : Fin 2) (P : Fin 640) (l : Fin 128) (h : 128 ≤ P.val) :
    View.canon (dbuf x ++ rest) (ix3 g P l) = below 128 z (512 * i + P.val) ⟨64 * g.val + l.val % 64, by omega⟩ := by
  refine canon_agree (dbuf x) rest _ _ ?_ ?_
  · have := dbuf_covers x [] g P l h
    rwa [List.append_nil] at this
  · have := dbuf_agrees x z i hi hx [] g P l (View.allAt_nil _ _)
    rwa [List.append_nil] at this

/-- With zeros at the top. -/
theorem canon_fresh (h0 : i = 0) (g : Fin 2) (P : Fin 640) (l : Fin 128) :
    View.canon (dbuf x ++ [(⟨Rect.unit (s := S2x640x128) ![0, 0, 0] S2x128x128.size inb_S2x640x128_S2x128x128_0_0_0, k0_pay3 (F := Ideal)⟩ :
      View.Piece (Elt Ideal) S2x640x128 .bf16)]) (ix3 g P l) = below 128 z (512 * i + P.val) ⟨64 * g.val + l.val % 64, by omega⟩ := by
  have hl := l.isLt
  by_cases h : 128 ≤ P.val
  · exact canon_dbuf x z i hi hx _ g P l h
  · refine View.canon_eq_of_allAt _ _ _ ?_ (dbuf_agrees x z i hi hx _ g P l (View.allAt_cons_unit _ _ _ _ _ (fun w hw => ?_) (View.allAt_nil _ _)))
    · refine later (later (here fun a => ?_))
      match a with
      | ⟨0, _⟩ => exact (show 0 ≤ g.val ∧ g.val < 0 + 2 by omega)
      | ⟨1, _⟩ => exact (show 0 ≤ P.val ∧ P.val < 0 + 128 by omega)
      | ⟨2, _⟩ => exact (show 0 ≤ l.val ∧ l.val < 0 + 128 by omega)
    · obtain ⟨a, r, d, rfl⟩ : ∃ (a : Fin 2) (r : Fin 128) (d : Fin 128), w = ix3 a r d := ⟨_, _, _, eq_ix3 w⟩
      exact (pay3_apply a r d).trans (below_zero 128 z _ _ (by omega)).symm

/-- Over what the tile before left at the top. -/
theorem read_dbuf (v : View sig .tc .vmem S2x640x128 .bf16) (f : v.ty.Contents (Elt Ideal)) (X : S2x640x128.Idx → EReal)
    (hf : View.read (Elt Ideal) v f = X)
    (hX : ∀ (g : Fin 2) (P : Fin 640) (l : Fin 128), P.val < 128 → X (ix3 g P l) = below 128 z (512 * i + P.val) ⟨64 * g.val + l.val % 64, by omega⟩)
    (g : Fin 2) (P : Fin 640) (l : Fin 128) :
    View.read (Elt Ideal) v (v.writes (Elt Ideal) f (dbuf x)) (ix3 g P l) = below 128 z (512 * i + P.val) ⟨64 * g.val + l.val % 64, by omega⟩ := by
  refine read_agree v f (dbuf x) _ _ ?_ ?_
  · have := dbuf_agrees x z i hi hx [] g P l (View.allAt_nil _ _)
    rwa [List.append_nil] at this
  · by_cases h : 128 ≤ P.val
    · have := dbuf_covers x [] g P l h
      rw [List.append_nil] at this
      exact Or.inl this
    · exact Or.inr ((congrFun hf _).trans (hX g P l (by omega)))

end Keys

/-- The first rows of a buffer whose last rows were copied to its top. -/
theorem topK_at (L : List (View.Piece (Elt Ideal) S2x640x128 .bf16)) (g : Fin 2) (P : Fin 640) (l : Fin 128) (h : P.val < 128) :
    View.canon (topK L) (ix3 g P l) = View.canon L (ix3 g ⟨512 + P.val, by omega⟩ l) := by
  have hl := l.isLt
  refine canon_agree [_] L _ _ (here fun a => ?_) (View.allAt_cons_unit _ _ _ _ _ (fun w hw => ?_) (View.allAt_nil _ _))
  · match a with
    | ⟨0, _⟩ => exact (show 0 ≤ g.val ∧ g.val < 0 + 2 by omega)
    | ⟨1, _⟩ => exact (show 0 ≤ P.val ∧ P.val < 0 + 128 by omega)
    | ⟨2, _⟩ => exact (show 0 ≤ l.val ∧ l.val < 0 + 128 by omega)
  · obtain ⟨a, r, d, rfl⟩ : ∃ (a : Fin 2) (r : Fin 128) (d : Fin 128), w = ix3 a r d := ⟨_, _, _, eq_ix3 w⟩
    have h0 : g.val = 0 + a.val := hw 0
    have h1 : P.val = 0 + r.val := hw 1
    have h2 : l.val = 0 + d.val := hw 2
    refine (pay132_apply _ a r d).trans (readCov_at scM0_1.view L _ _ _ _ _ fun b => ?_)
    match b with
    | ⟨0, _⟩ => exact (show g.val = 0 + a.val by omega)
    | ⟨1, _⟩ => exact (show 512 + P.val = 512 + r.val by omega)
    | ⟨2, _⟩ => exact (show l.val = 0 + d.val by omega)

theorem topV_at (L : List (View.Piece (Elt Ideal) S2x640x128 .bf16)) (g : Fin 2) (P : Fin 640) (l : Fin 128) (h : P.val < 128) :
    View.canon (topV L) (ix3 g P l) = View.canon L (ix3 g ⟨512 + P.val, by omega⟩ l) := by
  have hl := l.isLt
  refine canon_agree [_] L _ _ (here fun a => ?_) (View.allAt_cons_unit _ _ _ _ _ (fun w hw => ?_) (View.allAt_nil _ _))
  · match a with
    | ⟨0, _⟩ => exact (show 0 ≤ g.val ∧ g.val < 0 + 2 by omega)
    | ⟨1, _⟩ => exact (show 0 ≤ P.val ∧ P.val < 0 + 128 by omega)
    | ⟨2, _⟩ => exact (show 0 ≤ l.val ∧ l.val < 0 + 128 by omega)
  · obtain ⟨a, r, d, rfl⟩ : ∃ (a : Fin 2) (r : Fin 128) (d : Fin 128), w = ix3 a r d := ⟨_, _, _, eq_ix3 w⟩
    have h0 : g.val = 0 + a.val := hw 0
    have h1 : P.val = 0 + r.val := hw 1
    have h2 : l.val = 0 + d.val := hw 2
    refine (pay1_apply _ a r d).trans (readCov_at scM0_2.view L _ _ _ _ _ fun b => ?_)
    match b with
    | ⟨0, _⟩ => exact (show g.val = 0 + a.val by omega)
    | ⟨1, _⟩ => exact (show 512 + P.val = 512 + r.val by omega)
    | ⟨2, _⟩ => exact (show l.val = 0 + d.val by omega)

/-! ## The pooled rows' buffer -/

section Pooled

variable (m : (ℓ : Loc nD τ sig) → Buf (Elt Ideal) ℓ) (c : Dev nD) (t : Fin cfg0.N)
variable (z : Fin 4096 → Fin 512 → EReal) (i : ℕ) (hi : i < 8)
variable (hx : ∀ (r l : Fin 512) (hr : 512 * i + r.val < 4096), (iblk m c 1 t : S512x512.Idx → EReal) (ix2 r l) = z ⟨512 * i + r.val, hr⟩ l)
include hi hx

theorem ubuf_agrees (rest : List (View.Piece (Elt Ideal) S528x512 .f32)) (P : Fin 528) (l : Fin 512)
    (h : View.AllAt rest (ix2 P l) (below 16 z (512 * i + P.val) l)) :
    View.AllAt (ubuf m c t ++ rest) (ix2 P l) (below 16 z (512 * i + P.val) l) := by
  refine View.allAt_cons_unit _ _ _ _ _ (fun w hw => ?_) h
  obtain ⟨r, d, rfl⟩ : ∃ (r d : Fin 512), w = ix2 r d := ⟨_, _, eq_ix2 w⟩
  have h1 : P.val = 16 + r.val := hw 0
  have h2 : l.val = 0 + d.val := hw 1
  refine (pay10_apply _ r d).trans ((load_at (ms0_1 t) (hs0_1 t) (iblk m c 1 t) _ _ _ _ (ix2 r d) fun b => ?_).trans
    ((hx r d (by omega)).trans (below_eq 16 z _ _ _ _ ?_ ?_).symm))
  · match b with
    | ⟨0, _⟩ => exact (show r.val = 0 + r.val by omega)
    | ⟨1, _⟩ => exact (show d.val = 0 + d.val by omega)
  · show 512 * i + P.val = 16 + (512 * i + r.val)
    omega
  · omega

omit hi hx in
theorem ubuf_covers (rest : List (View.Piece (Elt Ideal) S528x512 .f32)) (P : Fin 528) (l : Fin 512) (h : 16 ≤ P.val) :
    ∃ p ∈ ubuf m c t ++ rest, (ix2 P l : S528x512.Idx) ∈ p.1.set := by
  have hP := P.isLt
  have hl := l.isLt
  refine here fun a => ?_
  match a with
  | ⟨0, _⟩ => exact (show 16 ≤ P.val ∧ P.val < 16 + 512 by omega)
  | ⟨1, _⟩ => exact (show 0 ≤ l.val ∧ l.val < 0 + 512 by omega)

theorem canon_ubuf (rest : List (View.Piece (Elt Ideal) S528x512 .f32)) (P : Fin 528) (l : Fin 512) (h : 16 ≤ P.val) :
    View.canon (ubuf m c t ++ rest) (ix2 P l) = below 16 z (512 * i + P.val) l := by
  refine canon_agree (ubuf m c t) rest _ _ ?_ ?_
  · have := ubuf_covers m c t [] P l h
    rwa [List.append_nil] at this
  · have := ubuf_agrees m c t z i hi hx [] P l (View.allAt_nil _ _)
    rwa [List.append_nil] at this

theorem canon_ufresh (h0 : i = 0) (P : Fin 528) (l : Fin 512) : View.canon (ufresh m c t) (ix2 P l) = below 16 z (512 * i + P.val) l := by
  have hl := l.isLt
  by_cases h : 16 ≤ P.val
  · exact canon_ubuf m c t z i hi hx [_] P l h
  · refine View.canon_eq_of_allAt (ufresh m c t) _ _ ?_ (ubuf_agrees m c t z i hi hx [_] P l (View.allAt_cons_unit _ _ _ _ _ (fun w hw => ?_) (View.allAt_nil _ _)))
    · refine later (here fun a => ?_)
      match a with
      | ⟨0, _⟩ => exact (show 0 ≤ P.val ∧ P.val < 0 + 16 by omega)
      | ⟨1, _⟩ => exact (show 0 ≤ l.val ∧ l.val < 0 + 512 by omega)
    · obtain ⟨r, d, rfl⟩ : ∃ (r : Fin 16) (d : Fin 512), w = ix2 r d := ⟨_, _, eq_ix2 w⟩
      exact (pay2_apply r d).trans (below_zero 16 z _ _ (by omega)).symm

theorem read_ubuf (v : View sig .tc .vmem S528x512 .f32) (f : v.ty.Contents (Elt Ideal)) (X : S528x512.Idx → EReal)
    (hf : View.read (Elt Ideal) v f = X) (hX : ∀ (P : Fin 528) (l : Fin 512), P.val < 16 → X (ix2 P l) = below 16 z (512 * i + P.val) l)
    (P : Fin 528) (l : Fin 512) : View.read (Elt Ideal) v (v.writes (Elt Ideal) f (ubuf m c t)) (ix2 P l) = below 16 z (512 * i + P.val) l := by
  refine read_agree v f (ubuf m c t) _ _ ?_ ?_
  · have := ubuf_agrees m c t z i hi hx [] P l (View.allAt_nil _ _)
    rwa [List.append_nil] at this
  · by_cases h : 16 ≤ P.val
    · have := ubuf_covers m c t [] P l h
      rw [List.append_nil] at this
      exact Or.inl this
    · exact Or.inr ((congrFun hf _).trans (hX P l (by omega)))

end Pooled

theorem topU_at (L : List (View.Piece (Elt Ideal) S528x512 .f32)) (P : Fin 528) (l : Fin 512) (h : P.val < 16) :
    View.canon (topU L) (ix2 P l) = View.canon L (ix2 ⟨512 + P.val, by omega⟩ l) := by
  have hl := l.isLt
  refine canon_agree [_] L _ _ (here fun a => ?_) (View.allAt_cons_unit _ _ _ _ _ (fun w hw => ?_) (View.allAt_nil _ _))
  · match a with
    | ⟨0, _⟩ => exact (show 0 ≤ P.val ∧ P.val < 0 + 16 by omega)
    | ⟨1, _⟩ => exact (show 0 ≤ l.val ∧ l.val < 0 + 512 by omega)
  · obtain ⟨r, d, rfl⟩ : ∃ (r : Fin 16) (d : Fin 512), w = ix2 r d := ⟨_, _, eq_ix2 w⟩
    have h1 : P.val = 0 + r.val := hw 0
    have h2 : l.val = 0 + d.val := hw 1
    refine (pay131_apply _ r d).trans (readCov_at scM0_0.view L _ _ _ _ _ fun b => ?_)
    match b with
    | ⟨0, _⟩ => exact (show 512 + P.val = 512 + r.val by omega)
    | ⟨1, _⟩ => exact (show l.val = 0 + d.val by omega)

/-! ## The masks -/

theorem masks_later (ρ : Fin 512) (j : Fin 256) : View.canon (masks (F := Ideal)) (ix3 1 ρ j)
    = if ρ.val % 128 ≤ j.val ∧ j.val ≤ ρ.val % 128 + 128 then 0 else ⊥ := by
  have hρ := ρ.isLt
  have hj := j.isLt
  refine canon_agree [_] [_] _ _ (here fun a => ?_) (View.allAt_cons_unit _ _ _ _ _ (fun w hw => ?_) (View.allAt_nil _ _))
  · match a with
    | ⟨0, _⟩ => exact (show 1 ≤ 1 ∧ 1 < 1 + 1 by omega)
    | ⟨1, _⟩ => exact (show 0 ≤ ρ.val ∧ ρ.val < 0 + 512 by omega)
    | ⟨2, _⟩ => exact (show 0 ≤ j.val ∧ j.val < 0 + 256 by omega)
  · obtain ⟨a, r, d, rfl⟩ : ∃ (a : Fin 1) (r : Fin 512) (d : Fin 256), w = ix3 a r d := ⟨_, _, _, eq_ix3 w⟩
    have h1 : ρ.val = 0 + r.val := hw 1
    have h2 : j.val = 0 + d.val := hw 2
    obtain rfl : a = 0 := Subsingleton.elim _ _
    obtain rfl : r = ρ := Fin.ext (by omega)
    obtain rfl : d = j := Fin.ext (by omega)
    exact pay9_apply r d

theorem masks_first (ρ : Fin 512) (j : Fin 256) : View.canon (masks (F := Ideal)) (ix3 0 ρ j)
    = if (ρ.val % 128 ≤ j.val ∧ j.val ≤ ρ.val % 128 + 128) ∧ 128 ≤ j.val then 0 else ⊥ := by
  have hρ := ρ.isLt
  have hj := j.isLt
  refine View.canon_eq_of_allAt masks _ _ (later (here fun a => ?_)) (View.allAt_cons_unit _ _ _ _ _ (fun w hw => ?_)
    (View.allAt_cons_unit _ _ _ _ _ (fun w hw => ?_) (View.allAt_nil _ _)))
  · match a with
    | ⟨0, _⟩ => exact (show 0 ≤ 0 ∧ 0 < 0 + 1 by omega)
    | ⟨1, _⟩ => exact (show 0 ≤ ρ.val ∧ ρ.val < 0 + 512 by omega)
    | ⟨2, _⟩ => exact (show 0 ≤ j.val ∧ j.val < 0 + 256 by omega)
  · have h0 : 0 = 1 + (w 0).val := hw 0
    omega
  · obtain ⟨a, r, d, rfl⟩ : ∃ (a : Fin 1) (r : Fin 512) (d : Fin 256), w = ix3 a r d := ⟨_, _, _, eq_ix3 w⟩
    have h1 : ρ.val = 0 + r.val := hw 1
    have h2 : j.val = 0 + d.val := hw 2
    obtain rfl : a = 0 := Subsingleton.elim _ _
    obtain rfl : r = ρ := Fin.ext (by omega)
    obtain rfl : d = j := Fin.ext (by omega)
    exact pay5_apply r d

end Cert.MixIdeal.Rows
end
-- ==== Proof.MixSeq.lean ====
module

public import proofs.«01_k».proof.Proof.MixBuf

/-! Along the grid: what a point leaves for the next, and the gated mix of every tile as the reference has it. -/

@[expose] public section

set_option maxRecDepth 16384
set_option maxHeartbeats 1000000

noncomputable section

namespace Cert.MixIdeal.Rows

open Idealize.ShloMosaic Idealize.ShloMosaic.TcCoe
open Cert.MixIdeal Cert.MixIdeal.Gen Cert.MixRefIdeal.Rows

variable (m : (ℓ : Loc nD τ sig) → Buf (Elt Ideal) ℓ)

/-- The sequence of the tile at `t`. -/
abbrev seq (c : Dev nD) (t : Fin cfg0.N) (h : t.val < 64) : Data := seqData m c ⟨t.val / 8, by omega⟩

theorem kload_at (c : Dev nD) (t : Fin cfg0.N) (h : t.val < 64) (r : Fin 512) (l : Fin 128) :
    kload m c t (ix2 r l) = (seq m c t h).k ⟨512 * (t.val % 8) + r.val, by omega⟩ l := by
  refine (load_at (ms0_3 t) (hs0_3 t) (iblk m c 3 t) _ _ _ _ (ix2 r l) fun b => ?_).trans (blk3 m c t h r l)
  match b with
  | ⟨0, _⟩ => exact (show r.val = 0 + r.val by omega)
  | ⟨1, _⟩ => exact (show l.val = 0 + l.val by omega)

theorem vload_at (c : Dev nD) (t : Fin cfg0.N) (h : t.val < 64) (r : Fin 512) (l : Fin 128) :
    vload m c t (ix2 r l) = (seq m c t h).v ⟨512 * (t.val % 8) + r.val, by omega⟩ l := by
  refine (load_at (ms0_4 t) (hs0_4 t) (iblk m c 4 t) _ _ _ _ (ix2 r l) fun b => ?_).trans (blk4 m c t h r l)
  match b with
  | ⟨0, _⟩ => exact (show r.val = 0 + r.val by omega)
  | ⟨1, _⟩ => exact (show l.val = 0 + l.val by omega)

theorem tile_at : ∀ t : Fin cfg0.N, (Scalar.select (Scalar.andi (Scalar.xori (Scalar.cmpi .slt (Scalar.remsi (BitVec.ofNat 32 (grid0.coords t 0)) 8#32) 0#32) 0#1)
      (Scalar.cmpi .ne (Scalar.remsi (BitVec.ofNat 32 (grid0.coords t 0)) 8#32) 0#32))
    (Scalar.addi (Scalar.remsi (BitVec.ofNat 32 (grid0.coords t 0)) 8#32) 8#32) (Scalar.remsi (BitVec.ofNat 32 (grid0.coords t 0)) 8#32))
    = BitVec.ofNat 32 (t.val % 8) :=
  (by decide +kernel : ∀ t : Fin grid0.N, (Scalar.select (Scalar.andi (Scalar.xori (Scalar.cmpi .slt (Scalar.remsi (BitVec.ofNat 32 (grid0.coords t 0)) 8#32) 0#32) 0#1)
      (Scalar.cmpi .ne (Scalar.remsi (BitVec.ofNat 32 (grid0.coords t 0)) 8#32) 0#32))
    (Scalar.addi (Scalar.remsi (BitVec.ofNat 32 (grid0.coords t 0)) 8#32) 8#32) (Scalar.remsi (BitVec.ofNat 32 (grid0.coords t 0)) 8#32))
    = BitVec.ofNat 32 (t.val % 8))

/-! ## A tile's loads -/

section Tile

variable (c : Dev nD) (t : Fin cfg0.N) (h : t.val < 64)
variable (kd0 vd0 : Fin 2 → Vec Ideal S1x256x128 .bf16) (kd vd : Fin 2 → Fin 4 → Vec Ideal S1x256x128 .bf16)
variable (bs : Fin 4 → Vec Ideal S1x512x256 .f32) (xe : Fin 4 → Vec Ideal S528x128 .f32)

theorem sk_at (k : Fin 8) : (loads m c t kd0 vd0 kd vd bs xe).sk k = (seq m c t h).sk k := by
  refine (load_at (ms0_0 t) (hs0_0 t) (iblk m c 0 t) _ _ _ _ (ix1 k) fun b => ?_).trans (blk0 m c t k)
  match b with
  | ⟨0, _⟩ => exact (show k.val = k.val + 0 by omega)

theorem q_at (nb : Fin 4) (r : Fin 128) (l : Fin 512) :
    (loads m c t kd0 vd0 kd vd bs xe).q nb (ix2 r l) = (seq m c t h).q ⟨512 * (t.val % 8) + 128 * nb.val + r.val, by omega⟩ l := by
  refine (load_at (ms0_2 t) (hs0_2 t) (iblk m c 2 t) _ _ _ _ (ix2 ⟨128 * nb.val + r.val, by omega⟩ l) fun b => ?_).trans ((blk2 m c t h _ l).trans
    (congrArg (fun a => aQ m c (ix3 _ a l)) (Fin.ext ?_)))
  · match b with
    | ⟨0, _⟩ => rfl
    | ⟨1, _⟩ => exact (show l.val = 0 + l.val by omega)
  · show 512 * (t.val % 8) + (128 * nb.val + r.val) = 512 * (t.val % 8) + 128 * nb.val + r.val
    omega

theorem gl_at (k : Fin 2) (r : Fin 256) (l : Fin 2048) :
    (loads m c t kd0 vd0 kd vd bs xe).gl k (ix2 r l) = (seq m c t h).gl ⟨512 * (t.val % 8) + 256 * k.val + r.val, by omega⟩ l := by
  refine (load_at (ms0_5 t) (hs0_5 t) (iblk m c 5 t) _ _ _ _ (ix2 ⟨256 * k.val + r.val, by omega⟩ l) fun b => ?_).trans ((blk5 m c t h _ l).trans
    (congrArg (fun a => aGl m c (ix3 _ a l)) (Fin.ext ?_)))
  · match b with
    | ⟨0, _⟩ => rfl
    | ⟨1, _⟩ => exact (show l.val = 0 + l.val by omega)
  · show 512 * (t.val % 8) + (256 * k.val + r.val) = 512 * (t.val % 8) + 256 * k.val + r.val
    omega

theorem wp_at (g : Fin 4) (k o : Fin 128) : (loads m c t kd0 vd0 kd vd bs xe).wp g (ix3 0 k o) = (seq m c t h).wp g k o := by
  refine (load_at (ms0_6 t) (hs0_6 t) (iblk m c 6 t) _ _ _ _ (ix3 g k o) fun b => ?_).trans (blk6 m c t g k o)
  match b with
  | ⟨0, _⟩ => exact (show g.val = g.val + 0 by omega)
  | ⟨1, _⟩ => exact (show k.val = 0 + k.val by omega)
  | ⟨2, _⟩ => exact (show o.val = 0 + o.val by omega)

theorem ps_at (g : Fin 4) (o : Fin 128) :
    (loads m c t kd0 vd0 kd vd bs xe).ps g (ix2 0 o) = (seq m c t h).ps ⟨128 * g.val + o.val, by omega⟩ := by
  refine (load_at (ms0_7 t) (hs0_7 t) (iblk m c 7 t) _ _ _ _ (ix2 0 ⟨128 * g.val + o.val, by omega⟩) fun b => ?_).trans (blk7 m c t _)
  match b with
  | ⟨0, _⟩ => rfl
  | ⟨1, _⟩ => rfl

theorem wbp_at (k : Fin 2) (a o : Fin 512) :
    (loads m c t kd0 vd0 kd vd bs xe).wbp k (ix2 a o) = (seq m c t h).wbp a ⟨512 * k.val + o.val, by omega⟩ := by
  refine (load_at (ms0_8 t) (hs0_8 t) (iblk m c 8 t) _ _ _ _ (ix2 a ⟨512 * k.val + o.val, by omega⟩) fun b => ?_).trans (blk8 m c t a _)
  match b with
  | ⟨0, _⟩ => exact (show a.val = 0 + a.val by omega)
  | ⟨1, _⟩ => rfl

theorem wba_at (a : Fin 512) (o : Fin 1024) : (loads m c t kd0 vd0 kd vd bs xe).wba (ix2 a o) = (seq m c t h).wba a o := by
  refine (load_at (ms0_9 t) (hs0_9 t) (iblk m c 9 t) _ _ _ _ (ix2 a o) fun b => ?_).trans (blk9 m c t a o)
  match b with
  | ⟨0, _⟩ => exact (show a.val = 0 + a.val by omega)
  | ⟨1, _⟩ => exact (show o.val = 0 + o.val by omega)

end Tile

/-! ## What a point leaves for the next -/

/-- The carried buffers hold the rows above tile `i`. -/
structure Carried (p : Left Ideal) (i : ℕ) (D : Data) : Prop where
  u : ∀ (P : Fin 528) (l : Fin 512), P.val < 16 → p.uext (ix2 P l) = below 16 D.u (512 * i + P.val) l
  k : ∀ (g : Fin 2) (P : Fin 640) (l : Fin 128), P.val < 128 → p.kdup (ix3 g P l) = below 128 D.k (512 * i + P.val) ⟨64 * g.val + l.val % 64, by omega⟩
  v : ∀ (g : Fin 2) (P : Fin 640) (l : Fin 128), P.val < 128 → p.vdup (ix3 g P l) = below 128 D.v (512 * i + P.val) ⟨64 * g.val + l.val % 64, by omega⟩

section Carry

variable (c : Dev nD) (t : Fin cfg0.N) (h : t.val < 64)

theorem topU_kept (P : Fin 528) (l : Fin 512) (hP : P.val < 16) :
    View.canon (topU (ubuf m c t)) (ix2 P l) = below 16 (seq m c t h).u (512 * (t.val % 8 + 1) + P.val) l := by
  rw [topU_at _ P l hP]
  have := canon_ubuf m c t (seq m c t h).u (t.val % 8) (by omega) (fun r l _ => blk1 m c t h r l) [] ⟨512 + P.val, by omega⟩ l (by show 16 ≤ 512 + P.val; omega)
  rw [List.append_nil] at this
  refine this.trans (congrArg (fun a => below 16 (seq m c t h).u a l) ?_)
  show 512 * (t.val % 8) + (512 + P.val) = _
  omega

theorem topU_fresh (P : Fin 528) (l : Fin 512) (hP : P.val < 16) :
    View.canon (topU (ufresh m c t)) (ix2 P l) = below 16 (seq m c t h).u (512 * (t.val % 8 + 1) + P.val) l := by
  rw [topU_at _ P l hP]
  refine (canon_ubuf m c t (seq m c t h).u (t.val % 8) (by omega) (fun r l _ => blk1 m c t h r l) [_] ⟨512 + P.val, by omega⟩ l (by show 16 ≤ 512 + P.val; omega)).trans
    (congrArg (fun a => below 16 (seq m c t h).u a l) ?_)
  show 512 * (t.val % 8) + (512 + P.val) = _
  omega

theorem topK_rows (rest : List (View.Piece (Elt Ideal) S2x640x128 .bf16)) (g : Fin 2) (P : Fin 640) (l : Fin 128) (hP : P.val < 128) :
    View.canon (topK (dbuf (kload m c t) ++ rest)) (ix3 g P l)
      = below 128 (seq m c t h).k (512 * (t.val % 8 + 1) + P.val) ⟨64 * g.val + l.val % 64, by omega⟩ := by
  rw [topK_at _ g P l hP]
  refine (canon_dbuf (kload m c t) (seq m c t h).k (t.val % 8) (by omega) (fun r l _ => kload_at m c t h r l) rest g ⟨512 + P.val, by omega⟩ l
    (by show 128 ≤ 512 + P.val; omega)).trans (congrArg (fun a => below 128 (seq m c t h).k a _) ?_)
  show 512 * (t.val % 8) + (512 + P.val) = _
  omega

theorem topV_rows (rest : List (View.Piece (Elt Ideal) S2x640x128 .bf16)) (g : Fin 2) (P : Fin 640) (l : Fin 128) (hP : P.val < 128) :
    View.canon (topV (dbuf (vload m c t) ++ rest)) (ix3 g P l)
      = below 128 (seq m c t h).v (512 * (t.val % 8 + 1) + P.val) ⟨64 * g.val + l.val % 64, by omega⟩ := by
  rw [topV_at _ g P l hP]
  refine (canon_dbuf (vload m c t) (seq m c t h).v (t.val % 8) (by omega) (fun r l _ => vload_at m c t h r l) rest g ⟨512 + P.val, by omega⟩ l
    (by show 128 ≤ 512 + P.val; omega)).trans (congrArg (fun a => below 128 (seq m c t h).v a _) ?_)
  show 512 * (t.val % 8) + (512 + P.val) = _
  omega

theorem carried_kept (p : Left Ideal) (hu : p.uext = View.canon (topU (ubuf m c t))) (hk : p.kdup = View.canon (topK (dbuf (kload m c t))))
    (hv : p.vdup = View.canon (topV (dbuf (vload m c t)))) : Carried p (t.val % 8 + 1) (seq m c t h) where
  u P l hP := (congrFun hu _).trans (topU_kept m c t h P l hP)
  k g P l hP := (congrFun hk _).trans (by have := topK_rows m c t h [] g P l hP; rwa [List.append_nil] at this)
  v g P l hP := (congrFun hv _).trans (by have := topV_rows m c t h [] g P l hP; rwa [List.append_nil] at this)

theorem carried_fresh (p : Left Ideal) (hu : p.uext = View.canon (topU (ufresh m c t))) (hk : p.kdup = View.canon (topK (kfresh m c t)))
    (hv : p.vdup = View.canon (topV (vfresh m c t))) : Carried p (t.val % 8 + 1) (seq m c t h) where
  u P l hP := (congrFun hu _).trans (topU_fresh m c t h P l hP)
  k g P l hP := (congrFun hk _).trans (topK_rows m c t h [_] g P l hP)
  v g P l hP := (congrFun hv _).trans (topV_rows m c t h [_] g P l hP)

/-- Every point but the last leaves the rows above the next tile. -/
theorem carried : Carried (left m c t.val t.isLt) (t.val % 8 + 1) (seq m c t h) := by
  by_cases h0 : t.val % 8 = 0
  · by_cases hz : t.val = 0
    · rw [left_A m c t hz]
      exact carried_fresh m c t h _ (uext_A m c t hz) (kdup_A m c t hz) (vdup_A m c t hz)
    · rw [left_D m c t h0 hz]
      exact carried_fresh m c t h _ (uext_D m c t h0 hz _) (kdup_D m c t h0 hz _) (vdup_D m c t h0 hz _)
  · by_cases h7 : t.val % 8 = 7
    · rw [left_C m c t h7]
      exact carried_kept m c t h _ (uext_C m c t h7 _) (kdup_C m c t h7 _) (vdup_C m c t h7 _)
    · rw [left_B m c t h0 h7]
      exact carried_kept m c t h _ (uext_B m c t h0 h7 _) (kdup_B m c t h0 h7 _) (vdup_B m c t h0 h7 _)

end Carry

/-- The masks stay as the first tile wrote them. -/
theorem masks_kept (c : Dev nD) : ∀ (n : ℕ) (hn : n < cfg0.N), (left m c n hn).bias = View.canon masks
  | 0, hn => by
    rw [left_A m c ⟨0, hn⟩ rfl]
    exact bias_A m c ⟨0, hn⟩ rfl
  | n + 1, hn => by
    have ih := masks_kept c n (Nat.lt_of_succ_lt hn)
    by_cases h0 : (n + 1) % 8 = 0
    · rw [left_D m c ⟨n + 1, hn⟩ h0 (Nat.succ_ne_zero n)]
      exact bias_D m c ⟨n + 1, hn⟩ h0 (Nat.succ_ne_zero n) _
    · by_cases h7 : (n + 1) % 8 = 7
      · rw [left_C m c ⟨n + 1, hn⟩ h7]
        exact ih
      · rw [left_B m c ⟨n + 1, hn⟩ h0 h7]
        exact ih

/-! ## The gated mix of a tile -/

theorem mixed_canon {L : Loads Ideal} {i : ℕ} {D : Data} (H : Reads L i D) (hD : D.Real) (L' : List (View.Piece (Elt Ideal) S512x1024 .bf16))
    (R : Fin 512) (o : Fin 1024) : View.canon (mixed L ++ L') (ix2 R o) = D.mix ⟨512 * i + R.val, by have := H.lt; omega⟩ o :=
  canon_agree (mixed L) L' _ _ (View.cover_of_tiled (mixed L) S256x1024.size rfl _) (mixes H hD R o)

section Mixed

variable (c : Dev nD) (t : Fin cfg0.N) (h : t.val < 64)

/-- The slot of a block's mask. -/
theorem slot_of (nb : Fin 4) : k0_off1 (grid0.coords t) (BitVec.ofNat 32 nb.val) = if t.val % 8 = 0 ∧ nb.val = 0 then ![0, 0, 0] else ![1, 0, 0] := by
  match nb with
  | ⟨0, _⟩ =>
    by_cases h0 : t.val % 8 = 0
    · rw [if_pos ⟨h0, rfl⟩]; exact slot_first _ ((hcond0_1 t).mpr h0)
    · rw [if_neg fun e => h0 e.1]; exact slot_later _ fun e => h0 ((hcond0_1 t).mp e)
  | ⟨1, _⟩ => rw [if_neg fun e => absurd e.2 (show ¬(1 : ℕ) = 0 by decide)]; exact slot_1 _
  | ⟨2, _⟩ => rw [if_neg fun e => absurd e.2 (show ¬(2 : ℕ) = 0 by decide)]; exact slot_2 _
  | ⟨3, _⟩ => rw [if_neg fun e => absurd e.2 (show ¬(3 : ℕ) = 0 by decide)]; exact slot_3 _

/-- The mask a block reads. -/
theorem mask_at (nb : Fin 4) (ρ : Fin 512) (j : Fin 256) (y : S2x512x256.Idx)
    (hy : ∀ a, (y a).val = k0_off1 (grid0.coords t) (BitVec.ofNat 32 nb.val) a + ((ix3 0 ρ j : S1x512x256.Idx) a).val) :
    View.canon (masks (F := Ideal)) y = if sees (4 * (t.val % 8) + nb.val) (ρ.val % 128) j.val then 0 else ⊥ := by
  rw [slot_of t nb] at hy
  by_cases h0 : t.val % 8 = 0 ∧ nb.val = 0
  · rw [if_pos h0] at hy
    obtain rfl : y = ix3 0 ρ j := funext fun a => Fin.ext ((hy a).trans (by
      match a with
      | ⟨0, _⟩ => rfl
      | ⟨1, _⟩ => exact (show 0 + ρ.val = ρ.val by omega)
      | ⟨2, _⟩ => exact (show 0 + j.val = j.val by omega)))
    rw [masks_first]
    refine if_congr ?_ rfl rfl
    unfold sees
    omega
  · rw [if_neg h0] at hy
    obtain rfl : y = ix3 1 ρ j := funext fun a => Fin.ext ((hy a).trans (by
      match a with
      | ⟨0, _⟩ => rfl
      | ⟨1, _⟩ => exact (show 0 + ρ.val = ρ.val by omega)
      | ⟨2, _⟩ => exact (show 0 + j.val = j.val by omega)))
    rw [masks_later]
    refine if_congr ?_ rfl rfl
    unfold sees
    omega

/-- Where a block's mask lies. -/
def slotIdx (nb : Fin 4) (ρ : Fin 512) (j : Fin 256) : S2x512x256.Idx := (brect t nb).toLoadRect.idx (ix3 0 ρ j : S1x512x256.Idx)

theorem slotIdx_val (nb : Fin 4) (ρ : Fin 512) (j : Fin 256) (a : Fin S2x512x256.rank) :
    (slotIdx t nb ρ j a).val = k0_off1 (grid0.coords t) (BitVec.ofNat 32 nb.val) a + ((ix3 0 ρ j : S1x512x256.Idx) a).val :=
  Rect.idx_unit_val _ _ _ _ _

/-- A tile's loads are the sequence's, once those from the buffers are. -/
theorem reads_of (kd0 vd0 : Fin 2 → Vec Ideal S1x256x128 .bf16) (kd vd : Fin 2 → Fin 4 → Vec Ideal S1x256x128 .bf16)
    (bs : Fin 4 → Vec Ideal S1x512x256 .f32) (xe : Fin 4 → Vec Ideal S528x128 .f32)
    (hkd0 : ∀ (g : Fin 2) (j : Fin 256) (l : Fin 128),
      kd0 g (ix3 0 j l) = below 128 (seq m c t h).k (512 * (t.val % 8) + j.val) ⟨64 * g.val + l.val % 64, by omega⟩)
    (hvd0 : ∀ (g : Fin 2) (j : Fin 256) (l : Fin 128),
      vd0 g (ix3 0 j l) = below 128 (seq m c t h).v (512 * (t.val % 8) + j.val) ⟨64 * g.val + l.val % 64, by omega⟩)
    (hkd : ∀ (g : Fin 2) (nb : Fin 4) (j : Fin 256) (l : Fin 128), 1 ≤ nb.val →
      kd g nb (ix3 0 j l) = below 128 (seq m c t h).k (512 * (t.val % 8) + 128 * nb.val + j.val) ⟨64 * g.val + l.val % 64, by omega⟩)
    (hvd : ∀ (g : Fin 2) (nb : Fin 4) (j : Fin 256) (l : Fin 128), 1 ≤ nb.val →
      vd g nb (ix3 0 j l) = below 128 (seq m c t h).v (512 * (t.val % 8) + 128 * nb.val + j.val) ⟨64 * g.val + l.val % 64, by omega⟩)
    (hbs : ∀ (nb : Fin 4) (ρ : Fin 512) (j : Fin 256), bs nb (ix3 0 ρ j) = if sees (4 * (t.val % 8) + nb.val) (ρ.val % 128) j.val then 0 else ⊥)
    (hxe : ∀ (g : Fin 4) (ρ : Fin 528) (x : Fin 128),
      xe g (ix2 ρ x) = below 16 (seq m c t h).u (512 * (t.val % 8) + ρ.val) ⟨128 * g.val + x.val, by omega⟩) :
    Reads (loads m c t kd0 vd0 kd vd bs xe) (t.val % 8) (seq m c t h) where
  lt := by omega
  tile := tile_at t
  sk := sk_at m c t h _ _ _ _ _ _
  q := q_at m c t h _ _ _ _ _ _
  gl := gl_at m c t h _ _ _ _ _ _
  wp := wp_at m c t h _ _ _ _ _ _
  ps := ps_at m c t h _ _ _ _ _ _
  wbp := wbp_at m c t h _ _ _ _ _ _
  wba := wba_at m c t h _ _ _ _ _ _
  kd0 := hkd0
  kd := hkd
  vd0 := hvd0
  vd := hvd
  bs := hbs
  xe := hxe

theorem reads_fresh (h0 : t.val % 8 = 0) : Reads (freshLoads m c t) (t.val % 8) (seq m c t h) := by
  unfold freshLoads
  refine reads_of m c t h _ _ _ _ _ _ ?_ ?_ ?_ ?_ ?_ ?_
  · intro g j l
    refine (readCov_at scM0_1.view (kfresh m c t) _ _ _ _ (ix3 g ⟨j.val, by omega⟩ l) fun b => ?_).trans
      (canon_fresh (kload m c t) (seq m c t h).k (t.val % 8) (by omega) (fun r l _ => kload_at m c t h r l) h0 g _ l)
    match b with
    | ⟨0, _⟩ => exact (show g.val = g.val + 0 by omega)
    | ⟨1, _⟩ => exact (show j.val = 128 * 0 + j.val by omega)
    | ⟨2, _⟩ => exact (show l.val = 0 + l.val by omega)
  · intro g j l
    refine (readCov_at scM0_2.view (vfresh m c t) _ _ _ _ (ix3 g ⟨j.val, by omega⟩ l) fun b => ?_).trans
      (canon_fresh (vload m c t) (seq m c t h).v (t.val % 8) (by omega) (fun r l _ => vload_at m c t h r l) h0 g _ l)
    match b with
    | ⟨0, _⟩ => exact (show g.val = g.val + 0 by omega)
    | ⟨1, _⟩ => exact (show j.val = 128 * 0 + j.val by omega)
    | ⟨2, _⟩ => exact (show l.val = 0 + l.val by omega)
  · intro g nb j l _
    refine (readCov_at scM0_1.view (kfresh m c t) _ _ _ _ (ix3 g ⟨128 * nb.val + j.val, by omega⟩ l) fun b => ?_).trans
      ((canon_fresh (kload m c t) (seq m c t h).k (t.val % 8) (by omega) (fun r l _ => kload_at m c t h r l) h0 g _ l).trans
        (congrArg (fun a => below 128 (seq m c t h).k a _) (Nat.add_assoc _ _ _).symm))
    match b with
    | ⟨0, _⟩ => exact (show g.val = g.val + 0 by omega)
    | ⟨1, _⟩ => rfl
    | ⟨2, _⟩ => exact (show l.val = 0 + l.val by omega)
  · intro g nb j l _
    refine (readCov_at scM0_2.view (vfresh m c t) _ _ _ _ (ix3 g ⟨128 * nb.val + j.val, by omega⟩ l) fun b => ?_).trans
      ((canon_fresh (vload m c t) (seq m c t h).v (t.val % 8) (by omega) (fun r l _ => vload_at m c t h r l) h0 g _ l).trans
        (congrArg (fun a => below 128 (seq m c t h).v a _) (Nat.add_assoc _ _ _).symm))
    match b with
    | ⟨0, _⟩ => exact (show g.val = g.val + 0 by omega)
    | ⟨1, _⟩ => rfl
    | ⟨2, _⟩ => exact (show l.val = 0 + l.val by omega)
  · intro nb ρ j
    exact (readCov_at scM0_4.view masks _ _ _ _ (slotIdx t nb ρ j) (slotIdx_val t nb ρ j)).trans (mask_at t nb ρ j _ (slotIdx_val t nb ρ j))
  · intro g ρ x
    refine (readCov_at scM0_0.view (ufresh m c t) _ _ _ _ (ix2 ρ ⟨128 * g.val + x.val, by omega⟩) fun b => ?_).trans
      (canon_ufresh m c t (seq m c t h).u (t.val % 8) (by omega) (fun r l _ => blk1 m c t h r l) h0 ρ _)
    match b with
    | ⟨0, _⟩ => exact (show ρ.val = 0 + ρ.val by omega)
    | ⟨1, _⟩ => rfl

theorem reads_kept (p : Left Ideal) (hp : Carried p (t.val % 8) (seq m c t h)) (hb : p.bias = View.canon masks) :
    Reads (keptLoads m c t p.uext p.kdup p.vdup p.bias) (t.val % 8) (seq m c t h) := by
  unfold keptLoads
  refine reads_of m c t h _ _ _ _ _ _ ?_ ?_ ?_ ?_ ?_ ?_
  · intro g j l
    refine (readAt_at scM0_1.view _ _ _ _ _ (ix3 g ⟨j.val, by omega⟩ l) fun b => ?_).trans
      (read_dbuf (kload m c t) (seq m c t h).k (t.val % 8) (by omega) (fun r l _ => kload_at m c t h r l) scM0_1.view _ p.kdup
        ((Memref.isWhole_whole _).read_unread _) hp.k g _ l)
    match b with
    | ⟨0, _⟩ => exact (show g.val = g.val + 0 by omega)
    | ⟨1, _⟩ => exact (show j.val = 128 * 0 + j.val by omega)
    | ⟨2, _⟩ => exact (show l.val = 0 + l.val by omega)
  · intro g j l
    refine (readAt_at scM0_2.view _ _ _ _ _ (ix3 g ⟨j.val, by omega⟩ l) fun b => ?_).trans
      (read_dbuf (vload m c t) (seq m c t h).v (t.val % 8) (by omega) (fun r l _ => vload_at m c t h r l) scM0_2.view _ p.vdup
        ((Memref.isWhole_whole _).read_unread _) hp.v g _ l)
    match b with
    | ⟨0, _⟩ => exact (show g.val = g.val + 0 by omega)
    | ⟨1, _⟩ => exact (show j.val = 128 * 0 + j.val by omega)
    | ⟨2, _⟩ => exact (show l.val = 0 + l.val by omega)
  · intro g nb j l hnb
    have := canon_dbuf (kload m c t) (seq m c t h).k (t.val % 8) (by omega) (fun r l _ => kload_at m c t h r l) [] g ⟨128 * nb.val + j.val, by omega⟩ l
      (by show 128 ≤ 128 * nb.val + j.val; omega)
    rw [List.append_nil] at this
    refine (readCov_at scM0_1.view (dbuf (kload m c t)) _ _ _ _ (ix3 g ⟨128 * nb.val + j.val, by omega⟩ l) fun b => ?_).trans
      (this.trans (congrArg (fun a => below 128 (seq m c t h).k a _) (Nat.add_assoc _ _ _).symm))
    match b with
    | ⟨0, _⟩ => exact (show g.val = g.val + 0 by omega)
    | ⟨1, _⟩ => rfl
    | ⟨2, _⟩ => exact (show l.val = 0 + l.val by omega)
  · intro g nb j l hnb
    have := canon_dbuf (vload m c t) (seq m c t h).v (t.val % 8) (by omega) (fun r l _ => vload_at m c t h r l) [] g ⟨128 * nb.val + j.val, by omega⟩ l
      (by show 128 ≤ 128 * nb.val + j.val; omega)
    rw [List.append_nil] at this
    refine (readCov_at scM0_2.view (dbuf (vload m c t)) _ _ _ _ (ix3 g ⟨128 * nb.val + j.val, by omega⟩ l) fun b => ?_).trans
      (this.trans (congrArg (fun a => below 128 (seq m c t h).v a _) (Nat.add_assoc _ _ _).symm))
    match b with
    | ⟨0, _⟩ => exact (show g.val = g.val + 0 by omega)
    | ⟨1, _⟩ => rfl
    | ⟨2, _⟩ => exact (show l.val = 0 + l.val by omega)
  · intro nb ρ j
    exact (load_at scM0_4 (Memref.isWhole_whole _) p.bias (k0_off1 (grid0.coords t) (BitVec.ofNat 32 nb.val)) S1x512x256.size (k0_off1_inb (grid0.coords t) nb)
      (ix3 0 ρ j) (slotIdx t nb ρ j) (slotIdx_val t nb ρ j)).trans ((congrFun hb _).trans (mask_at t nb ρ j _ (slotIdx_val t nb ρ j)))
  · intro g ρ x
    refine (readAt_at scM0_0.view _ _ _ _ _ (ix2 ρ ⟨128 * g.val + x.val, by omega⟩) fun b => ?_).trans
      (read_ubuf m c t (seq m c t h).u (t.val % 8) (by omega) (fun r l _ => blk1 m c t h r l) scM0_0.view _ p.uext
        ((Memref.isWhole_whole _).read_unread _) hp.u ρ _)
    match b with
    | ⟨0, _⟩ => exact (show ρ.val = 0 + ρ.val by omega)
    | ⟨1, _⟩ => rfl

/-- What the tile at `t` leaves for the next point to project. -/
theorem mixed_at (hD : (seq m c t h).Real) (R : Fin 512) (o : Fin 1024) :
    (left m c t.val t.isLt).mixed (ix2 R o) = (seq m c t h).mix ⟨512 * (t.val % 8) + R.val, by omega⟩ o := by
  by_cases h0 : t.val % 8 = 0
  · by_cases hz : t.val = 0
    · rw [left_A m c t hz, mixed_A m c t hz]
      exact mixed_canon (reads_fresh m c t h h0) hD _ R o
    · rw [left_D m c t h0 hz, mixed_D m c t h0 hz]
      have := mixed_canon (reads_fresh m c t h h0) hD [] R o
      rwa [List.append_nil] at this
  · have ht : t.val - 1 < cfg0.N := lt_of_le_of_lt (Nat.sub_le _ _) t.isLt
    have hc : Carried (left m c (t.val - 1) ht) (t.val % 8) (seq m c t h) := by
      have e1 : t.val % 8 = (t.val - 1) % 8 + 1 := by omega
      have e2 : seq m c t h = seq m c ⟨t.val - 1, ht⟩ (by show t.val - 1 < 64; omega) :=
        congrArg (seqData m c) (Fin.ext (by show t.val / 8 = (t.val - 1) / 8; omega))
      rw [e1, e2]
      exact carried m c ⟨t.val - 1, ht⟩ (by show t.val - 1 < 64; omega)
    have H := reads_kept m c t h _ hc (masks_kept m c _ ht)
    by_cases h7 : t.val % 8 = 7
    · rw [left_C m c t h7, mixed_C m c t h7]
      have := mixed_canon H hD [] R o
      rwa [List.append_nil] at this
    · rw [left_B m c t h0 h7, mixed_B m c t h0 h7]
      have := mixed_canon H hD [] R o
      rwa [List.append_nil] at this

end Mixed

end Cert.MixIdeal.Rows
end
-- ==== Proof.MixValue.lean ====
module

public import proofs.«01_k».proof.Proof.MixSeq
public import proofs.«01_k».proof.Proof.MixFrame
public import proofs.«01_k».proof.Proof.MixRefWhole
public import Idealize.ShloMosaic.Lib.Pipeline.ValueKit

/-! The mixing kernel's three results: a point finishes the tile before it, so the rows it writes back are the residual plus
the projected gated mix, and a sequence's last tile leaves its last keys and values. -/

@[expose] public section

set_option maxRecDepth 16384
set_option maxHeartbeats 1000000

noncomputable section

namespace Cert.MixIdeal.Rows

open Idealize.ShloMosaic Idealize.ShloMosaic.TcCoe Idealize.SL.Sem
open Cert.MixIdeal Cert.MixIdeal.Gen Cert.MixRefIdeal.Rows
open Idealize.ShloMosaic.Pipeline (Dat)

variable (m : (ℓ : Loc nD τ sig) → Buf (Elt Ideal) ℓ) (ρ : Dev nD → PrngReg)

/-! ## The finished rows -/

section Out

variable (c : Dev nD) (t : Fin cfg0.N)

/-- A finished entry, from the residual's block, the mix and the projection. -/
def finished (mx : Vec Ideal S512x1024 .bf16) (R : Fin 512) (l : Fin 1024) : EReal :=
  (show EReal from (iblk m c 11 t : S512x1024.Idx → EReal) (ix2 R l))
    + ∑ k : Fin 1024, (show EReal from mx (ix2 R k)) * (show EReal from (iblk m c 10 t : S1024x1024.Idx → EReal) (ix2 k l))

theorem finished_eq (mx : Vec Ideal S512x1024 .bf16) (off : ℕ) (inb inb') (r : Fin 512) (d : Fin 256) (R : Fin 512) (l : Fin 1024)
    (hR : R.val = 0 + r.val) (hl : l.val = off + d.val) :
    (show EReal from View.readAt (Elt Ideal) (ms0_11 t).view (Rect.unit (s := S512x1024) ![0, off] S512x256.size inb).toLoadRect ((hs0_11 t).unread (iblk m c 11 t)) (ix2 r d))
      + ∑ k : Fin 1024, (show EReal from mx (ix2 r k)) * (show EReal from View.readAt (Elt Ideal) (ms0_10 t).view (Rect.unit (s := S1024x1024) ![0, off] S1024x256.size inb').toLoadRect
        ((hs0_10 t).unread (iblk m c 10 t)) (ix2 k d)) = finished m c t mx R l := by
  obtain rfl : R = r := Fin.ext (by omega)
  unfold finished
  refine congrArg₂ (· + ·) (load_at (ms0_11 t) (hs0_11 t) (iblk m c 11 t) _ _ _ _ (ix2 R l) fun b => ?_)
    (Finset.sum_congr rfl fun k _ => congrArg ((show EReal from mx (ix2 R k)) * ·) (load_at (ms0_10 t) (hs0_10 t) (iblk m c 10 t) _ _ _ _ (ix2 k l) fun b => ?_))
  · match b with
    | ⟨0, _⟩ => exact hR
    | ⟨1, _⟩ => exact hl
  · match b with
    | ⟨0, _⟩ => exact (show k.val = 0 + k.val by omega)
    | ⟨1, _⟩ => exact hl

theorem outs_at (mx : Vec Ideal S512x1024 .bf16) (R : Fin 512) (l : Fin 1024) : View.canon (outs m c t mx) (ix2 R l) = finished m c t mx R l := by
  refine View.canon_eq_of_allAt _ _ _ (View.cover_of_tiled (outs m c t mx) S512x256.size rfl _)
    (View.allAt_cons_unit _ _ _ _ _ (fun w hw => ?_) (View.allAt_cons_unit _ _ _ _ _ (fun w hw => ?_)
      (View.allAt_cons_unit _ _ _ _ _ (fun w hw => ?_) (View.allAt_cons_unit _ _ _ _ _ (fun w hw => ?_) (View.allAt_nil _ _)))))
  · obtain ⟨r, d, rfl⟩ : ∃ (r : Fin 512) (d : Fin 256), w = ix2 r d := ⟨_, _, eq_ix2 w⟩
    exact (out3_apply _ _ _ r d).trans (finished_eq m c t mx 768 _ _ r d R l (hw 0) (hw 1))
  · obtain ⟨r, d, rfl⟩ : ∃ (r : Fin 512) (d : Fin 256), w = ix2 r d := ⟨_, _, eq_ix2 w⟩
    exact (out2_apply _ _ _ r d).trans (finished_eq m c t mx 512 _ _ r d R l (hw 0) (hw 1))
  · obtain ⟨r, d, rfl⟩ : ∃ (r : Fin 512) (d : Fin 256), w = ix2 r d := ⟨_, _, eq_ix2 w⟩
    exact (out1_apply _ _ _ r d).trans (finished_eq m c t mx 256 _ _ r d R l (hw 0) (hw 1))
  · obtain ⟨r, d, rfl⟩ : ∃ (r : Fin 512) (d : Fin 256), w = ix2 r d := ⟨_, _, eq_ix2 w⟩
    exact (out_apply _ _ _ r d).trans (finished_eq m c t mx 0 _ _ r d R l (hw 0) (hw 1))

theorem mixLoad_at (mx : Vec Ideal S512x1024 .bf16) (R : Fin 512) (k : Fin 1024) : mixLoad mx (ix2 R k) = mx (ix2 R k) := by
  refine load_at scM0_6 (Memref.isWhole_whole _) mx _ _ _ _ (ix2 R k) fun b => ?_
  match b with
  | ⟨0, _⟩ => exact (show R.val = 0 + R.val by omega)
  | ⟨1, _⟩ => exact (show k.val = 0 + k.val by omega)

theorem x1_eq (hz : ¬t.val = 0) : (left m c t.val t.isLt).x1
    = View.canon (outs m c t (mixLoad (left m c (t.val - 1) (lt_of_le_of_lt (Nat.sub_le _ _) t.isLt)).mixed)) := by
  by_cases h0 : t.val % 8 = 0
  · rw [left_D m c t h0 hz]; exact x1_D m c t h0 hz _
  · by_cases h7 : t.val % 8 = 7
    · rw [left_C m c t h7]; exact x1_C m c t h7 _
    · rw [left_B m c t h0 h7]; exact x1_B m c t h0 h7 _

/-- The whole layer's mix on a device. -/
abbrev mixOf : FVec Ideal S8x4096x1024 .f32 :=
  mix (aX m c) (aU m c) (aQ m c) (aK m c) (aV m c) (aGl m c) (aWp m c) (aPs m c) (aSk m c) (aWbp m c) (aWba m c) (aWout m c)

/-- The rows written back at `t` are the reference's. -/
theorem x1_at (hD : ∀ b, (seqData m c b).Real) (hz : ¬t.val = 0) (R : Fin 512) (l : Fin 1024) :
    (left m c t.val t.isLt).x1 (ix2 R l)
      = mixOf m c (ix3 ⟨(t.val - 1) / 8, by have := t_lt t; omega⟩ ⟨512 * ((t.val - 1) % 8) + R.val, by omega⟩ l) := by
  have ht := t_lt t
  have h1 : t.val - 1 < cfg0.N := lt_of_le_of_lt (Nat.sub_le _ _) t.isLt
  rw [x1_eq m c t hz]
  refine (outs_at m c t _ R l).trans (Eq.trans ?_ (mix_apply (aX m c) (aU m c) (aQ m c) (aK m c) (aV m c) (aGl m c) (aWp m c) (aPs m c) (aSk m c)
    (aWbp m c) (aWba m c) (aWout m c) _ _ l).symm)
  unfold finished
  refine congrArg₂ (· + ·) (blk11 m c t R l) (Finset.sum_congr rfl fun k _ => congrArg₂ (· * ·) ((mixLoad_at _ R k).trans ?_) (blk10 m c t k l))
  exact mixed_at m c ⟨t.val - 1, h1⟩ (by show t.val - 1 < 64; omega) (hD _) R k

end Out

/-! ## The states -/

section States

variable (c : Dev nD) (t : Fin cfg0.N)

theorem kts_at (h : t.val < 64) (h7 : t.val % 8 = 7) (l i : Fin 128) :
    View.canon (kts m c t) (ix3 0 l i) = aK m c (ix3 ⟨t.val / 8, by omega⟩ ⟨3968 + i.val, by omega⟩ l) := by
  have hl := l.isLt
  have hi := i.isLt
  refine View.canon_eq_of_allAt (kts m c t) _ _ (here fun a => ?_) (View.allAt_cons_unit _ _ _ _ _ (fun w hw => ?_) (View.allAt_nil _ _))
  · match a with
    | ⟨0, _⟩ => exact (show 0 ≤ 0 ∧ 0 < 0 + 1 by omega)
    | ⟨1, _⟩ => exact (show 0 ≤ l.val ∧ l.val < 0 + 128 by omega)
    | ⟨2, _⟩ => exact (show 0 ≤ i.val ∧ i.val < 0 + 128 by omega)
  · obtain ⟨a, r, d, rfl⟩ : ∃ (a : Fin 1) (r d : Fin 128), w = ix3 a r d := ⟨_, _, _, eq_ix3 w⟩
    have e1 : l.val = 0 + r.val := hw 1
    have e2 : i.val = 0 + d.val := hw 2
    obtain rfl : a = 0 := Subsingleton.elim _ _
    obtain rfl : r = l := Fin.ext (by omega)
    obtain rfl : d = i := Fin.ext (by omega)
    refine (pay129_apply _ r d).trans ((load_at (ms0_3 t) (hs0_3 t) (iblk m c 3 t) _ _ _ _ (ix2 ⟨384 + d.val, by omega⟩ r) fun b => ?_).trans
      ((blk3 m c t h _ r).trans (congrArg (fun s => aK m c (ix3 _ s r)) (Fin.ext ?_))))
    · match b with
      | ⟨0, _⟩ => rfl
      | ⟨1, _⟩ => exact (show r.val = 0 + r.val by omega)
    · show 512 * (t.val % 8) + (384 + d.val) = 3968 + d.val
      omega

theorem vts_at (h : t.val < 64) (h7 : t.val % 8 = 7) (l i : Fin 128) :
    View.canon (vts m c t) (ix3 0 l i) = aV m c (ix3 ⟨t.val / 8, by omega⟩ ⟨3968 + i.val, by omega⟩ l) := by
  have hl := l.isLt
  have hi := i.isLt
  refine View.canon_eq_of_allAt (vts m c t) _ _ (here fun a => ?_) (View.allAt_cons_unit _ _ _ _ _ (fun w hw => ?_) (View.allAt_nil _ _))
  · match a with
    | ⟨0, _⟩ => exact (show 0 ≤ 0 ∧ 0 < 0 + 1 by omega)
    | ⟨1, _⟩ => exact (show 0 ≤ l.val ∧ l.val < 0 + 128 by omega)
    | ⟨2, _⟩ => exact (show 0 ≤ i.val ∧ i.val < 0 + 128 by omega)
  · obtain ⟨a, r, d, rfl⟩ : ∃ (a : Fin 1) (r d : Fin 128), w = ix3 a r d := ⟨_, _, _, eq_ix3 w⟩
    have e1 : l.val = 0 + r.val := hw 1
    have e2 : i.val = 0 + d.val := hw 2
    obtain rfl : a = 0 := Subsingleton.elim _ _
    obtain rfl : r = l := Fin.ext (by omega)
    obtain rfl : d = i := Fin.ext (by omega)
    refine (pay130_apply _ r d).trans ((load_at (ms0_4 t) (hs0_4 t) (iblk m c 4 t) _ _ _ _ (ix2 ⟨384 + d.val, by omega⟩ r) fun b => ?_).trans
      ((blk4 m c t h _ r).trans (congrArg (fun s => aV m c (ix3 _ s r)) (Fin.ext ?_))))
    · match b with
      | ⟨0, _⟩ => rfl
      | ⟨1, _⟩ => exact (show r.val = 0 + r.val by omega)
    · show 512 * (t.val % 8) + (384 + d.val) = 3968 + d.val
      omega

/-- A sequence's last tile leaves the states. -/
theorem states_last (h : t.val < 64) (h7 : t.val % 8 = 7) (l i : Fin 128) :
    (left m c t.val t.isLt).kt (ix3 0 l i) = aK m c (ix3 ⟨t.val / 8, by omega⟩ ⟨3968 + i.val, by omega⟩ l)
      ∧ (left m c t.val t.isLt).vt (ix3 0 l i) = aV m c (ix3 ⟨t.val / 8, by omega⟩ ⟨3968 + i.val, by omega⟩ l) := by
  rw [left_C m c t h7]
  exact ⟨(congrFun (kt_C m c t h7 _) _).trans (kts_at m c t h h7 l i), (congrFun (vt_C m c t h7 _) _).trans (vts_at m c t h h7 l i)⟩

/-- At the points that write a state back: a sequence's last tile, or the point after the last. -/
theorem states_at (hf : t.val = 64 ∨ t.val < 64 ∧ t.val % 8 = 7) (l i : Fin 128) :
    (left m c t.val t.isLt).kt (ix3 0 l i) = aK m c (ix3 ⟨min t.val 63 / 8, by omega⟩ ⟨3968 + i.val, by omega⟩ l)
      ∧ (left m c t.val t.isLt).vt (ix3 0 l i) = aV m c (ix3 ⟨min t.val 63 / 8, by omega⟩ ⟨3968 + i.val, by omega⟩ l) := by
  rcases hf with hf | ⟨hf, h7⟩
  · have h1 : t.val - 1 < cfg0.N := lt_of_le_of_lt (Nat.sub_le _ _) t.isLt
    have e : (⟨min t.val 63 / 8, by omega⟩ : Fin 8) = ⟨(t.val - 1) / 8, by omega⟩ := Fin.ext (by show min t.val 63 / 8 = (t.val - 1) / 8; omega)
    rw [e, left_D m c t (by omega) (by omega)]
    exact states_last m c ⟨t.val - 1, h1⟩ (by show t.val - 1 < 64; omega) (by show (t.val - 1) % 8 = 7; omega) l i
  · have e : (⟨min t.val 63 / 8, by omega⟩ : Fin 8) = ⟨t.val / 8, by omega⟩ := Fin.ext (by show min t.val 63 / 8 = t.val / 8; omega)
    rw [e]
    exact states_last m c t hf h7 l i

end States

/-! ## The three result arrays -/

theorem flat_apply (X : FVec Ideal S8x4096x1024 .f32) (n : Fin 32768) (l : Fin 1024) :
    (shapeCast S32768x1024 X shapeCasts_S8x4096x1024_S32768x1024 : FVec Ideal S32768x1024 .f32) (ix2 n l)
      = X (ix3 ⟨n.val / 4096, by omega⟩ ⟨n.val % 4096, by omega⟩ l) := by
  pointwise

theorem arr12 (c : Dev nD) (hD : ∀ b, (seqData m c b).Real) : (dats m 0 c).arrAt 12 cfg0.N
    = (shapeCast S32768x1024 (mixOf m c) shapeCasts_S8x4096x1024_S32768x1024 : FVec Ideal S32768x1024 .f32) := by
  refine (dats m 0 c).arrAt_eq_of_covers 12 _ (by decide +kernel) fun t hf y => ?_
  blk_simp
  rw [after0_12]
  have ht := t_lt t
  have hz : ¬t.val = 0 := (by decide +kernel : ∀ t : Fin grid0.N, (cfg0.win 12).flush t = true → ¬t.val = 0) t hf
  have h0 : (y 0).val < 512 := (y 0).isLt
  refine (congrArg (left m c t.val t.isLt).x1 (eq_ix2 y)).trans ((x1_at m c t hD hz (y 0) (y 1)).trans (Eq.trans ?_
    ((flat_apply (mixOf m c) ⟨(t.val - 1) * 512 + (y 0).val, by omega⟩ (y 1)).symm.trans (congrArg _ (funext fun a => Fin.ext ?_)))))
  · refine congrArg₂ (fun a b => mixOf m c (ix3 a b (y 1))) (Fin.ext ?_) (Fin.ext ?_)
    · show (t.val - 1) / 8 = ((t.val - 1) * 512 + (y 0).val) / 4096
      omega
    · show 512 * ((t.val - 1) % 8) + (y 0).val = ((t.val - 1) * 512 + (y 0).val) % 4096
      omega
  · match a with
    | ⟨0, _⟩ => blk_simp [(idx_late t).2.1]; rfl
    | ⟨1, _⟩ => blk_simp [(idx_late t).2.1]; rfl

theorem flush_state : ∀ t : Fin cfg0.N, ((cfg0.win 13).flush t = true → t.val = 64 ∨ t.val < 64 ∧ t.val % 8 = 7)
    ∧ ((cfg0.win 14).flush t = true → t.val = 64 ∨ t.val < 64 ∧ t.val % 8 = 7) :=
  (by decide +kernel : ∀ t : Fin grid0.N, ((cfg0.win 13).flush t = true → t.val = 64 ∨ t.val < 64 ∧ t.val % 8 = 7)
    ∧ ((cfg0.win 14).flush t = true → t.val = 64 ∨ t.val < 64 ∧ t.val % 8 = 7))

theorem arr13 (c : Dev nD) : (dats m 0 c).arrAt 13 cfg0.N = state (aK m c) := by
  refine (dats m 0 c).arrAt_eq_of_covers 13 _ (by decide +kernel) fun t hf y => ?_
  blk_simp
  rw [after0_13]
  have h0 : (y 0).val < 1 := (y 0).isLt
  have hy : (y : S1x128x128.Idx) = ix3 0 (y 1) (y 2) := (eq_ix3 y).trans (congrArg (fun a => ix3 a (y 1) (y 2)) (Fin.ext (show (y 0).val = 0 by omega)))
  refine (congrArg (left m c t.val t.isLt).kt hy).trans ((states_at m c t ((flush_state t).1 hf) (y 1) (y 2)).1.trans
    ((state_apply (aK m c) _ (y 1) (y 2)).symm.trans (congrArg _ (funext fun a => Fin.ext ?_))))
  match a with
  | ⟨0, _⟩ => blk_simp [(idx_late t).2.2.1]
  | ⟨1, _⟩ => blk_simp [(idx_late t).2.2.1]; rfl
  | ⟨2, _⟩ => blk_simp [(idx_late t).2.2.1]; rfl

theorem arr14 (c : Dev nD) : (dats m 0 c).arrAt 14 cfg0.N = state (aV m c) := by
  refine (dats m 0 c).arrAt_eq_of_covers 14 _ (by decide +kernel) fun t hf y => ?_
  blk_simp
  rw [after0_14]
  have h0 : (y 0).val < 1 := (y 0).isLt
  have hy : (y : S1x128x128.Idx) = ix3 0 (y 1) (y 2) := (eq_ix3 y).trans (congrArg (fun a => ix3 a (y 1) (y 2)) (Fin.ext (show (y 0).val = 0 by omega)))
  refine (congrArg (left m c t.val t.isLt).vt hy).trans ((states_at m c t ((flush_state t).2 hf) (y 1) (y 2)).2.trans
    ((state_apply (aV m c) _ (y 1) (y 2)).symm.trans (congrArg _ (funext fun a => Fin.ext ?_))))
  match a with
  | ⟨0, _⟩ => blk_simp [(idx_late t).2.2.2]
  | ⟨1, _⟩ => blk_simp [(idx_late t).2.2.2]; rfl
  | ⟨2, _⟩ => blk_simp [(idx_late t).2.2.2]; rfl

/-! ## The run -/

/-- The run, each result array named, the arguments as launched. -/
theorem run_blocks : θ_run defs (onTc (τ := τ) (main (F := Ideal))) ⟨m, fun _ => 0, ρ⟩ fun r => ∀ c : Dev nD,
      r.2.mem ((c : Thread nD τ).loc main_v17_0) = (dats m 0 c).arrAt 12 cfg0.N
      ∧ r.2.mem ((c : Thread nD τ).loc main_v17_1) = (dats m 0 c).arrAt 13 cfg0.N
      ∧ r.2.mem ((c : Thread nD τ).loc main_v17_2) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => by
    have kept (a : Ref sig .tc) (h1) (h2) (hv : V m c a = m ((c : Thread nD τ).loc a)) : r.2.mem ((c : Thread nD τ).loc a) = m ((c : Thread nD τ).loc a) :=
      ((h c).2 a (Pipeline.mem_restRefs_of a h1 h2)).trans hv
    exact ⟨(h c).1 12, (h c).1 13, (h c).1 14,
      kept main_arg0 (by decide) (by decide) (V_main_arg0 m c),
      kept main_arg1 (by decide) (by decide) (V_main_arg1 m c),
      kept main_arg2 (by decide) (by decide) (V_main_arg2 m c),
      kept main_arg3 (by decide) (by decide) (V_main_arg3 m c),
      kept main_arg4 (by decide) (by decide) (V_main_arg4 m c),
      kept main_arg5 (by decide) (by decide) (V_main_arg5 m c),
      kept main_arg6 (by decide) (by decide) (V_main_arg6 m c),
      kept main_arg7 (by decide) (by decide) (V_main_arg7 m c),
      kept main_arg8 (by decide) (by decide) (V_main_arg8 m c),
      kept main_arg9 (by decide) (by decide) (V_main_arg9 m c),
      kept main_arg10 (by decide) (by decide) (V_main_arg10 m c),
      kept main_arg11 (by decide) (by decide) (V_main_arg11 m c)⟩)
    (run_main m ρ)

end Cert.MixIdeal.Rows
end
-- ==== Proof.MixClaim.lean ====
module

public import proofs.«01_k».proof.Defs
public import proofs.«01_k».proof.Proof.Gen.MixRefIdeal
public import proofs.«01_k».proof.Proof.Gen.MixRefIdeal.Run
public import proofs.«01_k».proof.Proof.MixValue
public import Idealize.ShloMosaic.Lib.Quiescent

/-! The mixing part's claims: the named constants, the reference's own run, and the three results of the call. -/

@[expose] public section

set_option maxRecDepth 16384

noncomputable section

namespace Cert.MixIdeal.Rows

open Idealize.ShloMosaic Idealize.ShloMosaic.TcCoe Idealize.SL.Sem

theorem frame_reference : Cert.quiescent_MixRefIdeal := fun m ρ _ =>
  (θ_run (Cert.MixRefIdeal.defs (F := Ideal)) _ _).mono (fun r h => ⟨fun c => (h c).2.2.2, sem_eq_zero_of_no_sems (by decide) r.2⟩) (Cert.MixRefIdeal.Value.run (F := Ideal) m ρ)

/-- The two constants that the kernel rounds and the claims read exactly: the logarithm of e to base two, and an eighth of it. -/
theorem named : Cert.preserves_Mix_MixIdeal :=
  ⟨IdealRules.named_const.statement Cert.MixIdeal.κ "log2e" .f32 0x3FB8AA3B#32 (((Real.log 2)⁻¹ : ℝ) : EReal) rfl,
   IdealRules.named_const.statement Cert.MixIdeal.κ "scale" .f32 0x3E38AA3B#32 (((Real.log 256)⁻¹ : ℝ) : EReal) rfl⟩

/-- The shapes that the precondition's comparisons broadcast to. -/
instance finiteFacts : Cert.Pre_finite_logits.Facts where
  bcast_S_S8x4096x512 := by decide
  bcast_S_S8x4096x128 := by decide
  bcast_S_S1x8 := by decide

/-- A number that compares below infinity and above minus infinity is real. -/
theorem real_of (x : EReal)
    (h : IntOp.andi (FloatOps.cmpf (F := Ideal) (φ := .f32) .olt x (Ideal.ofBits .f32 0x7F800000#32))
      (FloatOps.cmpf (F := Ideal) (φ := .f32) .ogt x (Ideal.ofBits .f32 0xFF800000#32)) = 1#1) : ∃ r : ℝ, x = r := by
  have ht : Ideal.ofBits .f32 0x7F800000#32 = (⊤ : EReal) := by simp [Ideal.ofBits, Ideal.ieee]
  have hb : Ideal.ofBits .f32 0xFF800000#32 = (⊥ : EReal) := by simp [Ideal.ofBits, Ideal.ieee]
  rw [ht, hb] at h
  refine ⟨x.toReal, (EReal.coe_toReal ?_ ?_).symm⟩
  · rintro rfl
    revert h
    simp [FloatOps.cmpf, Ideal.cmp, IntOp.andi]
  · rintro rfl
    revert h
    simp [FloatOps.cmpf, Ideal.cmp, IntOp.andi]

/-- Under the precondition every sequence's queries, keys and sinks are real. -/
theorem real (m : (ℓ : Loc nD τ sig) → Buf (Elt Ideal) ℓ) (h : Cert.Pre_MixIdeal_finite_logits m) (c : Dev nD) (b : Fin 8) :
    (seqData m c b).Real where
  q s l := real_of _ (congrFun (h c).1 (ix3 b s l))
  k s l := real_of _ (congrFun (h c).2.1 (ix3 b s l))
  sk j := real_of _ (congrFun (h c).2.2 (ix2 0 j))

/-- From the same arguments, the kernel's call and the reference return the same rows and the same two states. -/
theorem algebraic : Cert.algebraic_MixIdeal_MixRefIdeal_pre_finite_logits := by
  intro m g m' g' hpre hagree
  refine ⟨_, _, _, run_blocks m g, (θ_run (Cert.MixRefIdeal.defs (F := Ideal)) _ _).mono (fun r h c => ?_)
    (Cert.MixRefIdeal.Rows.run_named m' g')⟩
  obtain ⟨⟨h1, h2, h3⟩, ha⟩ := h c
  obtain ⟨e0, e1, e2, e3, e4, e5, e6, e7, e8, e9, e10, e11⟩ := hagree c
  refine ⟨h1.trans ?_, h2.trans ?_, h3.trans ?_, ha⟩
  · rw [e0, e1, e2, e3, e4, e5, e6, e7, e8, e9, e10, e11]
    exact (arr12 m c (real m hpre c)).symm
  · rw [e3]
    exact (arr13 m c).symm
  · rw [e4]
    exact (arr14 m c).symm

end Cert.MixIdeal.Rows
end
-- ==== Proof.InValue.lean ====
module

public import proofs.«01_k».proof.Proof.Gen.InIdeal.Value
public import Idealize.ShloMosaic.Lib.Pointwise
public import Idealize.ShloMosaic.Lib.Pipeline.ValueKit

@[expose] public section

set_option maxRecDepth 16384

noncomputable section

namespace Cert.InIdeal.Rows

open Cert.InIdeal Cert.InIdeal.Gen Idealize.ShloMosaic Idealize.ShloMosaic.TcCoe Idealize.SL.Sem
open Idealize.ShloMosaic.Pipeline (Dat)

variable (m : (ℓ : Loc nD τ sig) → Buf (Elt Ideal) ℓ)

/-- One entry of the input projection: a row `x` is divided by its root mean square (with the constant inside the root),
scaled by `g`, and paired with a column `w` of the weights. -/
def proj (x g w : Fin 1024 → EReal) : EReal :=
  ∑ k : Fin 1024, x k * Ideal.rsqrt (Ideal.div (∑ j : Fin 1024, x j * x j) (Ideal.ofBits .f32 0x44800000#32) + Ideal.ofBits .f32 0x358637BD#32) * g k * w k

/-- The same entry of the arguments on device `c`: row `r` of the tokens, column `col` of the weights. -/
def entry (c : Dev nD) (r : Fin 32768) (col : Fin 3328) : EReal :=
  proj (fun k => (m ((c : Thread nD τ).loc main_arg0) : S8x4096x1024.Idx → EReal) (ix3 ⟨r.val / 4096, by omega⟩ ⟨r.val % 4096, by omega⟩ k))
    (fun k => (m ((c : Thread nD τ).loc main_arg1) : S1x1024.Idx → EReal) (ix2 0 k))
    (fun k => (m ((c : Thread nD τ).loc main_arg2) : S1x1024x3328.Idx → EReal) (ix3 0 k col))

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0])

theorem row_lt (t : Fin cfg0.N) (r : Fin 1024) : t.val * 1024 + r.val < 32768 := by
  have h : t.val < 32 := lt_of_lt_of_eq t.isLt Gen.N_0
  omega

/-- Row `r` of the token block at point `t` is row `1024 t + r` of the tokens. -/
theorem blk0 (c : Dev nD) (t : Fin cfg0.N) (r k : Fin 1024) :
    (iblk m c 0 t : S1024x1024.Idx → EReal) (ix2 r k) = (m ((c : Thread nD τ).loc main_arg0) : S8x4096x1024.Idx → EReal)
      (ix3 ⟨(t.val * 1024 + r.val) / 4096, by have := row_lt t r; omega⟩ ⟨(t.val * 1024 + r.val) % 4096, by omega⟩ k) := by
  have h : t.val < 32 := lt_of_lt_of_eq t.isLt Gen.N_0
  blk_ext! [iblk, (idx t).1]

theorem blk1 (c : Dev nD) (t : Fin cfg0.N) (k : Fin 1024) :
    (iblk m c 1 t : S1x1024.Idx → EReal) (ix2 0 k) = (m ((c : Thread nD τ).loc main_arg1) : S1x1024.Idx → EReal) (ix2 0 k) := by
  blk_ext! [iblk, (idx t).2.1]

theorem blk2 (c : Dev nD) (t : Fin cfg0.N) (k : Fin 1024) (col : Fin 3328) :
    (iblk m c 2 t : S1024x3328.Idx → EReal) (ix2 k col) = (m ((c : Thread nD τ).loc main_arg2) : S1x1024x3328.Idx → EReal) (ix3 0 k col) := by
  blk_ext! [iblk, (idx t).2.2.1]

theorem proj_blk (c : Dev nD) (t : Fin cfg0.N) (r : Fin 1024) (col : Fin 3328) :
    proj (fun k => (iblk m c 0 t : S1024x1024.Idx → EReal) (ix2 r k)) (fun k => (iblk m c 1 t : S1x1024.Idx → EReal) (ix2 0 k))
      (fun k => (iblk m c 2 t : S1024x3328.Idx → EReal) (ix2 k col)) = entry m c ⟨t.val * 1024 + r.val, row_lt t r⟩ col := by
  simp only [blk0, blk1, blk2, entry]

/-! ## The five products of a block, and the slices of the weights they use -/

variable (x : Vec Ideal S1024x1024 .f32) (g : Vec Ideal S1x1024 .f32)

theorem pay3_apply (w : Vec Ideal S1024x512 .bf16) (r : Fin 1024) (l : Fin 512) :
    k0_pay3 x g w (ix2 r l) = proj (fun k => x (ix2 r k)) (fun k => g (ix2 0 k)) (fun k => w (ix2 k l)) := by
  pointwise [k0_pay3, k0_pay2, proj]

theorem pay4_apply (w : Vec Ideal S1024x512 .bf16) (r : Fin 1024) (l : Fin 512) :
    k0_pay4 x g w (ix2 r l) = proj (fun k => x (ix2 r k)) (fun k => g (ix2 0 k)) (fun k => w (ix2 k l)) := by
  pointwise [k0_pay4, k0_pay2, proj]

theorem pay6_apply (w : Vec Ideal S1024x256 .bf16) (r : Fin 1024) (l : Fin 128) :
    k0_pay6 x g w (ix2 r l) = proj (fun k => x (ix2 r k)) (fun k => g (ix2 0 k)) (fun k => w (ix2 k ⟨l.val, by omega⟩)) := by
  pointwise [k0_pay6, k0_pay5, k0_pay2, proj]

theorem pay7_apply (w : Vec Ideal S1024x256 .bf16) (r : Fin 1024) (l : Fin 128) :
    k0_pay7 x g w (ix2 r l) = proj (fun k => x (ix2 r k)) (fun k => g (ix2 0 k)) (fun k => w (ix2 k ⟨128 + l.val, by omega⟩)) := by
  pointwise [k0_pay7, k0_pay5, k0_pay2, proj]

theorem pay1_apply (w : Vec Ideal S1024x2048 .bf16) (r : Fin 1024) (l : Fin 2048) :
    k0_pay1 (k0_pay2 x g) w (ix2 r l) = proj (fun k => x (ix2 r k)) (fun k => g (ix2 0 k)) (fun k => w (ix2 k l)) := by
  pointwise [k0_pay1, k0_pay2, proj]

/-! The column slices of the weights, read at an index -/

theorem slice_2 (X : Vec Ideal S1024x3328 .bf16) (k : Fin 1024) (l : Fin 512) :
    View.ld X r0_2 (ix2 k l) = X (ix2 k ⟨0 + l.val, by omega⟩) := by
  refine congrArg X (funext fun a => Fin.ext ?_)
  match a with
  | ⟨0, _⟩ => exact (Rect.idx_unit_val ..).trans (Nat.zero_add _)
  | ⟨1, _⟩ => exact Rect.idx_unit_val ..

theorem slice_4 (X : Vec Ideal S1024x3328 .bf16) (k : Fin 1024) (l : Fin 512) :
    View.ld X r0_4 (ix2 k l) = X (ix2 k ⟨512 + l.val, by omega⟩) := by
  refine congrArg X (funext fun a => Fin.ext ?_)
  match a with
  | ⟨0, _⟩ => exact (Rect.idx_unit_val ..).trans (Nat.zero_add _)
  | ⟨1, _⟩ => exact Rect.idx_unit_val ..

theorem slice_5 (X : Vec Ideal S1024x3328 .bf16) (k : Fin 1024) (l : Fin 256) :
    View.ld X r0_5 (ix2 k l) = X (ix2 k ⟨1024 + l.val, by omega⟩) := by
  refine congrArg X (funext fun a => Fin.ext ?_)
  match a with
  | ⟨0, _⟩ => exact (Rect.idx_unit_val ..).trans (Nat.zero_add _)
  | ⟨1, _⟩ => exact Rect.idx_unit_val ..

theorem slice_7 (X : Vec Ideal S1024x3328 .bf16) (k : Fin 1024) (l : Fin 2048) :
    View.ld X r0_7 (ix2 k l) = X (ix2 k ⟨1280 + l.val, by omega⟩) := by
  refine congrArg X (funext fun a => Fin.ext ?_)
  match a with
  | ⟨0, _⟩ => exact (Rect.idx_unit_val ..).trans (Nat.zero_add _)
  | ⟨1, _⟩ => exact Rect.idx_unit_val ..

/-! ## The five result arrays -/

theorem out3 (c : Dev nD) (t : Fin cfg0.N) (r : Fin 1024) (l : Fin 512) :
    k0_pay3 (iblk m c 0 t) (iblk m c 1 t) (View.ld (iblk m c 2 t) r0_2) (ix2 r l) = entry m c ⟨t.val * 1024 + r.val, row_lt t r⟩ ⟨0 + l.val, by omega⟩ := by
  rw [pay3_apply, ← proj_blk]
  refine congrArg (proj _ _) (funext fun k => ?_)
  exact (slice_2 _ k _).trans (congrArg (iblk m c 2 t) (congrArg (ix2 k) (Fin.ext (by first | rfl | (simp only []; omega)))))

theorem arr3 (c : Dev nD) : (dats m 0 c).arrAt 3 cfg0.N = fun i : S32768x512.Idx => entry m c (i 0) ⟨0 + (i 1).val, by have h : (i 1).val < 512 := (i 1).isLt; omega⟩ := by
  refine (dats m 0 c).arrAt_eq_of_covers 3 _ (by decide +kernel) fun t hf y => ?_
  blk_simp
  rw [after0_3]
  frame_out
  refine (congrArg (k0_pay3 _ _ _) (eq_ix2 y)).trans ((out3 m c t (y 0) (y 1)).trans (congrArg₂ (entry m c) (Fin.ext ?_) (Fin.ext ?_)))
  · blk_simp [(idx t).2.2.2.1]
  · blk_simp [(idx t).2.2.2.1]

theorem out4 (c : Dev nD) (t : Fin cfg0.N) (r : Fin 1024) (l : Fin 512) :
    k0_pay4 (iblk m c 0 t) (iblk m c 1 t) (View.ld (iblk m c 2 t) r0_4) (ix2 r l) = entry m c ⟨t.val * 1024 + r.val, row_lt t r⟩ ⟨512 + l.val, by omega⟩ := by
  rw [pay4_apply, ← proj_blk]
  refine congrArg (proj _ _) (funext fun k => ?_)
  exact (slice_4 _ k _).trans (congrArg (iblk m c 2 t) (congrArg (ix2 k) (Fin.ext (by first | rfl | (simp only []; omega)))))

theorem arr4 (c : Dev nD) : (dats m 0 c).arrAt 4 cfg0.N = fun i : S32768x512.Idx => entry m c (i 0) ⟨512 + (i 1).val, by have h : (i 1).val < 512 := (i 1).isLt; omega⟩ := by
  refine (dats m 0 c).arrAt_eq_of_covers 4 _ (by decide +kernel) fun t hf y => ?_
  blk_simp
  rw [after0_4]
  frame_out
  refine (congrArg (k0_pay4 _ _ _) (eq_ix2 y)).trans ((out4 m c t (y 0) (y 1)).trans (congrArg₂ (entry m c) (Fin.ext ?_) (Fin.ext ?_)))
  · blk_simp [(idx t).2.2.2.2.1]
  · blk_simp [(idx t).2.2.2.2.1]

theorem out5 (c : Dev nD) (t : Fin cfg0.N) (r : Fin 1024) (l : Fin 128) :
    k0_pay6 (iblk m c 0 t) (iblk m c 1 t) (View.ld (iblk m c 2 t) r0_5) (ix2 r l) = entry m c ⟨t.val * 1024 + r.val, row_lt t r⟩ ⟨1024 + l.val, by omega⟩ := by
  rw [pay6_apply, ← proj_blk]
  refine congrArg (proj _ _) (funext fun k => ?_)
  exact (slice_5 _ k _).trans (congrArg (iblk m c 2 t) (congrArg (ix2 k) (Fin.ext (by first | rfl | (simp only []; omega)))))

theorem arr5 (c : Dev nD) : (dats m 0 c).arrAt 5 cfg0.N = fun i : S32768x128.Idx => entry m c (i 0) ⟨1024 + (i 1).val, by have h : (i 1).val < 128 := (i 1).isLt; omega⟩ := by
  refine (dats m 0 c).arrAt_eq_of_covers 5 _ (by decide +kernel) fun t hf y => ?_
  blk_simp
  rw [after0_5]
  frame_out
  refine (congrArg (k0_pay6 _ _ _) (eq_ix2 y)).trans ((out5 m c t (y 0) (y 1)).trans (congrArg₂ (entry m c) (Fin.ext ?_) (Fin.ext ?_)))
  · blk_simp [(idx t).2.2.2.2.2.1]
  · blk_simp [(idx t).2.2.2.2.2.1]

theorem out6 (c : Dev nD) (t : Fin cfg0.N) (r : Fin 1024) (l : Fin 128) :
    k0_pay7 (iblk m c 0 t) (iblk m c 1 t) (View.ld (iblk m c 2 t) r0_5) (ix2 r l) = entry m c ⟨t.val * 1024 + r.val, row_lt t r⟩ ⟨1152 + l.val, by omega⟩ := by
  rw [pay7_apply, ← proj_blk]
  refine congrArg (proj _ _) (funext fun k => ?_)
  exact (slice_5 _ k _).trans (congrArg (iblk m c 2 t) (congrArg (ix2 k) (Fin.ext (by first | rfl | (simp only []; omega)))))

theorem arr6 (c : Dev nD) : (dats m 0 c).arrAt 6 cfg0.N = fun i : S32768x128.Idx => entry m c (i 0) ⟨1152 + (i 1).val, by have h : (i 1).val < 128 := (i 1).isLt; omega⟩ := by
  refine (dats m 0 c).arrAt_eq_of_covers 6 _ (by decide +kernel) fun t hf y => ?_
  blk_simp
  rw [after0_6]
  frame_out
  refine (congrArg (k0_pay7 _ _ _) (eq_ix2 y)).trans ((out6 m c t (y 0) (y 1)).trans (congrArg₂ (entry m c) (Fin.ext ?_) (Fin.ext ?_)))
  · blk_simp [(idx t).2.2.2.2.2.2.1]
  · blk_simp [(idx t).2.2.2.2.2.2.1]

theorem out7 (c : Dev nD) (t : Fin cfg0.N) (r : Fin 1024) (l : Fin 2048) :
    k0_pay1 (k0_pay2 (iblk m c 0 t) (iblk m c 1 t)) (View.ld (iblk m c 2 t) r0_7) (ix2 r l) = entry m c ⟨t.val * 1024 + r.val, row_lt t r⟩ ⟨1280 + l.val, by omega⟩ := by
  rw [pay1_apply, ← proj_blk]
  refine congrArg (proj _ _) (funext fun k => ?_)
  exact (slice_7 _ k _).trans (congrArg (iblk m c 2 t) (congrArg (ix2 k) (Fin.ext (by first | rfl | (simp only []; omega)))))

theorem arr7 (c : Dev nD) : (dats m 0 c).arrAt 7 cfg0.N = fun i : S32768x2048.Idx => entry m c (i 0) ⟨1280 + (i 1).val, by have h : (i 1).val < 2048 := (i 1).isLt; omega⟩ := by
  refine (dats m 0 c).arrAt_eq_of_covers 7 _ (by decide +kernel) fun t hf y => ?_
  blk_simp
  rw [after0_7]
  frame_out
  refine (congrArg (k0_pay1 _ _) (eq_ix2 y)).trans ((out7 m c t (y 0) (y 1)).trans (congrArg₂ (entry m c) (Fin.ext ?_) (Fin.ext ?_)))
  · blk_simp [(idx t).2.2.2.2.2.2.2]
  · blk_simp [(idx t).2.2.2.2.2.2.2]

end Cert.InIdeal.Rows
end
-- ==== Proof.InRef.lean ====
module

public import proofs.«01_k».proof.Proof.Gen.InRefIdeal.Run
public import proofs.«01_k».proof.Proof.InValue

/-! The reference's input projection, entry by entry: the same row product as the kernel's. -/

@[expose] public section

set_option maxRecDepth 16384

noncomputable section

namespace Cert.InRefIdeal.Rows

open Cert.InRefIdeal Cert.InRefIdeal.Gen Idealize.ShloMosaic Idealize.ShloMosaic.TcCoe Idealize.SL.Sem

variable (x : FVec Ideal S8x4096x1024 .f32) (g : FVec Ideal S1x1024 .f32) (w : FVec Ideal S1x1024x3328 .f32)

/-- The whole projection of the tokens, all columns: the reference's own text. -/
def whole : FVec Ideal S8x4096x3328 .f32 :=
  Host.dotGeneral dot_S8x4096x1024_S1024x3328_S8x4096x3328_2_0_01_1_n_n none (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast S1024 g shapeCasts_S1x1024_S1024)))) ((shapeCast S1024x3328 w shapeCasts_S1x1024x3328_S1024x3328 : FVec Ideal S1024x3328 .f32))

theorem res21 (r : Fin 32768) (l : Fin 512) :
    shapeCast S32768x512 (extractStridedSlice S8x4096x512 ![0, 0, 0] (whole x g w) slices_S8x4096x3328_S8x4096x512_0_0_0) shapeCasts_S8x4096x512_S32768x512 (ix2 r l)
      = Cert.InIdeal.Rows.proj (fun k => x (ix3 ⟨r.val / 4096, by omega⟩ ⟨r.val % 4096, by omega⟩ k)) (fun k => g (ix2 0 k)) (fun k => w (ix3 0 k ⟨0 + l.val, by omega⟩)) := by
  pointwise [whole, Cert.InIdeal.Rows.proj]

theorem res22 (r : Fin 32768) (l : Fin 512) :
    shapeCast S32768x512 (extractStridedSlice S8x4096x512 ![0, 0, 512] (whole x g w) slices_S8x4096x3328_S8x4096x512_0_0_512) shapeCasts_S8x4096x512_S32768x512 (ix2 r l)
      = Cert.InIdeal.Rows.proj (fun k => x (ix3 ⟨r.val / 4096, by omega⟩ ⟨r.val % 4096, by omega⟩ k)) (fun k => g (ix2 0 k)) (fun k => w (ix3 0 k ⟨512 + l.val, by omega⟩)) := by
  pointwise [whole, Cert.InIdeal.Rows.proj]

theorem res23 (r : Fin 32768) (l : Fin 128) :
    shapeCast S32768x128 (extractStridedSlice S8x4096x128 ![0, 0, 1024] (whole x g w) slices_S8x4096x3328_S8x4096x128_0_0_1024) shapeCasts_S8x4096x128_S32768x128 (ix2 r l)
      = Cert.InIdeal.Rows.proj (fun k => x (ix3 ⟨r.val / 4096, by omega⟩ ⟨r.val % 4096, by omega⟩ k)) (fun k => g (ix2 0 k)) (fun k => w (ix3 0 k ⟨1024 + l.val, by omega⟩)) := by
  pointwise [whole, Cert.InIdeal.Rows.proj]

theorem res24 (r : Fin 32768) (l : Fin 128) :
    shapeCast S32768x128 (extractStridedSlice S8x4096x128 ![0, 0, 1152] (whole x g w) slices_S8x4096x3328_S8x4096x128_0_0_1152) shapeCasts_S8x4096x128_S32768x128 (ix2 r l)
      = Cert.InIdeal.Rows.proj (fun k => x (ix3 ⟨r.val / 4096, by omega⟩ ⟨r.val % 4096, by omega⟩ k)) (fun k => g (ix2 0 k)) (fun k => w (ix3 0 k ⟨1152 + l.val, by omega⟩)) := by
  pointwise [whole, Cert.InIdeal.Rows.proj]

theorem res25 (r : Fin 32768) (l : Fin 2048) :
    shapeCast S32768x2048 (extractStridedSlice S8x4096x2048 ![0, 0, 1280] (whole x g w) slices_S8x4096x3328_S8x4096x2048_0_0_1280) shapeCasts_S8x4096x2048_S32768x2048 (ix2 r l)
      = Cert.InIdeal.Rows.proj (fun k => x (ix3 ⟨r.val / 4096, by omega⟩ ⟨r.val % 4096, by omega⟩ k)) (fun k => g (ix2 0 k)) (fun k => w (ix3 0 k ⟨1280 + l.val, by omega⟩)) := by
  pointwise [whole, Cert.InIdeal.Rows.proj]

end Cert.InRefIdeal.Rows
end
-- ==== Proof.InClaim.lean ====
module

public import proofs.«01_k».proof.Defs
public import proofs.«01_k».proof.Proof.Gen.In.Frame
public import proofs.«01_k».proof.Proof.InRef
public import Idealize.ShloMosaic.Lib.Quiescent

/-! The input projection's claims: the kernel's five results are the reference's. -/

@[expose] public section

set_option maxRecDepth 16384

noncomputable section

namespace Cert.InIdeal.Rows

open Idealize.ShloMosaic Idealize.ShloMosaic.TcCoe Idealize.SL.Sem

theorem frame_reference : Cert.quiescent_InRefIdeal := fun m ρ _ =>
  (θ_run (Cert.InRefIdeal.defs (F := Ideal)) _ _).mono (fun r h => ⟨fun c => (h c).2.2.2.2.2, sem_eq_zero_of_no_sems (by decide) r.2⟩) (Cert.InRefIdeal.Value.run (F := Ideal) m ρ)

theorem algebraic : Cert.algebraic_InIdeal_InRefIdeal := by
  intro m g m' g' _ hagree
  refine ⟨_, _, _, _, _, Cert.InIdeal.Value.run_blocks m g, (θ_run (Cert.InRefIdeal.defs (F := Ideal)) _ _).mono (fun r h c => ?_) (Cert.InRefIdeal.Value.run (F := Ideal) m' g')⟩
  obtain ⟨h1, h2, h3, h4, h5, ha⟩ := h c
  obtain ⟨e0, e1, e2⟩ := hagree c
  refine ⟨h1.trans ?_, h2.trans ?_, h3.trans ?_, h4.trans ?_, h5.trans ?_, ha⟩
  · refine (funext fun i => ?_ : _ = _).trans (arr3 m c).symm
    rw [e0, e1, e2]
    exact (congrArg _ (eq_ix2 i)).trans (Cert.InRefIdeal.Rows.res21 _ _ _ (i 0) (i 1))
  · refine (funext fun i => ?_ : _ = _).trans (arr4 m c).symm
    rw [e0, e1, e2]
    exact (congrArg _ (eq_ix2 i)).trans (Cert.InRefIdeal.Rows.res22 _ _ _ (i 0) (i 1))
  · refine (funext fun i => ?_ : _ = _).trans (arr5 m c).symm
    rw [e0, e1, e2]
    exact (congrArg _ (eq_ix2 i)).trans (Cert.InRefIdeal.Rows.res23 _ _ _ (i 0) (i 1))
  · refine (funext fun i => ?_ : _ = _).trans (arr6 m c).symm
    rw [e0, e1, e2]
    exact (congrArg _ (eq_ix2 i)).trans (Cert.InRefIdeal.Rows.res24 _ _ _ (i 0) (i 1))
  · refine (funext fun i => ?_ : _ = _).trans (arr7 m c).symm
    rw [e0, e1, e2]
    exact (congrArg _ (eq_ix2 i)).trans (Cert.InRefIdeal.Rows.res25 _ _ _ (i 0) (i 1))

end Cert.InIdeal.Rows
end
-- ==== Proof.FfnChunk.lean ====
module

public import proofs.«01_k».proof.Proof.Gen.FfnIdeal.Value
public import Idealize.ShloMosaic.Lib.Pointwise

/-! One chunk of the feed-forward block, in the kernel's text and as a formula.

A chunk takes 256 gate columns and the 256 value columns that belong to them, runs the three-tap convolution over both
(`conv`: the row itself, the one above and the one two above, the buffer carrying eight rows on top), multiplies the
activated gate by the value and adds the product with 256 rows of the down projection to the rows so far. The printed
kernel cuts the eleven chunks into values at different places; each lemma says that its cut is this chunk. -/

@[expose] public section

set_option maxRecDepth 16384

noncomputable section

namespace Cert.FfnIdeal.Rows

open Cert.FfnIdeal Cert.FfnIdeal.Gen Idealize.ShloMosaic Idealize.ShloMosaic.TcCoe Idealize.SL.Sem

/-- The three-tap convolution of column `k` at row `r` of the tile. -/
def conv (e : Vec Ideal S520x256 .f32) (a0 a1 a2 b : Vec Ideal S1x256 .f32) (r : Fin 512) (k : Fin 256) : EReal :=
  e (ix2 ⟨6 + r.val, by omega⟩ k) * a0 (ix2 0 k) + e (ix2 ⟨7 + r.val, by omega⟩ k) * a1 (ix2 0 k)
    + e (ix2 ⟨8 + r.val, by omega⟩ k) * a2 (ix2 0 k) + b (ix2 0 k)

/-- The rows so far, with one chunk's share of the down projection added. -/
def chunk (y : FVec Ideal S512x1024 .f32) (e0 e1 : Vec Ideal S520x256 .f32) (a0 a1 a2 b0 c0 c1 c2 b1 : Vec Ideal S1x256 .f32)
    (w : Vec Ideal S256x1024 .bf16) : FVec Ideal S512x1024 .f32 := fun i =>
  y i + ∑ k : Fin 256, conv e0 a0 a1 a2 b0 (i 0) k * (1 + Ideal.tanh (conv e0 a0 a1 a2 b0 (i 0) k)) * conv e1 c0 c1 c2 b1 (i 0) k * w (ix2 k (i 1))

/-- Rows divided by their root mean square and scaled. -/
def normed (y : FVec Ideal S512x1024 .f32) (g : Vec Ideal S1x1024 .f32) : FVec Ideal S512x1024 .f32 := fun i =>
  y i * Ideal.rsqrt (Ideal.div (∑ j : Fin 1024, y (ix2 (i 0) j) * y (ix2 (i 0) j)) (Ideal.ofBits .f32 0x44800000#32) + Ideal.ofBits .f32 0x358637BD#32) * g (ix2 0 (i 1))

variable (y : FVec Ideal S512x1024 .f32) (e0 e1 : Vec Ideal S520x256 .f32) (a0 a1 a2 b0 c0 c1 c2 b1 : Vec Ideal S1x256 .f32)
  (w : Vec Ideal S256x1024 .bf16) (x6 : Vec Ideal S1x1024 .f32)

/-- Rolled down by two rows and cut below the eight carried rows, the buffer reads two rows up. -/
theorem two_up (r : Fin 512) (h) : (⟨(8 + r.val + 520 - 2) % 520, h⟩ : Fin 520) = ⟨6 + r.val, by omega⟩ := Fin.ext (by show (8 + r.val + 520 - 2) % 520 = 6 + r.val; omega)
theorem one_up (r : Fin 512) (h) : (⟨(8 + r.val + 520 - 1) % 520, h⟩ : Fin 520) = ⟨7 + r.val, by omega⟩ := Fin.ext (by show (8 + r.val + 520 - 1) % 520 = 7 + r.val; omega)

theorem chunk_0 : k0_pay12 (k0_pay4 y) (k0_pay9 (k0_pay6 e0) (k0_pay7 e0) (k0_pay8 e0 a0) a1 a2 b0) (k0_pay10 e1 c0 c1 c2) (k0_pay11 b1) w
    = chunk y e0 e1 a0 a1 a2 b0 c0 c1 c2 b1 w := by
  funext i
  obtain ⟨r, l, rfl⟩ : ∃ (r : Fin 512) (l : Fin 1024), i = ix2 r l := ⟨_, _, eq_ix2 i⟩
  pointwise [k0_pay4, k0_pay6, k0_pay7, k0_pay8, k0_pay9, k0_pay10, k0_pay11, k0_pay12, chunk, conv]
  simp only [two_up, one_up]

theorem chunk_1 : k0_pay16 y (k0_pay13 e0 a0 a1 a2 b0) e1 (k0_pay14 e1) (k0_pay15 e1) c0 c1 c2 b1 w
    = chunk y e0 e1 a0 a1 a2 b0 c0 c1 c2 b1 w := by
  funext i
  obtain ⟨r, l, rfl⟩ : ∃ (r : Fin 512) (l : Fin 1024), i = ix2 r l := ⟨_, _, eq_ix2 i⟩
  pointwise [k0_pay13, k0_pay14, k0_pay15, k0_pay16, chunk, conv]
  simp only [two_up, one_up]

theorem chunk_2 : k0_pay21 y (k0_pay19 (k0_pay17 e0) (k0_pay18 e0 a0 a1) a2 b0 e1 c0 c1 c2 b1) (k0_pay20 w) (constant S512x1024 .f32 0#32)
    = chunk y e0 e1 a0 a1 a2 b0 c0 c1 c2 b1 w := by
  funext i
  obtain ⟨r, l, rfl⟩ : ∃ (r : Fin 512) (l : Fin 1024), i = ix2 r l := ⟨_, _, eq_ix2 i⟩
  pointwise [k0_pay17, k0_pay18, k0_pay19, k0_pay20, k0_pay21, chunk, conv]
  simp only [two_up, one_up]

theorem chunk_3 : k0_pay26 y (k0_pay22 e0 a0 a1 a2 b0) (k0_pay23 e1) (k0_pay24 e1) (k0_pay25 e1 c0) c1 c2 b1 w
    = chunk y e0 e1 a0 a1 a2 b0 c0 c1 c2 b1 w := by
  funext i
  obtain ⟨r, l, rfl⟩ : ∃ (r : Fin 512) (l : Fin 1024), i = ix2 r l := ⟨_, _, eq_ix2 i⟩
  pointwise [k0_pay22, k0_pay23, k0_pay24, k0_pay25, k0_pay26, chunk, conv]
  simp only [two_up, one_up]

theorem chunk_4 : k0_pay28 y (k0_pay27 e0 a0 a1 a2) b0 e1 c0 c1 c2 b1 w
    = chunk y e0 e1 a0 a1 a2 b0 c0 c1 c2 b1 w := by
  funext i
  obtain ⟨r, l, rfl⟩ : ∃ (r : Fin 512) (l : Fin 1024), i = ix2 r l := ⟨_, _, eq_ix2 i⟩
  pointwise [k0_pay27, k0_pay28, chunk, conv]
  simp only [two_up, one_up]

theorem chunk_5 : k0_pay33 y (k0_pay30 e0 (k0_pay29 e0) a0 a1 a2 b0) (k0_pay31 e1) (k0_pay32 e1 c0 c1) c2 b1 w
    = chunk y e0 e1 a0 a1 a2 b0 c0 c1 c2 b1 w := by
  funext i
  obtain ⟨r, l, rfl⟩ : ∃ (r : Fin 512) (l : Fin 1024), i = ix2 r l := ⟨_, _, eq_ix2 i⟩
  pointwise [k0_pay29, k0_pay30, k0_pay31, k0_pay32, k0_pay33, chunk, conv]
  simp only [two_up, one_up]

theorem chunk_6 : k0_pay36 y (k0_pay34 e0 a0 a1 a2 b0) (k0_pay35 e0 a0 a1 a2 b0) e1 c0 c1 c2 b1 w
    = chunk y e0 e1 a0 a1 a2 b0 c0 c1 c2 b1 w := by
  funext i
  obtain ⟨r, l, rfl⟩ : ∃ (r : Fin 512) (l : Fin 1024), i = ix2 r l := ⟨_, _, eq_ix2 i⟩
  pointwise [k0_pay34, k0_pay35, k0_pay36, chunk, conv]
  simp only [two_up, one_up]

theorem chunk_7 : k0_pay43 y (k0_pay41 (k0_pay37 e0) (k0_pay38 e0) (k0_pay39 e0) (k0_pay40 a0) a1 a2 b0) (k0_pay42 e1 c0 c1 c2) b1 w
    = chunk y e0 e1 a0 a1 a2 b0 c0 c1 c2 b1 w := by
  funext i
  obtain ⟨r, l, rfl⟩ : ∃ (r : Fin 512) (l : Fin 1024), i = ix2 r l := ⟨_, _, eq_ix2 i⟩
  pointwise [k0_pay37, k0_pay38, k0_pay39, k0_pay40, k0_pay41, k0_pay42, k0_pay43, chunk, conv]
  simp only [two_up, one_up]

theorem chunk_8 : k0_pay46 y (k0_pay44 e0 a0 a1 a2 b0) e1 (k0_pay45 e1) (1#32) c0 c1 c2 b1 w
    = chunk y e0 e1 a0 a1 a2 b0 c0 c1 c2 b1 w := by
  funext i
  obtain ⟨r, l, rfl⟩ : ∃ (r : Fin 512) (l : Fin 1024), i = ix2 r l := ⟨_, _, eq_ix2 i⟩
  pointwise [k0_pay44, k0_pay45, k0_pay46, chunk, conv]
  simp only [two_up, one_up]

theorem chunk_9 : k0_pay51 y (k0_pay50 (k0_pay47 e0) (k0_pay48 e0 a0) (k0_pay49 e0 a1) a2 b0 e1 c0 c1 c2 b1) w
    = chunk y e0 e1 a0 a1 a2 b0 c0 c1 c2 b1 w := by
  funext i
  obtain ⟨r, l, rfl⟩ : ∃ (r : Fin 512) (l : Fin 1024), i = ix2 r l := ⟨_, _, eq_ix2 i⟩
  pointwise [k0_pay47, k0_pay48, k0_pay49, k0_pay50, k0_pay51, chunk, conv]
  simp only [two_up, one_up]

theorem chunk_10 : k0_pay57 y (k0_pay52 e0 a0 a1 a2 b0) (k0_pay53 e1) (k0_pay54 e1) (k0_pay55 e1) (k0_pay56 c0) c1 c2 b1 w x6
    = normed (chunk y e0 e1 a0 a1 a2 b0 c0 c1 c2 b1 w) x6 := by
  funext i
  obtain ⟨r, l, rfl⟩ : ∃ (r : Fin 512) (l : Fin 1024), i = ix2 r l := ⟨_, _, eq_ix2 i⟩
  pointwise [k0_pay52, k0_pay53, k0_pay54, k0_pay55, k0_pay56, k0_pay57, normed, chunk, conv]
  simp only [two_up, one_up]

end Cert.FfnIdeal.Rows
end
-- ==== Proof.FfnTile.lean ====
module

public import proofs.«01_k».proof.Proof.FfnChunk
public import Idealize.ShloMosaic.Lib.Pipeline.ValueKit
public import Idealize.ShloMosaic.Lib.Pipeline.ReadBack

/-! A tile of the feed-forward block: what the body stores, as a formula of the buffer of up-projected rows.

The buffer holds the tile's 512 up-projected rows below eight rows carried over from the tile before (`ext`); only the
last two of the eight are read. The eleven chunks together are one sum over the 2816 gate columns (`tile`). -/

@[expose] public section

set_option maxRecDepth 16384

noncomputable section

namespace Cert.FfnIdeal.Rows

open Cert.FfnIdeal Cert.FfnIdeal.Gen Idealize.ShloMosaic Idealize.ShloMosaic.TcCoe Idealize.SL.Sem

/-- The three-tap convolution of column `f` at row `r` of the tile. -/
def taps (E : Vec Ideal S520x5632 .f32) (cw : Vec Ideal S3x5632 .f32) (cb : Vec Ideal S1x5632 .f32) (r : Fin 512) (f : Fin 5632) : EReal :=
  E (ix2 ⟨6 + r.val, by omega⟩ f) * cw (ix2 0 f) + E (ix2 ⟨7 + r.val, by omega⟩ f) * cw (ix2 1 f)
    + E (ix2 ⟨8 + r.val, by omega⟩ f) * cw (ix2 2 f) + cb (ix2 0 f)

/-- What gate column `f` adds to entry `l` of row `r`. -/
def share (E : Vec Ideal S520x5632 .f32) (cw : Vec Ideal S3x5632 .f32) (cb : Vec Ideal S1x5632 .f32) (wd : Vec Ideal S2816x1024 .bf16)
    (r : Fin 512) (l : Fin 1024) (f : Fin 2816) : EReal :=
  taps E cw cb r ⟨f.val, by omega⟩ * (1 + Ideal.tanh (taps E cw cb r ⟨f.val, by omega⟩)) * taps E cw cb r ⟨2816 + f.val, by omega⟩ * wd (ix2 f l)

/-- The rows a tile stores. -/
def tile (E : Vec Ideal S520x5632 .f32) (x : Vec Ideal S512x1024 .f32) (cw : Vec Ideal S3x5632 .f32) (cb : Vec Ideal S1x5632 .f32)
    (wd : Vec Ideal S2816x1024 .bf16) (g : Vec Ideal S1x1024 .f32) : FVec Ideal S512x1024 .f32 :=
  normed (fun i => x i + ∑ f : Fin 2816, share E cw cb wd (i 0) (i 1) f) g

variable (E : Vec Ideal S520x5632 .f32) (cw : Vec Ideal S3x5632 .f32) (cb : Vec Ideal S1x5632 .f32) (wd : Vec Ideal S2816x1024 .bf16)

theorem ld_E (o : ℕ) (ho : o + 256 ≤ 5632) (inb) (p : Fin 520) (k : Fin 256) :
    View.ld E (Rect.unit ![0, o] ![520, 256] inb) (ix2 p k) = E (ix2 p ⟨o + k.val, by omega⟩) := by
  refine congrArg E (funext fun a => Fin.ext ?_)
  match a with
  | ⟨0, _⟩ => exact (Rect.idx_unit_val ..).trans (Nat.zero_add _)
  | ⟨1, _⟩ => exact Rect.idx_unit_val ..

theorem ld_cw (q : Fin 3) (o : ℕ) (ho : o + 256 ≤ 5632) (inb) (k : Fin 256) :
    View.ld cw (Rect.unit ![q.val, o] ![1, 256] inb) (ix2 0 k) = cw (ix2 q ⟨o + k.val, by omega⟩) := by
  refine congrArg cw (funext fun a => Fin.ext ?_)
  match a with
  | ⟨0, _⟩ => exact Rect.idx_unit_val ..
  | ⟨1, _⟩ => exact Rect.idx_unit_val ..

theorem ld_cb (o : ℕ) (ho : o + 256 ≤ 5632) (inb) (k : Fin 256) :
    View.ld cb (Rect.unit ![0, o] ![1, 256] inb) (ix2 0 k) = cb (ix2 0 ⟨o + k.val, by omega⟩) := by
  refine congrArg cb (funext fun a => Fin.ext ?_)
  match a with
  | ⟨0, _⟩ => exact Rect.idx_unit_val ..
  | ⟨1, _⟩ => exact Rect.idx_unit_val ..

theorem ld_wd (o : ℕ) (ho : o + 256 ≤ 2816) (inb) (k : Fin 256) (l : Fin 1024) :
    View.ld wd (Rect.unit ![o, 0] ![256, 1024] inb) (ix2 k l) = wd (ix2 ⟨o + k.val, by omega⟩ l) := by
  refine congrArg wd (funext fun a => Fin.ext ?_)
  match a with
  | ⟨0, _⟩ => exact Rect.idx_unit_val ..
  | ⟨1, _⟩ => exact (Rect.idx_unit_val ..).trans (Nat.zero_add _)

theorem conv_ld (o : ℕ) (ho : o + 256 ≤ 5632) (i0 i1 i2 i3 i4) (r : Fin 512) (k : Fin 256) :
    conv (View.ld E (Rect.unit ![0, o] ![520, 256] i0)) (View.ld cw (Rect.unit ![0, o] ![1, 256] i1)) (View.ld cw (Rect.unit ![1, o] ![1, 256] i2))
      (View.ld cw (Rect.unit ![2, o] ![1, 256] i3)) (View.ld cb (Rect.unit ![0, o] ![1, 256] i4)) r k = taps E cw cb r ⟨o + k.val, by omega⟩ := by
  refine congrArg₂ (· + ·) (congrArg₂ (· + ·) (congrArg₂ (· + ·) (congrArg₂ (· * ·) ?_ ?_) (congrArg₂ (· * ·) ?_ ?_)) (congrArg₂ (· * ·) ?_ ?_)) ?_
  · exact ld_E E o ho _ _ _
  · exact ld_cw cw 0 o ho _ _
  · exact ld_E E o ho _ _ _
  · exact ld_cw cw 1 o ho _ _
  · exact ld_E E o ho _ _ _
  · exact ld_cw cw 2 o ho _ _
  · exact ld_cb cb o ho _ _

/-- A chunk over the columns from `o` on adds those columns' shares. -/
theorem chunk_ld (o p : ℕ) (ho : o + 256 ≤ 2816) (hp : p = 2816 + o) (y : FVec Ideal S512x1024 .f32) (i0 j0 i1 i2 i3 i4 j1 j2 j3 j4 iw) :
    chunk y (View.ld E (Rect.unit ![0, o] ![520, 256] i0)) (View.ld E (Rect.unit ![0, p] ![520, 256] j0))
      (View.ld cw (Rect.unit ![0, o] ![1, 256] i1)) (View.ld cw (Rect.unit ![1, o] ![1, 256] i2)) (View.ld cw (Rect.unit ![2, o] ![1, 256] i3))
      (View.ld cb (Rect.unit ![0, o] ![1, 256] i4))
      (View.ld cw (Rect.unit ![0, p] ![1, 256] j1)) (View.ld cw (Rect.unit ![1, p] ![1, 256] j2)) (View.ld cw (Rect.unit ![2, p] ![1, 256] j3))
      (View.ld cb (Rect.unit ![0, p] ![1, 256] j4)) (View.ld wd (Rect.unit ![o, 0] ![256, 1024] iw))
      = fun i => y i + ∑ k : Fin 256, share E cw cb wd (i 0) (i 1) ⟨o + k.val, by omega⟩ := by
  subst hp
  funext i
  refine congrArg (y i + ·) (Finset.sum_congr rfl fun k _ => ?_)
  have hg := conv_ld E cw cb o (by omega) i0 i1 i2 i3 i4 (i 0) k
  have hv := conv_ld E cw cb (2816 + o) (by omega) j0 j1 j2 j3 j4 (i 0) k
  refine congrArg₂ (· * ·) (congrArg₂ (· * ·) (congrArg (fun a => a * (1 + Ideal.tanh a)) hg) (hv.trans (congrArg (taps E cw cb (i 0)) (Fin.ext ?_)))) (ld_wd wd o ho _ _ _)
  show 2816 + o + k.val = 2816 + (o + k.val)
  omega

/-- Eleven runs of 256 columns are the 2816 columns. -/
theorem eleven (a : EReal) (s : Fin 2816 → EReal) :
    a + ∑ k : Fin 256, s ⟨0 + k.val, by omega⟩ + ∑ k : Fin 256, s ⟨256 + k.val, by omega⟩ + ∑ k : Fin 256, s ⟨512 + k.val, by omega⟩
      + ∑ k : Fin 256, s ⟨768 + k.val, by omega⟩ + ∑ k : Fin 256, s ⟨1024 + k.val, by omega⟩ + ∑ k : Fin 256, s ⟨1280 + k.val, by omega⟩
      + ∑ k : Fin 256, s ⟨1536 + k.val, by omega⟩ + ∑ k : Fin 256, s ⟨1792 + k.val, by omega⟩ + ∑ k : Fin 256, s ⟨2048 + k.val, by omega⟩
      + ∑ k : Fin 256, s ⟨2304 + k.val, by omega⟩ + ∑ k : Fin 256, s ⟨2560 + k.val, by omega⟩ = a + ∑ f : Fin 2816, s f := by
  have h (g : Fin 11 → EReal) : ∑ s, g s = g 0 + g 1 + g 2 + g 3 + g 4 + g 5 + g 6 + g 7 + g 8 + g 9 + g 10 := by
    simp only [Fin.sum_univ_castSucc, Fin.sum_univ_zero, zero_add]
    rfl
  rw [show ∑ f : Fin 2816, s f = _ from (Fin.sum_mul_add_fin 11 256 s).symm.trans (h _)]
  simp only [← add_assoc]
  rfl

/-! ## The buffer -/

/-- Eight rows on top of 512. -/
def ext (z : Vec Ideal S8x5632 .f32) (up : Vec Ideal S512x5632 .f32) : Vec Ideal S520x5632 .f32 := fun y =>
  if h : (y 0).val < 8 then z (ix2 ⟨(y 0).val, h⟩ (y 1)) else up (ix2 ⟨(y 0).val - 8, by have : (y 0).val < 520 := (y 0).isLt; omega⟩ (y 1))

variable (z : Vec Ideal S8x5632 .f32) (up : Vec Ideal S512x5632 .f32)

theorem ext_up (r : Fin 512) (f : Fin 5632) (h) : ext z up (ix2 ⟨8 + r.val, h⟩ f) = up (ix2 r f) := by
  unfold ext
  rw [dif_neg (by simp only [ix2_0]; omega)]
  exact congrArg up (congrArg₂ ix2 (Fin.ext (by simp only [ix2_0]; omega)) rfl)

theorem ext_top (p : Fin 520) (hp : p.val < 8) (f : Fin 5632) : ext z up (ix2 p f) = z (ix2 ⟨p.val, hp⟩ f) := dif_pos hp

/-- The rows stored below the carried ones. -/
theorem pieces_up (L : List (View.Piece (Elt Ideal) S520x5632 .f32)) (inb) (r : Fin 512) (f : Fin 5632) (h) :
    View.canon ((⟨Rect.unit ![8, 0] ![512, 5632] inb, up⟩ : View.Piece (Elt Ideal) S520x5632 .f32) :: L) (ix2 ⟨8 + r.val, h⟩ f) = up (ix2 r f) := by
  refine (congrArg _ (funext fun a => Fin.ext ?_)).trans (View.canon_cons_emb (Val := Elt Ideal) (Rect.unit (s := S520x5632) ![8, 0] ![512, 5632] inb) up L (ix2 r f))
  match a with
  | ⟨0, _⟩ => exact (Rect.idx_unit_val (s := S520x5632) ![8, 0] ![512, 5632] inb (ix2 r f) 0).symm
  | ⟨1, _⟩ => exact ((Rect.idx_unit_val (s := S520x5632) ![8, 0] ![512, 5632] inb (ix2 r f) 1).trans (Nat.zero_add _)).symm

end Cert.FfnIdeal.Rows
end
-- ==== Proof.FfnBuf.lean ====
module

public import proofs.«01_k».proof.Proof.FfnTile

/-! What the buffer of up-projected rows holds at each tile, and what a tile stores from it. -/

@[expose] public section

set_option maxRecDepth 16384

noncomputable section

namespace Cert.FfnIdeal.Rows

open Cert.FfnIdeal Cert.FfnIdeal.Gen Idealize.ShloMosaic Idealize.ShloMosaic.TcCoe Idealize.SL.Sem
open Idealize.ShloMosaic.Pipeline (Dat)

section Buffer

variable (z : Vec Ideal S8x5632 .f32) (up : Vec Ideal S512x5632 .f32) (X : Vec Ideal S520x5632 .f32)

/-- An index of the buffer is among the eight carried rows or among the tile's. -/
theorem rows_cases (y : S520x5632.Idx) : (∃ (p : Fin 8) (f : Fin 5632), y = ix2 ⟨p.val, by omega⟩ f)
    ∨ ∃ (r : Fin 512) (f : Fin 5632), y = ix2 ⟨8 + r.val, by omega⟩ f := by
  have h : (y 0).val < 520 := (y 0).isLt
  by_cases h8 : (y 0).val < 8
  · exact .inl ⟨⟨(y 0).val, h8⟩, y 1, eq_ix2 y⟩
  · refine .inr ⟨⟨(y 0).val - 8, by omega⟩, y 1, (eq_ix2 y).trans (congrArg₂ ix2 (Fin.ext ?_) rfl)⟩
    show (y 0).val = 8 + ((y 0).val - 8)
    omega

theorem up_emb (inb) (r : Fin 512) (f : Fin 5632) :
    (Rect.unit (s := S520x5632) ![8, 0] ![512, 5632] inb).emb (ix2 r f) = (ix2 ⟨8 + r.val, by omega⟩ f : S520x5632.Idx) := by
  refine funext fun a => Fin.ext ?_
  match a with
  | ⟨0, _⟩ => exact Rect.idx_unit_val (s := S520x5632) ![8, 0] ![512, 5632] inb (ix2 r f) 0
  | ⟨1, _⟩ => exact (Rect.idx_unit_val (s := S520x5632) ![8, 0] ![512, 5632] inb (ix2 r f) 1).trans (Nat.zero_add _)

theorem top_emb (inb) (p : Fin 8) (f : Fin 5632) :
    (Rect.unit (s := S520x5632) ![0, 0] ![8, 5632] inb).emb (ix2 p f) = (ix2 ⟨p.val, by omega⟩ f : S520x5632.Idx) := by
  refine funext fun a => Fin.ext ?_
  match a with
  | ⟨0, _⟩ => exact (Rect.idx_unit_val (s := S520x5632) ![0, 0] ![8, 5632] inb (ix2 p f) 0).trans (Nat.zero_add _)
  | ⟨1, _⟩ => exact (Rect.idx_unit_val (s := S520x5632) ![0, 0] ![8, 5632] inb (ix2 p f) 1).trans (Nat.zero_add _)

theorem top_not_mem (inb) (p : Fin 8) (f : Fin 5632) (h) :
    (ix2 ⟨p.val, h⟩ f : S520x5632.Idx) ∉ (Rect.unit (s := S520x5632) ![8, 0] ![512, 5632] inb).set :=
  Rect.not_mem_set_of_axis _ _ 0 8 512 rfl rfl rfl (.inl p.isLt)

theorem canon_hit {r : Rect S520x5632} {w : Vec Ideal r.shape .f32} {L : List (View.Piece (Elt Ideal) S520x5632 .f32)} {x : r.shape.Idx}
    {y : S520x5632.Idx} (h : r.emb x = y) : View.canon ((⟨r, w⟩ : View.Piece (Elt Ideal) S520x5632 .f32) :: L) y = w x := by
  subst h
  exact View.canon_cons_emb (Val := Elt Ideal) r w L x

theorem canon_miss {r : Rect S520x5632} {w : Vec Ideal r.shape .f32} {L : List (View.Piece (Elt Ideal) S520x5632 .f32)}
    {y : S520x5632.Idx} (h : y ∉ r.set) : View.canon ((⟨r, w⟩ : View.Piece (Elt Ideal) S520x5632 .f32) :: L) y = View.canon L y :=
  View.canon_cons_of_not_mem (Val := Elt Ideal) ⟨r, w⟩ L h

theorem read_miss {r : Rect S520x5632} {w : Vec Ideal r.shape .f32} {f : (View.whole cc0_scratch0).ty.Contents (Elt Ideal)}
    {y : S520x5632.Idx} (h : y ∉ r.set) : View.read (Elt Ideal) (View.whole cc0_scratch0) ((View.whole cc0_scratch0).writes (Elt Ideal) f
      [(⟨r, w⟩ : View.Piece (Elt Ideal) S520x5632 .f32)]) y = View.read (Elt Ideal) (View.whole cc0_scratch0) f y :=
  View.read_writes_cons_miss (View.whole cc0_scratch0) f ⟨r, w⟩ [] y h

theorem read_hit {r : Rect S520x5632} {w : Vec Ideal r.shape .f32} {f : (View.whole cc0_scratch0).ty.Contents (Elt Ideal)} {x : r.shape.Idx}
    {y : S520x5632.Idx} (h : r.emb x = y) : View.read (Elt Ideal) (View.whole cc0_scratch0) ((View.whole cc0_scratch0).writes (Elt Ideal) f
      [(⟨r, w⟩ : View.Piece (Elt Ideal) S520x5632 .f32)]) y = w x :=
  View.read_writes_cons_hit (View.whole cc0_scratch0) f r w [] x y h

/-- The buffer of a batch's first tile: zeros on top of the tile's rows. -/
theorem first_buffer (inb inb') :
    View.canon [(⟨Rect.unit ![8, 0] ![512, 5632] inb, up⟩ : View.Piece (Elt Ideal) S520x5632 .f32), ⟨Rect.unit ![0, 0] ![8, 5632] inb', z⟩] = ext z up := by
  funext y
  obtain ⟨p, f, rfl⟩ | ⟨r, f, rfl⟩ := rows_cases y
  · rw [ext_top z up _ p.isLt f]
    refine Eq.trans (canon_miss (top_not_mem inb p f _)) ?_
    exact canon_hit (top_emb inb' p f)
  · rw [ext_up z up r f _]
    exact canon_hit (up_emb inb r f)

/-- A load from what was stored. -/
theorem readCov_ld {sh : Shape} {e : EltTy} (v : View sig .tc .vmem sh e) (L : List (View.Piece (Elt Ideal) sh e)) (r : Rect sh) :
    v.readCov (Val := Elt Ideal) L r.toLoadRect = View.ld (View.canon L) r := View.readCov_eq_canon' v L r.toLoadRect

theorem pay2_apply (w : Vec Ideal S8x5632 .f32) (p : Fin 8) (f : Fin 5632) : k0_pay2 w (ix2 p f) = w (ix2 p f) := by
  pointwise [k0_pay2]

theorem pay1_apply (w : Vec Ideal S2x5632 .f32) (q : Fin 2) (f : Fin 5632) : k0_pay1 w (ix3 0 q f) = w (ix2 q f) := by
  pointwise [k0_pay1]

/-- The buffer's last eight rows are the tile's last eight. -/
theorem last_eight (L : List (View.Piece (Elt Ideal) S520x5632 .f32)) (inb inb') (p : Fin 8) (f : Fin 5632) :
    (View.whole cc0_scratch0).readCov (Val := Elt Ideal) ((⟨Rect.unit ![8, 0] ![512, 5632] inb, up⟩ : View.Piece (Elt Ideal) S520x5632 .f32) :: L)
      (Rect.unit (s := S520x5632) ![512, 0] ![8, 5632] inb').toLoadRect (ix2 p f : S8x5632.Idx) = up (ix2 ⟨504 + p.val, by omega⟩ f) := by
  rw [View.readCov_eq_canon']
  refine canon_hit ((up_emb inb ⟨504 + p.val, by omega⟩ f).trans (funext fun a => Fin.ext ?_))
  match a with
  | ⟨0, _⟩ =>
    refine Eq.trans ?_ (Rect.idx_unit_val (s := S520x5632) ![512, 0] ![8, 5632] inb' (ix2 p f) 0).symm
    show 8 + (504 + p.val) = 512 + p.val
    omega
  | ⟨1, _⟩ => exact ((Rect.idx_unit_val (s := S520x5632) ![512, 0] ![8, 5632] inb' (ix2 p f) 1).trans (Nat.zero_add _)).symm

/-- The buffer's last two rows are the tile's last two. -/
theorem last_two (L : List (View.Piece (Elt Ideal) S520x5632 .f32)) (inb inb') (q : Fin 2) (f : Fin 5632) :
    (View.whole cc0_scratch0).readCov (Val := Elt Ideal) ((⟨Rect.unit ![8, 0] ![512, 5632] inb, up⟩ : View.Piece (Elt Ideal) S520x5632 .f32) :: L)
      (Rect.unit (s := S520x5632) ![518, 0] ![2, 5632] inb').toLoadRect (ix2 q f : S2x5632.Idx) = up (ix2 ⟨510 + q.val, by omega⟩ f) := by
  rw [View.readCov_eq_canon']
  refine canon_hit ((up_emb inb ⟨510 + q.val, by omega⟩ f).trans (funext fun a => Fin.ext ?_))
  match a with
  | ⟨0, _⟩ =>
    refine Eq.trans ?_ (Rect.idx_unit_val (s := S520x5632) ![518, 0] ![2, 5632] inb' (ix2 q f) 0).symm
    show 8 + (510 + q.val) = 518 + q.val
    omega
  | ⟨1, _⟩ => exact ((Rect.idx_unit_val (s := S520x5632) ![518, 0] ![2, 5632] inb' (ix2 q f) 1).trans (Nat.zero_add _)).symm

/-- The buffer of a later tile: the rows carried over on top of the tile's. -/
theorem later_buffer (hw : (Memref.whole cc0_scratch0).IsWhole) (inb) :
    View.read (Elt Ideal) (View.whole cc0_scratch0) ((View.whole cc0_scratch0).writes (Elt Ideal) (hw.unread X)
      [(⟨Rect.unit ![8, 0] ![512, 5632] inb, up⟩ : View.Piece (Elt Ideal) S520x5632 .f32)]) = ext (fun q => X (ix2 ⟨(q 0).val, by have : (q 0).val < 8 := (q 0).isLt; omega⟩ (q 1))) up := by
  funext y
  obtain ⟨p, f, rfl⟩ | ⟨r, f, rfl⟩ := rows_cases y
  · rw [ext_top _ up _ p.isLt f]
    refine Eq.trans (read_miss (top_not_mem inb p f _)) ?_
    exact congrFun (read_unread_whole cc0_scratch0 hw X) _
  · rw [ext_up _ up r f _]
    exact read_hit (up_emb inb r f)

end Buffer

variable (m : (ℓ : Loc nD τ sig) → Buf (Elt Ideal) ℓ)

/-- The up-projected rows of the tile at point `t`. -/
def upRows (c : Dev nD) (t : Fin cfg0.N) : Vec Ideal S512x5632 .f32 := k0_pay5 (iblk m c 0 t) (iblk m c 1 t) (iblk m c 2 t)

/-- The rows carried into the tile at `t`: zeros at a batch's first tile, otherwise what the tile before left on top. -/
def carried (X : Vec Ideal S520x5632 .f32) : Vec Ideal S8x5632 .f32 := fun q => X (ix2 ⟨(q 0).val, by have : (q 0).val < 8 := (q 0).isLt; omega⟩ (q 1))

/-- The printed chunks over the buffer are the tile's formula. -/
theorem eleven_chunks (E : Vec Ideal S520x5632 .f32) (x : Vec Ideal S512x1024 .f32) (cw : Vec Ideal S3x5632 .f32) (cb : Vec Ideal S1x5632 .f32)
    (wd : Vec Ideal S2816x1024 .bf16) (g : Vec Ideal S1x1024 .f32) :
    normed (fun i => x i + ∑ k : Fin 256, share E cw cb wd (i 0) (i 1) ⟨0 + k.val, by omega⟩ + ∑ k : Fin 256, share E cw cb wd (i 0) (i 1) ⟨256 + k.val, by omega⟩ + ∑ k : Fin 256, share E cw cb wd (i 0) (i 1) ⟨512 + k.val, by omega⟩
      + ∑ k : Fin 256, share E cw cb wd (i 0) (i 1) ⟨768 + k.val, by omega⟩ + ∑ k : Fin 256, share E cw cb wd (i 0) (i 1) ⟨1024 + k.val, by omega⟩ + ∑ k : Fin 256, share E cw cb wd (i 0) (i 1) ⟨1280 + k.val, by omega⟩
      + ∑ k : Fin 256, share E cw cb wd (i 0) (i 1) ⟨1536 + k.val, by omega⟩ + ∑ k : Fin 256, share E cw cb wd (i 0) (i 1) ⟨1792 + k.val, by omega⟩ + ∑ k : Fin 256, share E cw cb wd (i 0) (i 1) ⟨2048 + k.val, by omega⟩
      + ∑ k : Fin 256, share E cw cb wd (i 0) (i 1) ⟨2304 + k.val, by omega⟩ + ∑ k : Fin 256, share E cw cb wd (i 0) (i 1) ⟨2560 + k.val, by omega⟩) g = tile E x cw cb wd g :=
  congrArg (fun y => normed y g) (funext fun i => eleven (x i) (share E cw cb wd (i 0) (i 1)))

theorem out7_A (c : Dev nD) (t : Fin cfg0.N) (h0 : t.val % 8 = 0) :
    (outsAt0 m c t.val t.isLt).1 = tile (ext (k0_pay3 (F := Ideal)) (upRows m c t)) (iblk m c 0 t) (iblk m c 3 t) (iblk m c 4 t) (iblk m c 5 t) (iblk m c 6 t) := by
  rw [outsAt0_A m c t h0]
  frame_open
  frame_out
  simp only [upRows, readCov_ld, first_buffer, chunk_0, chunk_1, chunk_2, chunk_3, chunk_4, chunk_5, chunk_6, chunk_7, chunk_8, chunk_9, chunk_10]
  generalize ext _ _ = E
  generalize (iblk m c 0 t : Vec Ideal S512x1024 .f32) = x, (iblk m c 3 t : Vec Ideal S3x5632 .f32) = cw, (iblk m c 4 t : Vec Ideal S1x5632 .f32) = cb,
    (iblk m c 5 t : Vec Ideal S2816x1024 .bf16) = wd, (iblk m c 6 t : Vec Ideal S1x1024 .f32) = g
  rw [chunk_ld _ _ _ _ 0 2816 (by decide) rfl, chunk_ld _ _ _ _ 256 3072 (by decide) rfl, chunk_ld _ _ _ _ 512 3328 (by decide) rfl,
    chunk_ld _ _ _ _ 768 3584 (by decide) rfl, chunk_ld _ _ _ _ 1024 3840 (by decide) rfl, chunk_ld _ _ _ _ 1280 4096 (by decide) rfl,
    chunk_ld _ _ _ _ 1536 4352 (by decide) rfl, chunk_ld _ _ _ _ 1792 4608 (by decide) rfl, chunk_ld _ _ _ _ 2048 4864 (by decide) rfl,
    chunk_ld _ _ _ _ 2304 5120 (by decide) rfl, chunk_ld _ _ _ _ 2560 5376 (by decide) rfl]
  exact eleven_chunks _ _ _ _ _ _

theorem out7_B (c : Dev nD) (t : Fin cfg0.N) (h0 : ¬t.val % 8 = 0) :
    (outsAt0 m c t.val t.isLt).1 = tile (ext (carried (outsAt0 m c (t.val - 1) (lt_of_le_of_lt (Nat.sub_le ..) t.isLt)).2.2) (upRows m c t)) (iblk m c 0 t) (iblk m c 3 t) (iblk m c 4 t) (iblk m c 5 t) (iblk m c 6 t) := by
  rw [outsAt0_B m c t h0]
  frame_open
  frame_out
  simp only [ chunk_0, chunk_1, chunk_2, chunk_3, chunk_4, chunk_5, chunk_6, chunk_7, chunk_8, chunk_9, chunk_10]
  generalize hE : View.read (Elt Ideal) (View.whole cc0_scratch0) _ = E
  have hb : E = ext (carried (outsAt0 m c (t.val - 1) (lt_of_le_of_lt (Nat.sub_le ..) t.isLt)).2.2) (upRows m c t) := hE.symm.trans (later_buffer _ _ _ _)
  rw [← hb]
  clear hb hE
  generalize (iblk m c 0 t : Vec Ideal S512x1024 .f32) = x, (iblk m c 3 t : Vec Ideal S3x5632 .f32) = cw, (iblk m c 4 t : Vec Ideal S1x5632 .f32) = cb,
    (iblk m c 5 t : Vec Ideal S2816x1024 .bf16) = wd, (iblk m c 6 t : Vec Ideal S1x1024 .f32) = g
  rw [chunk_ld _ _ _ _ 0 2816 (by decide) rfl, chunk_ld _ _ _ _ 256 3072 (by decide) rfl, chunk_ld _ _ _ _ 512 3328 (by decide) rfl,
    chunk_ld _ _ _ _ 768 3584 (by decide) rfl, chunk_ld _ _ _ _ 1024 3840 (by decide) rfl, chunk_ld _ _ _ _ 1280 4096 (by decide) rfl,
    chunk_ld _ _ _ _ 1536 4352 (by decide) rfl, chunk_ld _ _ _ _ 1792 4608 (by decide) rfl, chunk_ld _ _ _ _ 2048 4864 (by decide) rfl,
    chunk_ld _ _ _ _ 2304 5120 (by decide) rfl, chunk_ld _ _ _ _ 2560 5376 (by decide) rfl]
  exact eleven_chunks _ _ _ _ _ _

theorem carried_apply (X : Vec Ideal S520x5632 .f32) (p : Fin 8) (f : Fin 5632) : carried X (ix2 p f) = X (ix2 ⟨p.val, by omega⟩ f) := rfl

/-- The rows carried out of a buffer whose top was stored last. -/
theorem carried_stored (w : Vec Ideal S8x5632 .f32) (L : List (View.Piece (Elt Ideal) S520x5632 .f32)) (inb) (p : Fin 8) (f : Fin 5632) :
    carried (View.canon ((⟨Rect.unit ![0, 0] ![8, 5632] inb, w⟩ : View.Piece (Elt Ideal) S520x5632 .f32) :: L)) (ix2 p f) = w (ix2 p f) := by
  rw [carried_apply]
  exact canon_hit (top_emb inb p f)

/-- What a tile leaves on top of the buffer for the next: its own last eight rows. -/
theorem left_rows (c : Dev nD) (t : Fin cfg0.N) (p : Fin 8) (f : Fin 5632) :
    carried (outsAt0 m c t.val t.isLt).2.2 (ix2 p f) = upRows m c t (ix2 ⟨504 + p.val, by omega⟩ f) := by
  by_cases h0 : t.val % 8 = 0
  · rw [outsAt0_A m c t h0]
    frame_open
    frame_out
    rw [carried_stored, pay2_apply]
    exact last_eight _ _ _ _ p f
  · rw [outsAt0_B m c t h0]
    frame_open
    frame_out
    rw [carried_stored, pay2_apply]
    exact last_eight _ _ _ _ p f

/-- The last two rows of the tile, which are what the convolution's state holds after a batch's last tile. -/
theorem out8 (c : Dev nD) (t : Fin cfg0.N) (q : Fin 2) (f : Fin 5632) :
    (outsAt0 m c t.val t.isLt).2.1 (ix3 0 q f) = upRows m c t (ix2 ⟨510 + q.val, by omega⟩ f) := by
  by_cases h0 : t.val % 8 = 0
  · rw [outsAt0_A m c t h0]
    frame_open
    frame_out
    refine Eq.trans (pay1_apply _ q f) ?_
    exact last_two _ _ _ _ q f
  · rw [outsAt0_B m c t h0]
    frame_open
    frame_out
    refine Eq.trans (pay1_apply _ q f) ?_
    exact last_two _ _ _ _ q f

end Cert.FfnIdeal.Rows
end
-- ==== Proof.FfnRef.lean ====
module

public import proofs.«01_k».proof.Proof.Gen.FfnRefIdeal.Run
public import Idealize.ShloMosaic.Lib.Pointwise

/-! The reference's feed-forward part, entry by entry. Its text is cut into the up projection (`up`), the convolution over
the rows padded with two zero rows (`conv`), the gated rows with the skip connection (`resid`) and the final norm. -/

@[expose] public section

set_option maxRecDepth 16384

noncomputable section

namespace Cert.FfnRefIdeal.Rows

open Cert.FfnRefIdeal Cert.FfnRefIdeal.Gen Idealize.ShloMosaic Idealize.ShloMosaic.TcCoe Idealize.SL.Sem

variable (m : (ℓ : Loc nD τ sig) → Buf (Elt Ideal) ℓ)

/-- Rows divided by their root mean square and scaled. -/
def rms (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The up projection, -/
def up (x : FVec Ideal S8x4096x1024 .f32) (g : FVec Ideal S1x1024 .f32) (w : FVec Ideal S1x1024x5632 .f32) : FVec Ideal S8x4096x5632 .f32 :=
  Host.dotGeneral dot_S8x4096x1024_S1024x5632_S8x4096x5632_2_0_01_1_n_n none (rms x (shapeCast S1024 g shapeCasts_S1x1024_S1024)) (shapeCast S1024x5632 w shapeCasts_S1x1024x5632_S1024x5632)

/-- with two rows of zeros in front of each batch, -/
def padded (u : FVec Ideal S8x4096x5632 .f32) : FVec Ideal S8x4098x5632 .f32 :=
  concatenate S8x4098x5632 1 [⟨S8x2x5632, (broadcastInDim S8x2x5632 ![] bcast_S_S8x2x5632 (constant (F := Ideal) S_ .f32 0x00000000#32))⟩, ⟨S8x4096x5632, u⟩] concatenates_S8x2x5632_S8x4096x5632_S8x4098x5632_d1

/-- its convolution over three rows, -/
def conv (e : FVec Ideal S8x4098x5632 .f32) (cw : FVec Ideal S1x3x5632 .f32) (cb : FVec Ideal S1x5632 .f32) : FVec Ideal S8x4096x5632 .f32 :=
  addf (addf (addf
    (mulf (extractStridedSlice S8x4096x5632 ![0, 0, 0] e slices_S8x4098x5632_S8x4096x5632_0_0_0) (broadcastInDim S8x4096x5632 ![0, 1, 2] bcast_S1x1x5632_S8x4096x5632_0_1_2 (broadcastInDim S1x1x5632 ![2] bcast_S5632_S1x1x5632_2 (shapeCast S5632 (extractStridedSlice S1x1x5632 ![0, 0, 0] cw slices_S1x3x5632_S1x1x5632_0_0_0) shapeCasts_S1x1x5632_S5632))))
    (mulf (extractStridedSlice S8x4096x5632 ![0, 1, 0] e slices_S8x4098x5632_S8x4096x5632_0_1_0) (broadcastInDim S8x4096x5632 ![0, 1, 2] bcast_S1x1x5632_S8x4096x5632_0_1_2 (broadcastInDim S1x1x5632 ![2] bcast_S5632_S1x1x5632_2 (shapeCast S5632 (extractStridedSlice S1x1x5632 ![0, 1, 0] cw slices_S1x3x5632_S1x1x5632_0_1_0) shapeCasts_S1x1x5632_S5632)))))
    (mulf (extractStridedSlice S8x4096x5632 ![0, 2, 0] e slices_S8x4098x5632_S8x4096x5632_0_2_0) (broadcastInDim S8x4096x5632 ![0, 1, 2] bcast_S1x1x5632_S8x4096x5632_0_1_2 (broadcastInDim S1x1x5632 ![2] bcast_S5632_S1x1x5632_2 (shapeCast S5632 (extractStridedSlice S1x1x5632 ![0, 2, 0] cw slices_S1x3x5632_S1x1x5632_0_2_0) shapeCasts_S1x1x5632_S5632)))))
    (broadcastInDim S8x4096x5632 ![0, 1, 2] bcast_S1x1x5632_S8x4096x5632_0_1_2 (broadcastInDim S1x1x5632 ![2] bcast_S5632_S1x1x5632_2 (shapeCast S5632 cb shapeCasts_S1x5632_S5632)))

/-- the rows with the gated, down-projected convolution added, -/
def resid (x : FVec Ideal S8x4096x1024 .f32) (cv : FVec Ideal S8x4096x5632 .f32) (wd : FVec Ideal S1x2816x1024 .f32) : FVec Ideal S8x4096x1024 .f32 :=
  addf x (Host.dotGeneral dot_S8x4096x2816_S2816x1024_S8x4096x1024_2_0_01_1_n_n none
    (mulf (mulf (extractStridedSlice S8x4096x2816 ![0, 0, 0] cv slices_S8x4096x5632_S8x4096x2816_0_0_0)
        (Host.divf (broadcastInDim S8x4096x2816 ![] bcast_S_S8x4096x2816 (constant S_ .f32 0x3F800000#32))
          (addf (broadcastInDim S8x4096x2816 ![] bcast_S_S8x4096x2816 (constant S_ .f32 0x3F800000#32))
            (Host.exp (Host.negf (extractStridedSlice S8x4096x2816 ![0, 0, 0] cv slices_S8x4096x5632_S8x4096x2816_0_0_0))))))
      (extractStridedSlice S8x4096x2816 ![0, 0, 2816] cv slices_S8x4096x5632_S8x4096x2816_0_0_2816))
    (shapeCast S2816x1024 wd shapeCasts_S1x2816x1024_S2816x1024))

/-- and their final norm. -/
def final (x : FVec Ideal S8x4096x1024 .f32) (g : FVec Ideal S1x1024 .f32) (w : FVec Ideal S1x1024x5632 .f32) (cw : FVec Ideal S1x3x5632 .f32)
    (cb : FVec Ideal S1x5632 .f32) (wd : FVec Ideal S1x2816x1024 .f32) (gf : FVec Ideal S1024 .f32) : FVec Ideal S32768x1024 .f32 :=
  shapeCast S32768x1024 (rms (resid x (conv (padded (up x g w)) cw cb) wd) gf) shapeCasts_S8x4096x1024_S32768x1024

theorem res_eq (c : Dev nD) : Cert.FfnRefIdeal.Value.res_main_v62 m c = final (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.FfnRefIdeal.Value.res_main_v62 final resid conv padded up rms
  rfl

/-! ## Read at an index -/

/-- A row times the reciprocal root of its mean square. -/
def unit (x : Fin 1024 → EReal) (k : Fin 1024) : EReal :=
  x k * Ideal.rsqrt (Ideal.div (∑ j : Fin 1024, x j * x j) (Ideal.ofBits .f32 0x44800000#32) + Ideal.ofBits .f32 0x358637BD#32)

theorem rms_apply (x : FVec Ideal S8x4096x1024 .f32) (g : FVec Ideal S1024 .f32) (b : Fin 8) (s : Fin 4096) (l : Fin 1024) :
    rms x g (ix3 b s l) = unit (fun k => x (ix3 b s k)) l * g (ix1 l) := by
  pointwise [rms, unit]

/-- One entry of the up projection. -/
def upAt (x g w : Fin 1024 → EReal) : EReal := ∑ k : Fin 1024, unit x k * g k * w k

theorem up_apply (x : FVec Ideal S8x4096x1024 .f32) (g : FVec Ideal S1x1024 .f32) (w : FVec Ideal S1x1024x5632 .f32) (b : Fin 8) (s : Fin 4096) (f : Fin 5632) :
    up x g w (ix3 b s f) = upAt (fun k => x (ix3 b s k)) (fun k => g (ix2 0 k)) (fun k => w (ix3 0 k f)) := by
  pointwise [up, rms, upAt, unit]

theorem padded_apply (u : FVec Ideal S8x4096x5632 .f32) (b : Fin 8) (s : Fin 4098) (f : Fin 5632) :
    padded u (ix3 b s f) = if h : s.val < 2 then 0 else u (ix3 b ⟨s.val - 2, by omega⟩ f) := by
  pointwise [padded]

theorem conv_apply (e : FVec Ideal S8x4098x5632 .f32) (cw : FVec Ideal S1x3x5632 .f32) (cb : FVec Ideal S1x5632 .f32) (b : Fin 8) (s : Fin 4096) (f : Fin 5632) :
    conv e cw cb (ix3 b s f) = e (ix3 b ⟨s.val, by omega⟩ f) * cw (ix3 0 0 f) + e (ix3 b ⟨1 + s.val, by omega⟩ f) * cw (ix3 0 1 f)
      + e (ix3 b ⟨2 + s.val, by omega⟩ f) * cw (ix3 0 2 f) + cb (ix2 0 f) := by
  pointwise [conv]

theorem resid_apply (x : FVec Ideal S8x4096x1024 .f32) (cv : FVec Ideal S8x4096x5632 .f32) (wd : FVec Ideal S1x2816x1024 .f32) (b : Fin 8) (s : Fin 4096) (l : Fin 1024) :
    resid x cv wd (ix3 b s l) = x (ix3 b s l) + ∑ f : Fin 2816, cv (ix3 b s ⟨f.val, by omega⟩) * Ideal.logistic (cv (ix3 b s ⟨f.val, by omega⟩))
      * cv (ix3 b s ⟨2816 + f.val, by omega⟩) * wd (ix3 0 f l) := by
  pointwise [resid, Ideal.logistic]

theorem final_apply (x : FVec Ideal S8x4096x1024 .f32) (g : FVec Ideal S1x1024 .f32) (w : FVec Ideal S1x1024x5632 .f32) (cw : FVec Ideal S1x3x5632 .f32)
    (cb : FVec Ideal S1x5632 .f32) (wd : FVec Ideal S1x2816x1024 .f32) (gf : FVec Ideal S1024 .f32) (r : Fin 32768) (l : Fin 1024) :
    final x g w cw cb wd gf (ix2 r l) = unit (fun k => resid x (conv (padded (up x g w)) cw cb) wd (ix3 ⟨r.val / 4096, by omega⟩ ⟨r.val % 4096, by omega⟩ k)) l * gf (ix1 l) := by
  pointwise [final, rms, unit]

end Cert.FfnRefIdeal.Rows
end
-- ==== Proof.FfnValue.lean ====
module

public import proofs.«01_k».proof.Proof.FfnBuf
public import proofs.«01_k».proof.Proof.FfnRef
public import proofs.«01_k».proof.Proof.Scalars

/-! The kernel's feed-forward results are the reference's rows.

A tile's buffer is a window of the padded up projection (`buffer_padded`): the two rows above the tile are the last two
of the tile before, or zeros at the start of a batch. The kernel halves the gate's taps on the host and applies
`h (1 + tanh h)`, which is `g` times the logistic of `g` at `h = g / 2`, at infinities too (`gate`). -/

@[expose] public section

set_option maxRecDepth 16384

noncomputable section

namespace Cert.FfnIdeal.Rows

open Cert.FfnIdeal Cert.FfnIdeal.Gen Idealize.ShloMosaic Idealize.ShloMosaic.TcCoe Idealize.SL.Sem
open Idealize.ShloMosaic.Pipeline (Dat)
open Cert.FfnRefIdeal.Rows (unit upAt padded padded_apply up_apply)

variable (m : (ℓ : Loc nD τ sig) → Buf (Elt Ideal) ℓ)

/-! ## The arguments -/

/-- The seven arguments on a device. -/
abbrev aX (c : Dev nD) : FVec Ideal S8x4096x1024 .f32 := m ((c : Thread nD τ).loc main_arg0)
abbrev aG (c : Dev nD) : FVec Ideal S1x1024 .f32 := m ((c : Thread nD τ).loc main_arg1)
abbrev aW (c : Dev nD) : FVec Ideal S1x1024x5632 .f32 := m ((c : Thread nD τ).loc main_arg2)
abbrev aCw (c : Dev nD) : FVec Ideal S1x3x5632 .f32 := m ((c : Thread nD τ).loc main_arg3)
abbrev aCb (c : Dev nD) : FVec Ideal S1x5632 .f32 := m ((c : Thread nD τ).loc main_arg4)
abbrev aWd (c : Dev nD) : FVec Ideal S1x2816x1024 .f32 := m ((c : Thread nD τ).loc main_arg5)
abbrev aGf (c : Dev nD) : FVec Ideal S1024 .f32 := m ((c : Thread nD τ).loc main_arg6)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val / 8, 0, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val / 8, 0, 0])

theorem t_lt (t : Fin cfg0.N) : t.val < 64 := lt_of_lt_of_eq t.isLt Gen.N_0

/-- The factor of a column of the convolution: a half for the gate's columns. -/
def half (f : Fin 5632) : EReal := if f.val < 2816 then Ideal.ofBits .f32 0x3F000000#32 else Ideal.ofBits .f32 0x3F800000#32

/-! What the host prepares -/

/-- The row of factors the host multiplies the convolution's taps and bias with. -/
def halves : FVec Ideal S5632 .f32 :=
  select (cmpi CmpIPredicate.slt (iotaInDim S5632 32 0) (broadcastInDim S5632 ![] bcast_S_S5632 (constantI S_ 32 2816#32)))
    (broadcastInDim S5632 ![] bcast_S_S5632 (constant S_ .f32 0x3F000000#32)) (broadcastInDim S5632 ![] bcast_S_S5632 (constant S_ .f32 0x3F800000#32))

theorem halves_apply (f : Fin 5632) : halves (ix1 f) = half f := by
  pointwise [halves, half]
  have hs : IntOp.cmpi .slt (BitVec.ofNat 32 f.val) 2816#32 = BitVec.ofBool (decide (f.val < 2816)) :=
    WordCmp.cmpi_slt_ofNat (lt_of_lt_of_le f.isLt (by decide)) (by decide)
  rw [hs]
  by_cases h : f.val < 2816
  · simp [Scalar.select, h]
  · simp [Scalar.select, h]

theorem host_x (c : Dev nD) : V m c main_v12 = (shapeCast S32768x1024 (aX m c) shapeCasts_S8x4096x1024_S32768x1024 : Vec Ideal _ _) := by
  show StableHlo.after [hostOps0, hostOps0_1, hostOps0_2].flatten (fun b => m (c, b)) (Proc.tc.devRef main_v12) = _
  simp only [List.flatten_cons, List.flatten_nil, List.cons_append, List.nil_append, hostOps0, hostOps0_1, hostOps0_2, StableHlo.TRef.unary,
    StableHlo.TRef.ternary, StableHlo.TRef.toBuf, StableHlo.TRef.ofBuf, cast_eq]
  after_results_simp
  rfl

theorem host_g (c : Dev nD) : V m c main_v14 = (shapeCast S1x1024 (shapeCast S1024 (aG m c) shapeCasts_S1x1024_S1024) shapeCasts_S1024_S1x1024 : Vec Ideal _ _) := by
  show StableHlo.after [hostOps0, hostOps0_1, hostOps0_2].flatten (fun b => m (c, b)) (Proc.tc.devRef main_v14) = _
  simp only [List.flatten_cons, List.flatten_nil, List.cons_append, List.nil_append, hostOps0, hostOps0_1, hostOps0_2, StableHlo.TRef.unary,
    StableHlo.TRef.ternary, StableHlo.TRef.toBuf, StableHlo.TRef.ofBuf, cast_eq]
  after_results_simp
  rfl

theorem host_w (c : Dev nD) : V m c main_v16 = (truncf .bf16 (shapeCast S1024x5632 (aW m c) shapeCasts_S1x1024x5632_S1024x5632) bitsLt_bf16_f32 : Vec Ideal _ _) := by
  show StableHlo.after [hostOps0, hostOps0_1, hostOps0_2].flatten (fun b => m (c, b)) (Proc.tc.devRef main_v16) = _
  simp only [List.flatten_cons, List.flatten_nil, List.cons_append, List.nil_append, hostOps0, hostOps0_1, hostOps0_2, StableHlo.TRef.unary,
    StableHlo.TRef.ternary, StableHlo.TRef.toBuf, StableHlo.TRef.ofBuf, cast_eq]
  after_results_simp
  rfl

theorem host_cw (c : Dev nD) : V m c main_v8 = (mulf (shapeCast S3x5632 (aCw m c) shapeCasts_S1x3x5632_S3x5632) (broadcastInDim S3x5632 ![0, 1] bcast_S1x5632_S3x5632_0_1 (broadcastInDim S1x5632 ![1] bcast_S5632_S1x5632_1 halves)) : Vec Ideal _ _) := by
  show StableHlo.after [hostOps0, hostOps0_1, hostOps0_2].flatten (fun b => m (c, b)) (Proc.tc.devRef main_v8) = _
  simp only [List.flatten_cons, List.flatten_nil, List.cons_append, List.nil_append, hostOps0, hostOps0_1, hostOps0_2, StableHlo.TRef.unary,
    StableHlo.TRef.ternary, StableHlo.TRef.toBuf, StableHlo.TRef.ofBuf, cast_eq]
  after_results_simp
  rfl

theorem host_cb (c : Dev nD) : V m c main_v11 = (shapeCast S1x5632 (mulf (shapeCast S5632 (aCb m c) shapeCasts_S1x5632_S5632) halves) shapeCasts_S5632_S1x5632 : Vec Ideal _ _) := by
  show StableHlo.after [hostOps0, hostOps0_1, hostOps0_2].flatten (fun b => m (c, b)) (Proc.tc.devRef main_v11) = _
  simp only [List.flatten_cons, List.flatten_nil, List.cons_append, List.nil_append, hostOps0, hostOps0_1, hostOps0_2, StableHlo.TRef.unary,
    StableHlo.TRef.ternary, StableHlo.TRef.toBuf, StableHlo.TRef.ofBuf, cast_eq]
  after_results_simp
  rfl

theorem host_wd (c : Dev nD) : V m c main_v18 = (truncf .bf16 (shapeCast S2816x1024 (aWd m c) shapeCasts_S1x2816x1024_S2816x1024) bitsLt_bf16_f32 : Vec Ideal _ _) := by
  show StableHlo.after [hostOps0, hostOps0_1, hostOps0_2].flatten (fun b => m (c, b)) (Proc.tc.devRef main_v18) = _
  simp only [List.flatten_cons, List.flatten_nil, List.cons_append, List.nil_append, hostOps0, hostOps0_1, hostOps0_2, StableHlo.TRef.unary,
    StableHlo.TRef.ternary, StableHlo.TRef.toBuf, StableHlo.TRef.ofBuf, cast_eq]
  after_results_simp
  rfl

theorem host_gf (c : Dev nD) : V m c main_v19 = (shapeCast S1x1024 (aGf m c) shapeCasts_S1024_S1x1024 : Vec Ideal _ _) := by
  show StableHlo.after [hostOps0, hostOps0_1, hostOps0_2].flatten (fun b => m (c, b)) (Proc.tc.devRef main_v19) = _
  simp only [List.flatten_cons, List.flatten_nil, List.cons_append, List.nil_append, hostOps0, hostOps0_1, hostOps0_2, StableHlo.TRef.unary,
    StableHlo.TRef.ternary, StableHlo.TRef.toBuf, StableHlo.TRef.ofBuf, cast_eq]
  after_results_simp
  rfl

theorem place0 (c : Dev nD) (t : Fin cfg0.N) (r : Fin 512) (k : Fin 1024) :
    (iblk m c 0 t : S512x1024.Idx → EReal) (ix2 r k) = (V m c main_v12 : _) (ix2 (⟨t.val * 512 + r.val, by have := t_lt t; omega⟩ : Fin 32768) k) := by
  have h := t_lt t
  blk_ext [iblk, (idx t).1]

theorem blk0 (c : Dev nD) (t : Fin cfg0.N) (r : Fin 512) (k : Fin 1024) :
    (iblk m c 0 t : S512x1024.Idx → EReal) (ix2 r k) = aX m c (ix3 ⟨t.val / 8, by have := t_lt t; omega⟩ ⟨t.val % 8 * 512 + r.val, by omega⟩ k) := by
  rw [place0, host_x]
  have h := t_lt t
  pointwise
  refine congrArg (aX m c) ?_
  refine congrArg₂ (fun a b => ix3 a b k) (Fin.ext ?_) (Fin.ext ?_)
  · show (t.val * 512 + r.val) / 4096 = t.val / 8
    omega
  · show (t.val * 512 + r.val) % 4096 = t.val % 8 * 512 + r.val
    omega

theorem place1 (c : Dev nD) (t : Fin cfg0.N) (k : Fin 1024) :
    (iblk m c 1 t : S1x1024.Idx → EReal) (ix2 0 k) = (V m c main_v14 : _) (ix2 0 k) := by
  have h := t_lt t
  blk_ext [iblk, (idx t).2.1]

theorem blk1 (c : Dev nD) (t : Fin cfg0.N) (k : Fin 1024) :
    (iblk m c 1 t : S1x1024.Idx → EReal) (ix2 0 k) = aG m c (ix2 0 k) := by
  rw [place1, host_g]
  pointwise

theorem place2 (c : Dev nD) (t : Fin cfg0.N) (k : Fin 1024) (f : Fin 5632) :
    (iblk m c 2 t : S1024x5632.Idx → EReal) (ix2 k f) = (V m c main_v16 : _) (ix2 k f) := by
  have h := t_lt t
  blk_ext [iblk, (idx t).2.2.1]

theorem blk2 (c : Dev nD) (t : Fin cfg0.N) (k : Fin 1024) (f : Fin 5632) :
    (iblk m c 2 t : S1024x5632.Idx → EReal) (ix2 k f) = aW m c (ix3 0 k f) := by
  rw [place2, host_w]
  pointwise

theorem place3 (c : Dev nD) (t : Fin cfg0.N) (q : Fin 3) (f : Fin 5632) :
    (iblk m c 3 t : S3x5632.Idx → EReal) (ix2 q f) = (V m c main_v8 : _) (ix2 q f) := by
  have h := t_lt t
  blk_ext [iblk, (idx t).2.2.2.1]

theorem blk3 (c : Dev nD) (t : Fin cfg0.N) (q : Fin 3) (f : Fin 5632) :
    (iblk m c 3 t : S3x5632.Idx → EReal) (ix2 q f) = aCw m c (ix3 0 q f) * half f := by
  rw [place3, host_cw, ← halves_apply]
  generalize halves = hv
  pointwise

theorem place4 (c : Dev nD) (t : Fin cfg0.N) (f : Fin 5632) :
    (iblk m c 4 t : S1x5632.Idx → EReal) (ix2 0 f) = (V m c main_v11 : _) (ix2 0 f) := by
  have h := t_lt t
  blk_ext [iblk, (idx t).2.2.2.2.1]

theorem blk4 (c : Dev nD) (t : Fin cfg0.N) (f : Fin 5632) :
    (iblk m c 4 t : S1x5632.Idx → EReal) (ix2 0 f) = aCb m c (ix2 0 f) * half f := by
  rw [place4, host_cb, ← halves_apply]
  generalize halves = hv
  pointwise

theorem place5 (c : Dev nD) (t : Fin cfg0.N) (f : Fin 2816) (l : Fin 1024) :
    (iblk m c 5 t : S2816x1024.Idx → EReal) (ix2 f l) = (V m c main_v18 : _) (ix2 f l) := by
  have h := t_lt t
  blk_ext [iblk, (idx t).2.2.2.2.2.1]

theorem blk5 (c : Dev nD) (t : Fin cfg0.N) (f : Fin 2816) (l : Fin 1024) :
    (iblk m c 5 t : S2816x1024.Idx → EReal) (ix2 f l) = aWd m c (ix3 0 f l) := by
  rw [place5, host_wd]
  pointwise

theorem place6 (c : Dev nD) (t : Fin cfg0.N) (l : Fin 1024) :
    (iblk m c 6 t : S1x1024.Idx → EReal) (ix2 0 l) = (V m c main_v19 : _) (ix2 0 l) := by
  have h := t_lt t
  blk_ext [iblk, (idx t).2.2.2.2.2.2.1]

theorem blk6 (c : Dev nD) (t : Fin cfg0.N) (l : Fin 1024) :
    (iblk m c 6 t : S1x1024.Idx → EReal) (ix2 0 l) = aGf m c (ix1 l) := by
  rw [place6, host_gf]
  pointwise

/-! ## The buffer is a window of the padded up projection -/

/-- The reference's up projection of the arguments, with its two rows of zeros. -/
def pad (c : Dev nD) : FVec Ideal Cert.FfnRefIdeal.S8x4098x5632 .f32 := padded (Cert.FfnRefIdeal.Rows.up (aX m c) (aG m c) (aW m c))

theorem pay5_apply (x : Vec Ideal S512x1024 .f32) (g : Vec Ideal S1x1024 .f32) (w : Vec Ideal S1024x5632 .bf16) (r : Fin 512) (f : Fin 5632) :
    k0_pay5 x g w (ix2 r f) = upAt (fun k => x (ix2 r k)) (fun k => g (ix2 0 k)) (fun k => w (ix2 k f)) := by
  pointwise [k0_pay5, k0_pay4, upAt, unit]

theorem upRows_apply (c : Dev nD) (t : Fin cfg0.N) (r : Fin 512) (f : Fin 5632) :
    upRows m c t (ix2 r f) = pad m c (ix3 ⟨t.val / 8, by have := t_lt t; omega⟩ ⟨t.val % 8 * 512 + r.val + 2, by omega⟩ f) := by
  unfold upRows pad
  rw [pay5_apply, padded_apply, dif_neg (by show ¬ t.val % 8 * 512 + r.val + 2 < 2; omega), up_apply]
  simp only [blk0, blk1, blk2]
  rfl

theorem zeros_apply (p : Fin 8) (f : Fin 5632) : k0_pay3 (F := Ideal) (ix2 p f) = 0 := by
  pointwise [k0_pay3]

/-- The buffer of the tile at `t`. -/
def buffer (c : Dev nD) (t : Fin cfg0.N) : Vec Ideal S520x5632 .f32 :=
  if t.val % 8 = 0 then ext (k0_pay3 (F := Ideal)) (upRows m c t)
  else ext (carried (outsAt0 m c (t.val - 1) (lt_of_le_of_lt (Nat.sub_le ..) t.isLt)).2.2) (upRows m c t)

theorem out7 (c : Dev nD) (t : Fin cfg0.N) :
    (outsAt0 m c t.val t.isLt).1 = tile (buffer m c t) (iblk m c 0 t) (iblk m c 3 t) (iblk m c 4 t) (iblk m c 5 t) (iblk m c 6 t) := by
  unfold buffer
  by_cases h0 : t.val % 8 = 0
  · rw [if_pos h0]
    exact out7_A m c t h0
  · rw [if_neg h0]
    exact out7_B m c t h0

theorem buffer_padded (c : Dev nD) (t : Fin cfg0.N) (q : Fin 514) (f : Fin 5632) :
    buffer m c t (ix2 ⟨6 + q.val, by omega⟩ f) = pad m c (ix3 ⟨t.val / 8, by have := t_lt t; omega⟩ ⟨t.val % 8 * 512 + q.val, by omega⟩ f) := by
  have ht := t_lt t
  by_cases hq : q.val < 2
  · by_cases h0 : t.val % 8 = 0
    · rw [buffer, if_pos h0]
      refine (ext_top _ _ _ (by show 6 + q.val < 8; omega) f).trans ((zeros_apply _ f).trans ?_)
      unfold pad
      rw [padded_apply, dif_pos (by show t.val % 8 * 512 + q.val < 2; omega)]
    · rw [buffer, if_neg h0]
      refine (ext_top _ _ _ (by show 6 + q.val < 8; omega) f).trans ?_
      refine (left_rows m c ⟨t.val - 1, lt_of_le_of_lt (Nat.sub_le ..) t.isLt⟩ ⟨6 + q.val, by omega⟩ f).trans ?_
      refine (upRows_apply m c _ _ f).trans (congrArg (pad m c) (congrArg₂ (fun a b => ix3 a b f) (Fin.ext ?_) (Fin.ext ?_)))
      · show (t.val - 1) / 8 = t.val / 8
        omega
      · show (t.val - 1) % 8 * 512 + (504 + (6 + q.val)) + 2 = t.val % 8 * 512 + q.val
        omega
  · have hb : buffer m c t (ix2 ⟨6 + q.val, by omega⟩ f) = upRows m c t (ix2 ⟨q.val - 2, by omega⟩ f) := by
      have e : (ix2 ⟨6 + q.val, by omega⟩ f : S520x5632.Idx) = ix2 ⟨8 + (⟨q.val - 2, by omega⟩ : Fin 512).val, by show 8 + (q.val - 2) < 520; omega⟩ f :=
        congrArg (fun a => ix2 a f) (Fin.ext (by show 6 + q.val = 8 + (q.val - 2); omega))
      rw [e]
      unfold buffer
      by_cases h0 : t.val % 8 = 0
      · rw [if_pos h0]
        exact ext_up _ _ _ _ _
      · rw [if_neg h0]
        exact ext_up _ _ _ _ _
    refine hb.trans ((upRows_apply m c t _ f).trans (congrArg (pad m c) (congrArg (fun b => ix3 _ b f) (Fin.ext ?_))))
    show t.val % 8 * 512 + (q.val - 2) + 2 = t.val % 8 * 512 + q.val
    omega

/-! ## The gate -/

theorem half_gate (f : Fin 5632) (h : f.val < 2816) : half f = ((1 / 2 : ℝ) : EReal) := (if_pos h).trans Scalars.half_bits

theorem half_value (f : Fin 5632) (h : ¬f.val < 2816) : half f = 1 := (if_neg h).trans Scalars.one_bits

theorem half_nonneg (f : Fin 5632) : 0 ≤ half f := by
  by_cases h : f.val < 2816
  · rw [half_gate f h]
    exact_mod_cast (by norm_num : (0 : ℝ) ≤ 1 / 2)
  · rw [half_value f h]
    exact zero_le_one

theorem half_ne_top (f : Fin 5632) : half f ≠ ⊤ := by
  by_cases h : f.val < 2816
  · rw [half_gate f h]
    exact EReal.coe_ne_top _
  · rw [half_value f h]
    exact EReal.coe_ne_top 1

/-- A tile's taps are the reference's convolution, the gate's halved. -/
theorem taps_conv (c : Dev nD) (t : Fin cfg0.N) (r : Fin 512) (f : Fin 5632) :
    taps (buffer m c t) (iblk m c 3 t) (iblk m c 4 t) r f
      = Cert.FfnRefIdeal.Rows.conv (pad m c) (aCw m c) (aCb m c) (ix3 ⟨t.val / 8, by have := t_lt t; omega⟩ ⟨t.val % 8 * 512 + r.val, by omega⟩ f) * half f := by
  have d (x y : EReal) : (x + y) * half f = x * half f + y * half f := EReal.right_distrib_of_nonneg_of_ne_top (half_nonneg f) (half_ne_top f) x y
  rw [Cert.FfnRefIdeal.Rows.conv_apply, d, d, d]
  unfold taps
  rw [blk3, blk3, blk3, blk4]
  refine congrArg₂ (· + ·) (congrArg₂ (· + ·) (congrArg₂ (· + ·) ?_ ?_) ?_) rfl
  · rw [mul_assoc]
    exact congrArg (· * _) (buffer_padded m c t ⟨r.val, by omega⟩ f)
  · rw [mul_assoc]
    refine congrArg (· * _) (Eq.trans (congrArg (fun a => buffer m c t (ix2 a f)) (Fin.ext ?_)) ((buffer_padded m c t ⟨1 + r.val, by omega⟩ f).trans (congrArg (fun a => pad m c (ix3 _ a f)) (Fin.ext ?_))))
    · show 7 + r.val = 6 + (1 + r.val)
      omega
    · show t.val % 8 * 512 + (1 + r.val) = 1 + (t.val % 8 * 512 + r.val)
      omega
  · rw [mul_assoc]
    refine congrArg (· * _) (Eq.trans (congrArg (fun a => buffer m c t (ix2 a f)) (Fin.ext ?_)) ((buffer_padded m c t ⟨2 + r.val, by omega⟩ f).trans (congrArg (fun a => pad m c (ix3 _ a f)) (Fin.ext ?_))))
    · show 8 + r.val = 6 + (2 + r.val)
      omega
    · show t.val % 8 * 512 + (2 + r.val) = 2 + (t.val % 8 * 512 + r.val)
      omega

/-- What a gate column adds, as the reference has it. -/
theorem share_eq (c : Dev nD) (t : Fin cfg0.N) (r : Fin 512) (l : Fin 1024) (f : Fin 2816) (cv : Fin 5632 → EReal)
    (hcv : ∀ f, cv f = Cert.FfnRefIdeal.Rows.conv (pad m c) (aCw m c) (aCb m c) (ix3 ⟨t.val / 8, by have := t_lt t; omega⟩ ⟨t.val % 8 * 512 + r.val, by omega⟩ f)) :
    share (buffer m c t) (iblk m c 3 t) (iblk m c 4 t) (iblk m c 5 t) r l f
      = cv ⟨f.val, by omega⟩ * Ideal.logistic (cv ⟨f.val, by omega⟩) * cv ⟨2816 + f.val, by omega⟩ * aWd m c (ix3 0 f l) := by
  unfold share
  rw [taps_conv, taps_conv, ← hcv, ← hcv, half_gate _ f.isLt, half_value _ (by show ¬2816 + f.val < 2816; omega), mul_one, Scalars.silu_eq, blk5]

/-- The entry of row `r` of the tile at `t`, as the reference has it. -/
theorem tile_final (c : Dev nD) (t : Fin cfg0.N) (r : Fin 512) (l : Fin 1024) :
    (outsAt0 m c t.val t.isLt).1 (ix2 r l) = Cert.FfnRefIdeal.Rows.final (aX m c) (aG m c) (aW m c) (aCw m c) (aCb m c) (aWd m c) (aGf m c)
      (ix2 ⟨t.val * 512 + r.val, by have := t_lt t; omega⟩ l) := by
  have ht := t_lt t
  rw [out7, Cert.FfnRefIdeal.Rows.final_apply]
  have hrow (k : Fin 1024) : (show EReal from (iblk m c 0 t : S512x1024.Idx → EReal) (ix2 r k)) + ∑ f : Fin 2816, share (buffer m c t) (iblk m c 3 t) (iblk m c 4 t) (iblk m c 5 t) r k f
      = Cert.FfnRefIdeal.Rows.resid (aX m c) (Cert.FfnRefIdeal.Rows.conv (pad m c) (aCw m c) (aCb m c)) (aWd m c)
        (ix3 ⟨(t.val * 512 + r.val) / 4096, by omega⟩ ⟨(t.val * 512 + r.val) % 4096, by omega⟩ k) := by
    have e1 : (⟨(t.val * 512 + r.val) / 4096, by omega⟩ : Fin 8) = ⟨t.val / 8, by omega⟩ := Fin.ext (by show (t.val * 512 + r.val) / 4096 = t.val / 8; omega)
    have e2 : (⟨(t.val * 512 + r.val) % 4096, by omega⟩ : Fin 4096) = ⟨t.val % 8 * 512 + r.val, by omega⟩ :=
      Fin.ext (by show (t.val * 512 + r.val) % 4096 = t.val % 8 * 512 + r.val; omega)
    rw [e1, e2, Cert.FfnRefIdeal.Rows.resid_apply, blk0]
    exact congrArg _ (Finset.sum_congr rfl fun f _ => share_eq m c t r k f _ fun _ => rfl)
  show normed _ _ (ix2 r l) = _
  unfold normed unit
  exact congrArg₂ (· * ·) (congrArg₂ (fun a b => a * Ideal.rsqrt (Ideal.div b _ + _)) (hrow l) (Finset.sum_congr rfl fun j _ => congrArg₂ (· * ·) (hrow j) (hrow j))) (blk6 m c t l)

/-! ## The two result arrays -/

theorem arr7 (c : Dev nD) : (dats m 0 c).arrAt 7 cfg0.N = Cert.FfnRefIdeal.Rows.final (aX m c) (aG m c) (aW m c) (aCw m c) (aCb m c) (aWd m c) (aGf m c) := by
  refine (dats m 0 c).arrAt_eq_of_covers 7 _ (by decide +kernel) fun t hf y => ?_
  blk_simp
  rw [after0_7]
  refine (congrArg (outsAt0 m c t.val t.isLt).1 (eq_ix2 y)).trans ((tile_final m c t (y 0) (y 1)).trans (congrArg _ (funext fun a => Fin.ext ?_)))
  match a with
  | ⟨0, _⟩ => blk_simp [(idx t).2.2.2.2.2.2.2.1]; rfl
  | ⟨1, _⟩ => blk_simp [(idx t).2.2.2.2.2.2.2.1]; rfl

theorem arr8 (c : Dev nD) : (dats m 0 c).arrAt 8 cfg0.N = fun i : S8x2x5632.Idx => pad m c (ix3 (i 0) ⟨4096 + (i 1).val, by have : (i 1).val < 2 := (i 1).isLt; omega⟩ (i 2)) := by
  refine (dats m 0 c).arrAt_eq_of_covers 8 _ (by decide +kernel) fun t hf y => ?_
  blk_simp
  rw [after0_8]
  have ht := t_lt t
  have hf' : t.val % 8 = 7 := (by decide +kernel : ∀ t : Fin grid0.N, (cfg0.win 8).flush t = true → t.val % 8 = 7) t hf
  have h0 : (y 0).val < 1 := (y 0).isLt
  have h1 : (y 1).val < 2 := (y 1).isLt
  have hy : (y : S1x2x5632.Idx) = ix3 0 (y 1) (y 2) := (eq_ix3 y).trans (congrArg (fun a => ix3 a (y 1) (y 2)) (Fin.ext (show (y 0).val = 0 by omega)))
  refine (congrArg (outsAt0 m c t.val t.isLt).2.1 hy).trans ((out8 m c t (y 1) (y 2)).trans ((upRows_apply m c t _ (y 2)).trans (congrArg (pad m c) ?_)))
  refine funext fun a => Fin.ext ?_
  match a with
  | ⟨0, _⟩ =>
    blk_simp [(idx t).2.2.2.2.2.2.2.2]
  | ⟨1, _⟩ =>
    blk_simp [(idx t).2.2.2.2.2.2.2.2]
    show t.val % 8 * 512 + (510 + (y 1).val) + 2 = 4096 + (y 1).val
    omega
  | ⟨2, _⟩ =>
    blk_simp [(idx t).2.2.2.2.2.2.2.2]

end Cert.FfnIdeal.Rows
end
-- ==== Proof.FfnClaim.lean ====
module

public import proofs.«01_k».proof.Defs
public import proofs.«01_k».proof.Proof.Gen.Ffn.Frame
public import proofs.«01_k».proof.Proof.FfnValue
public import Idealize.ShloMosaic.Lib.Quiescent

/-! The feed-forward part's claims: the kernel's rows and convolution state are the reference's. -/

@[expose] public section

set_option maxRecDepth 16384

noncomputable section

namespace Cert.FfnRefIdeal.Rows

open Cert.FfnRefIdeal Cert.FfnRefIdeal.Gen Idealize.ShloMosaic Idealize.ShloMosaic.TcCoe Idealize.SL.Sem

/-- The last two rows of each batch, read at an index. -/
theorem state_apply (e : FVec Ideal S8x4098x5632 .f32) (i : S8x2x5632.Idx) :
    extractStridedSlice S8x2x5632 ![0, 4096, 0] e slices_S8x4098x5632_S8x2x5632_0_4096_0 i
      = e (ix3 (i 0) ⟨4096 + (i 1).val, by have : (i 1).val < 2 := (i 1).isLt; omega⟩ (i 2)) := by
  obtain ⟨b, q, f, rfl⟩ : ∃ (b : Fin 8) (q : Fin 2) (f : Fin 5632), i = ix3 b q f := ⟨_, _, _, eq_ix3 i⟩
  pointwise

end Cert.FfnRefIdeal.Rows

namespace Cert.FfnIdeal.Rows

open Idealize.ShloMosaic Idealize.ShloMosaic.TcCoe Idealize.SL.Sem

theorem frame_reference : Cert.quiescent_FfnRefIdeal := fun m ρ _ =>
  (θ_run (Cert.FfnRefIdeal.defs (F := Ideal)) _ _).mono (fun r h => ⟨fun c => (h c).2.2, sem_eq_zero_of_no_sems (by decide) r.2⟩) (Cert.FfnRefIdeal.Value.run (F := Ideal) m ρ)

theorem algebraic : Cert.algebraic_FfnIdeal_FfnRefIdeal := by
  intro m g m' g' _ hagree
  refine ⟨_, _, Cert.FfnIdeal.Value.run_blocks m g, (θ_run (Cert.FfnRefIdeal.defs (F := Ideal)) _ _).mono (fun r h c => ?_) (Cert.FfnRefIdeal.Value.run (F := Ideal) m' g')⟩
  obtain ⟨h1, h2, ha⟩ := h c
  obtain ⟨e0, e1, e2, e3, e4, e5, e6⟩ := hagree c
  refine ⟨h1.trans ?_, h2.trans ?_, ha⟩
  · rw [Cert.FfnRefIdeal.Rows.res_eq, e0, e1, e2, e3, e4, e5, e6]
    exact (arr7 m c).symm
  · refine (funext fun i => ?_ : _ = _).trans (arr8 m c).symm
    rw [e0, e1, e2]
    exact Cert.FfnRefIdeal.Rows.state_apply _ i

end Cert.FfnIdeal.Rows
end
-- ==== Proof.lean ====
/- The claims about the mixing call, the input projection and the feed-forward call: frames from the runs, values from
   the modules under Proof/. -/
module

public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InRefIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.MixFrame
public import proofs.«01_k».proof.Proof.PrintedFrame
public import proofs.«01_k».proof.Proof.MixClaim
public import proofs.«01_k».proof.Proof.InClaim
public import proofs.«01_k».proof.Proof.FfnClaim

@[expose] public section

noncomputable section

namespace Cert.Proof

open Idealize.ShloMosaic Idealize.SL.Sem

theorem claim : Cert.Claim :=
  ⟨Cert.Mix.Gen.facts, Cert.MixIdeal.Gen.facts, Cert.MixRefIdeal.Gen.facts,
   Cert.In.Gen.facts, Cert.InIdeal.Gen.facts, Cert.InRefIdeal.Gen.facts,
   Cert.Ffn.Gen.facts, Cert.FfnIdeal.Gen.facts, Cert.FfnRefIdeal.Gen.facts,
   Cert.MixIdeal.Rows.finiteFacts,
   fun m ρ _ => Cert.Mix.Gen.frame m ρ,
   fun m ρ _ => Cert.MixIdeal.Gen.frame m ρ,
   fun m ρ _ => Cert.MixIdeal.Gen.frame m ρ,
   Cert.MixIdeal.Rows.frame_reference,
   fun m ρ _ => Cert.MixIdeal.Rows.frame_reference m ρ trivial,
   fun m ρ _ => Cert.In.Gen.frame m ρ,
   fun m ρ _ => Cert.InIdeal.Gen.frame m ρ,
   Cert.InIdeal.Rows.frame_reference,
   fun m ρ _ => Cert.Ffn.Gen.frame m ρ,
   fun m ρ _ => Cert.FfnIdeal.Gen.frame m ρ,
   Cert.FfnIdeal.Rows.frame_reference,
   Cert.MixIdeal.Rows.named,
   Cert.MixIdeal.Rows.algebraic,
   trivial,
   Cert.InIdeal.Rows.algebraic,
   trivial,
   Cert.FfnIdeal.Rows.algebraic⟩

end Cert.Proof

end
